-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_fits_unmasked [hPre_fits_unmasked : Cert.Pre_fits_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_fits_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_unmasked [hPre_fits_unmasked : Cert.Pre_fits_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SelectIdeal (m : (ℓ : Loc Cert.SelectIdeal.nD Cert.SelectIdeal.τ Cert.SelectIdeal.sig) → Buf (Elt Ideal) ℓ) : Prop :=
  True

def Pre_SelectIdeal_descending [hPre_descending : Cert.Pre_descending.Facts] (m : (ℓ : Loc Cert.SelectIdeal.nD Cert.SelectIdeal.τ Cert.SelectIdeal.sig) → Buf (Elt Ideal) ℓ) : Prop :=
  ∀ c : Dev Cert.SelectIdeal.nD,
    (Cert.Pre_descending.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_descending [hPre_descending : Cert.Pre_descending.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_descending.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fits_unmasked [hKernelIdeal : Cert.KernelIdeal.Facts] [hPre_fits_unmasked : Cert.Pre_fits_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_unmasked m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_unmasked [hReferenceIdeal : Cert.ReferenceIdeal.Facts] [hPre_fits_unmasked : Cert.Pre_fits_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_descending [hSelectIdeal : Cert.SelectIdeal.Facts] [hPre_descending : Cert.Pre_descending.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_descending m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_SelectReferenceIdeal_pre_descending [hSelectReferenceIdeal : Cert.SelectReferenceIdeal.Facts] [hPre_descending : Cert.Pre_descending.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_descending m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def preserves_Kernel_KernelIdeal : Prop :=
  True

def algebraic_KernelIdeal_ReferenceIdeal_pre_fits_unmasked [hKernelIdeal : Cert.KernelIdeal.Facts] [hReferenceIdeal : Cert.ReferenceIdeal.Facts] [hPre_fits_unmasked : Cert.Pre_fits_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_values)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_values) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_SelectIdeal_SelectReferenceIdeal_pre_descending [hSelectIdeal : Cert.SelectIdeal.Facts] [hSelectReferenceIdeal : Cert.SelectReferenceIdeal.Facts] [hPre_descending : Cert.Pre_descending.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_descending m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v10_0)) (v1 : (c : Dev Cert.SelectIdeal.nD) → Buf (Elt Ideal) ((c.tc : Thread Cert.SelectIdeal.nD Cert.SelectIdeal.τ).loc Cert.SelectIdeal.main_v11)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v10_0) = v0 c
          ∧ r.2.mem ((c.tc : Thread Cert.SelectIdeal.nD Cert.SelectIdeal.τ).loc Cert.SelectIdeal.main_v11) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v28) = v0 c
          ∧ r.2.mem ((c.tc : Thread Cert.SelectReferenceIdeal.nD Cert.SelectReferenceIdeal.τ).loc Cert.SelectReferenceIdeal.main_values) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1))

def Claim : Prop :=
  ∃ (hKernel : Cert.Kernel.Facts) (hKernelIdeal : Cert.KernelIdeal.Facts) (hReferenceIdeal : Cert.ReferenceIdeal.Facts) (hSelectIdeal : Cert.SelectIdeal.Facts) (hSelectReferenceIdeal : Cert.SelectReferenceIdeal.Facts) (hPre_fits : Cert.Pre_fits.Facts) (hPre_fits_unmasked : Cert.Pre_fits_unmasked.Facts) (hPre_descending : Cert.Pre_descending.Facts),
    quiescent_Kernel (hKernel := hKernel) (hPre_fits := hPre_fits)
    ∧ quiescent_KernelIdeal (hKernelIdeal := hKernelIdeal) (hPre_fits := hPre_fits)
    ∧ quiescent_KernelIdeal_pre_fits_unmasked (hKernelIdeal := hKernelIdeal) (hPre_fits_unmasked := hPre_fits_unmasked)
    ∧ quiescent_ReferenceIdeal (hReferenceIdeal := hReferenceIdeal)
    ∧ quiescent_ReferenceIdeal_pre_fits_unmasked (hReferenceIdeal := hReferenceIdeal) (hPre_fits_unmasked := hPre_fits_unmasked)
    ∧ quiescent_SelectIdeal (hSelectIdeal := hSelectIdeal)
    ∧ quiescent_SelectIdeal_pre_descending (hSelectIdeal := hSelectIdeal) (hPre_descending := hPre_descending)
    ∧ quiescent_SelectReferenceIdeal (hSelectReferenceIdeal := hSelectReferenceIdeal)
    ∧ quiescent_SelectReferenceIdeal_pre_descending (hSelectReferenceIdeal := hSelectReferenceIdeal) (hPre_descending := hPre_descending)
    ∧ preserves_Kernel_KernelIdeal
    ∧ algebraic_KernelIdeal_ReferenceIdeal_pre_fits_unmasked (hKernelIdeal := hKernelIdeal) (hReferenceIdeal := hReferenceIdeal) (hPre_fits_unmasked := hPre_fits_unmasked)
    ∧ algebraic_SelectIdeal_SelectReferenceIdeal_pre_descending (hSelectIdeal := hSelectIdeal) (hSelectReferenceIdeal := hSelectReferenceIdeal) (hPre_descending := hPre_descending)
-- ==== Pre_descending.lean ====
abbrev S4x2048 : Shape := ⟨2, ![4, 2048]⟩
abbrev S4x2047 : Shape := ⟨2, ![4, 2047]⟩
abbrev S_ : Shape := ⟨0, ![]⟩

class Facts : Prop where
  slices_S4x2048_S4x2047_0_0 : S4x2048.Slices ![0, 0] S4x2047
  slices_S4x2048_S4x2047_0_1 : S4x2048.Slices ![0, 1] S4x2047
  reducesTo_S4x2047_S_d0_1 : S4x2047.ReducesTo [0, 1] S_
  h_S_ : 0 < S_.numel

variable [Facts]

def fn {F : FTy → Type} [FloatOps F] (main_arg0 : FVec F S4x2048 .f32) (main_arg1 : IVec S4x2048 32) : IVec S_ 1 :=
  let main_v0 : FVec F S4x2047 .f32 := (extractStridedSlice S4x2047 ![0, 0] · slices_S4x2048_S4x2047_0_0) main_arg0
  let main_v1 : FVec F S4x2047 .f32 := (extractStridedSlice S4x2047 ![0, 1] · slices_S4x2048_S4x2047_0_1) main_arg0
  let main_v2 : IVec S4x2047 1 := cmpf .oge main_v0 main_v1
  let main_c : IVec S_ 1 := constantI S_ 1 1#1
  let main_v3 : IVec S_ 1 := (fun x v => Host.reduce IntOp.andi x v reducesTo_S4x2047_S_d0_1 h_S_) main_v2 main_c
  main_v3
-- ==== Pre_fits.lean ====
abbrev S4x1x1024x2048 : Shape := ⟨4, ![4, 1, 1024, 2048]⟩
abbrev S4x8x262144x1 : Shape := ⟨4, ![4, 8, 262144, 1]⟩
abbrev S_ : Shape := ⟨0, ![]⟩
abbrev S1x1x1x257 : Shape := ⟨4, ![1, 1, 1, 257]⟩
abbrev S4x8x262144x257 : Shape := ⟨4, ![4, 8, 262144, 257]⟩
abbrev S4x8x257 : Shape := ⟨3, ![4, 8, 257]⟩
abbrev S4x8x256 : Shape := ⟨3, ![4, 8, 256]⟩

class Facts : Prop where
  shapeCasts_S4x1x1024x2048_S4x8x262144x1 : S4x1x1024x2048.ShapeCasts S4x8x262144x1
  bcast_S_S4x8x262144x1 : S_.BroadcastsInDim S4x8x262144x1 (![] : Fin 0 → Fin S4x8x262144x1.rank)
  bcast_S_S1x1x1x257 : S_.BroadcastsInDim S1x1x1x257 (![] : Fin 0 → Fin S1x1x1x257.rank)
  bcast_S4x8x262144x1_S4x8x262144x257_0_1_2_3 : S4x8x262144x1.BroadcastsInDim S4x8x262144x257 (![0, 1, 2, 3] : Fin 4 → Fin S4x8x262144x257.rank)
  bcast_S1x1x1x257_S4x8x262144x257_0_1_2_3 : S1x1x1x257.BroadcastsInDim S4x8x262144x257 (![0, 1, 2, 3] : Fin 4 → Fin S4x8x262144x257.rank)
  natLt_1_32 : 1 < 32
  reducesTo_S4x8x262144x257_S4x8x257_d2 : S4x8x262144x257.ReducesTo [2] S4x8x257
  h_S_ : 0 < S_.numel
  reducesTo_S4x8x262144x1_S_d0_1_2_3 : S4x8x262144x1.ReducesTo [0, 1, 2, 3] S_
  slices_S4x8x257_S4x8x256_0_0_1 : S4x8x257.Slices ![0, 0, 1] S4x8x256
  bcast_S_S4x8x256 : S_.BroadcastsInDim S4x8x256 (![] : Fin 0 → Fin S4x8x256.rank)
  slices_S4x8x257_S4x8x256_0_0_0 : S4x8x257.Slices ![0, 0, 0] S4x8x256
  reducesTo_S4x8x256_S_d0_1_2 : S4x8x256.ReducesTo [0, 1, 2] S_

variable [Facts]

def fn_part1 {F : FTy → Type} [FloatOps F] (main_v5 : IVec S4x8x262144x1 32) (main_v14 : IVec S4x8x257 32) (main_v18 : IVec S4x8x262144x257 32) (main_c_2 : IVec S_ 32) : IVec S_ 1 :=
  let main_v19 : IVec S4x8x257 32 := (fun x v => Host.reduce IntOp.addi x v reducesTo_S4x8x262144x257_S4x8x257_d2 h_S_) main_v18 main_c_2
  let main_c_3 : IVec S_ 32 := constantI S_ 32 0#32
  let main_v20 : IVec S4x8x262144x1 32 := broadcastInDim S4x8x262144x1 ![] bcast_S_S4x8x262144x1 main_c_3
  let main_v21 : IVec S4x8x262144x1 1 := cmpi .sge main_v5 main_v20
  let main_c_4 : IVec S_ 1 := constantI S_ 1 1#1
  let main_v22 : IVec S_ 1 := (fun x v => Host.reduce IntOp.andi x v reducesTo_S4x8x262144x1_S_d0_1_2_3 h_S_) main_v21 main_c_4
  let main_v23 : IVec S4x8x256 32 := (extractStridedSlice S4x8x256 ![0, 0, 1] · slices_S4x8x257_S4x8x256_0_0_1) main_v19
  let main_c_5 : IVec S_ 32 := constantI S_ 32 2048#32
  let main_v24 : IVec S4x8x256 32 := broadcastInDim S4x8x256 ![] bcast_S_S4x8x256 main_c_5
  let main_v25 : IVec S4x8x256 1 := cmpi .sge main_v23 main_v24
  let main_v26 : IVec S4x8x256 32 := (extractStridedSlice S4x8x256 ![0, 0, 0] · slices_S4x8x257_S4x8x256_0_0_0) main_v14
  let main_c_6 : IVec S_ 32 := constantI S_ 32 4096#32
  let main_v27 : IVec S4x8x256 32 := broadcastInDim S4x8x256 ![] bcast_S_S4x8x256 main_c_6
  let main_v28 : IVec S4x8x256 1 := cmpi .slt main_v26 main_v27
  let main_v29 : IVec S4x8x256 1 := ori main_v25 main_v28
  let main_c_7 : IVec S_ 1 := constantI S_ 1 1#1
  let main_v30 : IVec S_ 1 := (fun x v => Host.reduce IntOp.andi x v reducesTo_S4x8x256_S_d0_1_2 h_S_) main_v29 main_c_7
  let main_v31 : IVec S_ 1 := andi main_v22 main_v30
  main_v31

def fn {F : FTy → Type} [FloatOps F] (main_arg0 : FVec F S4x1x1024x2048 .f32) (main_arg1 : FVec F S4x1x1024x2048 .f32) : IVec S_ 1 :=
  let main_v0 : FVec F S4x8x262144x1 .f32 := shapeCast S4x8x262144x1 main_arg0 shapeCasts_S4x1x1024x2048_S4x8x262144x1
  let main_cst : FVec F S_ .f32 := constant S_ .f32 0x45800000#32
  let main_v1 : FVec F S4x8x262144x1 .f32 := broadcastInDim S4x8x262144x1 ![] bcast_S_S4x8x262144x1 main_cst
  let main_v2 : FVec F S4x8x262144x1 .f32 := mulf main_v0 main_v1
  let main_v3 : IVec S4x8x262144x1 32 := fptosi 32 main_v2
  let main_c : IVec S_ 32 := constantI S_ 32 4095#32
  let main_v4 : IVec S4x8x262144x1 32 := broadcastInDim S4x8x262144x1 ![] bcast_S_S4x8x262144x1 main_c
  let main_v5 : IVec S4x8x262144x1 32 := minsi main_v3 main_v4
  let main_v6 : IVec S1x1x1x257 32 := iotaInDim S1x1x1x257 32 3
  let main_c_0 : IVec S_ 32 := constantI S_ 32 16#32
  let main_v7 : IVec S1x1x1x257 32 := broadcastInDim S1x1x1x257 ![] bcast_S_S1x1x1x257 main_c_0
  let main_v8 : IVec S1x1x1x257 32 := muli main_v6 main_v7
  let main_v9 : FVec F S1x1x1x257 .f32 := sitofp .f32 main_v8
  let main_v10 : FVec F S4x8x262144x257 .f32 := broadcastInDim S4x8x262144x257 ![0, 1, 2, 3] bcast_S4x8x262144x1_S4x8x262144x257_0_1_2_3 main_v2
  let main_v11 : FVec F S4x8x262144x257 .f32 := broadcastInDim S4x8x262144x257 ![0, 1, 2, 3] bcast_S1x1x1x257_S4x8x262144x257_0_1_2_3 main_v9
  let main_v12 : IVec S4x8x262144x257 1 := cmpf .oge main_v10 main_v11
  let main_v13 : IVec S4x8x262144x257 32 := (extui 32 · natLt_1_32) main_v12
  let main_c_1 : IVec S_ 32 := constantI S_ 32 0#32
  let main_v14 : IVec S4x8x257 32 := (fun x v => Host.reduce IntOp.addi x v reducesTo_S4x8x262144x257_S4x8x257_d2 h_S_) main_v13 main_c_1
  let main_v15 : IVec S4x8x262144x257 32 := broadcastInDim S4x8x262144x257 ![0, 1, 2, 3] bcast_S4x8x262144x1_S4x8x262144x257_0_1_2_3 main_v5
  let main_v16 : IVec S4x8x262144x257 32 := broadcastInDim S4x8x262144x257 ![0, 1, 2, 3] bcast_S1x1x1x257_S4x8x262144x257_0_1_2_3 main_v8
  let main_v17 : IVec S4x8x262144x257 1 := cmpi .sge main_v15 main_v16
  let main_v18 : IVec S4x8x262144x257 32 := (extui 32 · natLt_1_32) main_v17
  let main_c_2 : IVec S_ 32 := constantI S_ 32 0#32
  fn_part1 (F := F) main_v5 main_v14 main_v18 main_c_2
-- ==== Pre_fits_unmasked.lean ====
abbrev S4x1x1024x2048 : Shape := ⟨4, ![4, 1, 1024, 2048]⟩
abbrev S4x8x262144x1 : Shape := ⟨4, ![4, 8, 262144, 1]⟩
abbrev S_ : Shape := ⟨0, ![]⟩
abbrev S1x1x1x257 : Shape := ⟨4, ![1, 1, 1, 257]⟩
abbrev S4x8x262144x257 : Shape := ⟨4, ![4, 8, 262144, 257]⟩
abbrev S4x8x257 : Shape := ⟨3, ![4, 8, 257]⟩
abbrev S4x8x256 : Shape := ⟨3, ![4, 8, 256]⟩

class Facts : Prop where
  shapeCasts_S4x1x1024x2048_S4x8x262144x1 : S4x1x1024x2048.ShapeCasts S4x8x262144x1
  bcast_S_S4x8x262144x1 : S_.BroadcastsInDim S4x8x262144x1 (![] : Fin 0 → Fin S4x8x262144x1.rank)
  bcast_S_S1x1x1x257 : S_.BroadcastsInDim S1x1x1x257 (![] : Fin 0 → Fin S1x1x1x257.rank)
  bcast_S4x8x262144x1_S4x8x262144x257_0_1_2_3 : S4x8x262144x1.BroadcastsInDim S4x8x262144x257 (![0, 1, 2, 3] : Fin 4 → Fin S4x8x262144x257.rank)
  bcast_S1x1x1x257_S4x8x262144x257_0_1_2_3 : S1x1x1x257.BroadcastsInDim S4x8x262144x257 (![0, 1, 2, 3] : Fin 4 → Fin S4x8x262144x257.rank)
  natLt_1_32 : 1 < 32
  reducesTo_S4x8x262144x257_S4x8x257_d2 : S4x8x262144x257.ReducesTo [2] S4x8x257
  h_S_ : 0 < S_.numel
  reducesTo_S4x8x262144x1_S_d0_1_2_3 : S4x8x262144x1.ReducesTo [0, 1, 2, 3] S_
  slices_S4x8x257_S4x8x256_0_0_1 : S4x8x257.Slices ![0, 0, 1] S4x8x256
  bcast_S_S4x8x256 : S_.BroadcastsInDim S4x8x256 (![] : Fin 0 → Fin S4x8x256.rank)
  slices_S4x8x257_S4x8x256_0_0_0 : S4x8x257.Slices ![0, 0, 0] S4x8x256
  reducesTo_S4x8x256_S_d0_1_2 : S4x8x256.ReducesTo [0, 1, 2] S_
  bcast_S_S4x1x1024x2048 : S_.BroadcastsInDim S4x1x1024x2048 (![] : Fin 0 → Fin S4x1x1024x2048.rank)
  reducesTo_S4x1x1024x2048_S_d0_1_2_3 : S4x1x1024x2048.ReducesTo [0, 1, 2, 3] S_

variable [Facts]

def fn_part2 {F : FTy → Type} [FloatOps F] (main_arg1 : FVec F S4x1x1024x2048 .f32) (main_v35 : IVec S_ 1) : IVec S_ 1 :=
  let main_cst_10 : FVec F S_ .f32 := constant S_ .f32 0x3F800000#32
  let main_v36 : FVec F S4x1x1024x2048 .f32 := broadcastInDim S4x1x1024x2048 ![] bcast_S_S4x1x1024x2048 main_cst_10
  let main_v37 : IVec S4x1x1024x2048 1 := cmpf .oeq main_arg1 main_v36
  let main_c_11 : IVec S_ 1 := constantI S_ 1 1#1
  let main_v38 : IVec S_ 1 := (fun x v => Host.reduce IntOp.andi x v reducesTo_S4x1x1024x2048_S_d0_1_2_3 h_S_) main_v37 main_c_11
  let main_v39 : IVec S_ 1 := andi main_v35 main_v38
  main_v39

def fn_part1 {F : FTy → Type} [FloatOps F] (main_arg0 : FVec F S4x1x1024x2048 .f32) (main_arg1 : FVec F S4x1x1024x2048 .f32) (main_v5 : IVec S4x8x262144x1 32) (main_v14 : IVec S4x8x257 32) (main_v18 : IVec S4x8x262144x257 32) (main_c_2 : IVec S_ 32) : IVec S_ 1 :=
  let main_v19 : IVec S4x8x257 32 := (fun x v => Host.reduce IntOp.addi x v reducesTo_S4x8x262144x257_S4x8x257_d2 h_S_) main_v18 main_c_2
  let main_c_3 : IVec S_ 32 := constantI S_ 32 0#32
  let main_v20 : IVec S4x8x262144x1 32 := broadcastInDim S4x8x262144x1 ![] bcast_S_S4x8x262144x1 main_c_3
  let main_v21 : IVec S4x8x262144x1 1 := cmpi .sge main_v5 main_v20
  let main_c_4 : IVec S_ 1 := constantI S_ 1 1#1
  let main_v22 : IVec S_ 1 := (fun x v => Host.reduce IntOp.andi x v reducesTo_S4x8x262144x1_S_d0_1_2_3 h_S_) main_v21 main_c_4
  let main_v23 : IVec S4x8x256 32 := (extractStridedSlice S4x8x256 ![0, 0, 1] · slices_S4x8x257_S4x8x256_0_0_1) main_v19
  let main_c_5 : IVec S_ 32 := constantI S_ 32 2048#32
  let main_v24 : IVec S4x8x256 32 := broadcastInDim S4x8x256 ![] bcast_S_S4x8x256 main_c_5
  let main_v25 : IVec S4x8x256 1 := cmpi .sge main_v23 main_v24
  let main_v26 : IVec S4x8x256 32 := (extractStridedSlice S4x8x256 ![0, 0, 0] · slices_S4x8x257_S4x8x256_0_0_0) main_v14
  let main_c_6 : IVec S_ 32 := constantI S_ 32 4096#32
  let main_v27 : IVec S4x8x256 32 := broadcastInDim S4x8x256 ![] bcast_S_S4x8x256 main_c_6
  let main_v28 : IVec S4x8x256 1 := cmpi .slt main_v26 main_v27
  let main_v29 : IVec S4x8x256 1 := ori main_v25 main_v28
  let main_c_7 : IVec S_ 1 := constantI S_ 1 1#1
  let main_v30 : IVec S_ 1 := (fun x v => Host.reduce IntOp.andi x v reducesTo_S4x8x256_S_d0_1_2 h_S_) main_v29 main_c_7
  let main_v31 : IVec S_ 1 := andi main_v22 main_v30
  let main_cst_8 : FVec F S_ .f32 := constant S_ .f32 0x00000000#32
  let main_v32 : FVec F S4x1x1024x2048 .f32 := broadcastInDim S4x1x1024x2048 ![] bcast_S_S4x1x1024x2048 main_cst_8
  let main_v33 : IVec S4x1x1024x2048 1 := cmpf .oge main_arg0 main_v32
  let main_c_9 : IVec S_ 1 := constantI S_ 1 1#1
  let main_v34 : IVec S_ 1 := (fun x v => Host.reduce IntOp.andi x v reducesTo_S4x1x1024x2048_S_d0_1_2_3 h_S_) main_v33 main_c_9
  let main_v35 : IVec S_ 1 := andi main_v31 main_v34
  fn_part2 (F := F) main_arg1 main_v35

def fn {F : FTy → Type} [FloatOps F] (main_arg0 : FVec F S4x1x1024x2048 .f32) (main_arg1 : FVec F S4x1x1024x2048 .f32) : IVec S_ 1 :=
  let main_v0 : FVec F S4x8x262144x1 .f32 := shapeCast S4x8x262144x1 main_arg0 shapeCasts_S4x1x1024x2048_S4x8x262144x1
  let main_cst : FVec F S_ .f32 := constant S_ .f32 0x45800000#32
  let main_v1 : FVec F S4x8x262144x1 .f32 := broadcastInDim S4x8x262144x1 ![] bcast_S_S4x8x262144x1 main_cst
  let main_v2 : FVec F S4x8x262144x1 .f32 := mulf main_v0 main_v1
  let main_v3 : IVec S4x8x262144x1 32 := fptosi 32 main_v2
  let main_c : IVec S_ 32 := constantI S_ 32 4095#32
  let main_v4 : IVec S4x8x262144x1 32 := broadcastInDim S4x8x262144x1 ![] bcast_S_S4x8x262144x1 main_c
  let main_v5 : IVec S4x8x262144x1 32 := minsi main_v3 main_v4
  let main_v6 : IVec S1x1x1x257 32 := iotaInDim S1x1x1x257 32 3
  let main_c_0 : IVec S_ 32 := constantI S_ 32 16#32
  let main_v7 : IVec S1x1x1x257 32 := broadcastInDim S1x1x1x257 ![] bcast_S_S1x1x1x257 main_c_0
  let main_v8 : IVec S1x1x1x257 32 := muli main_v6 main_v7
  let main_v9 : FVec F S1x1x1x257 .f32 := sitofp .f32 main_v8
  let main_v10 : FVec F S4x8x262144x257 .f32 := broadcastInDim S4x8x262144x257 ![0, 1, 2, 3] bcast_S4x8x262144x1_S4x8x262144x257_0_1_2_3 main_v2
  let main_v11 : FVec F S4x8x262144x257 .f32 := broadcastInDim S4x8x262144x257 ![0, 1, 2, 3] bcast_S1x1x1x257_S4x8x262144x257_0_1_2_3 main_v9
  let main_v12 : IVec S4x8x262144x257 1 := cmpf .oge main_v10 main_v11
  let main_v13 : IVec S4x8x262144x257 32 := (extui 32 · natLt_1_32) main_v12
  let main_c_1 : IVec S_ 32 := constantI S_ 32 0#32
  let main_v14 : IVec S4x8x257 32 := (fun x v => Host.reduce IntOp.addi x v reducesTo_S4x8x262144x257_S4x8x257_d2 h_S_) main_v13 main_c_1
  let main_v15 : IVec S4x8x262144x257 32 := broadcastInDim S4x8x262144x257 ![0, 1, 2, 3] bcast_S4x8x262144x1_S4x8x262144x257_0_1_2_3 main_v5
  let main_v16 : IVec S4x8x262144x257 32 := broadcastInDim S4x8x262144x257 ![0, 1, 2, 3] bcast_S1x1x1x257_S4x8x262144x257_0_1_2_3 main_v8
  let main_v17 : IVec S4x8x262144x257 1 := cmpi .sge main_v15 main_v16
  let main_v18 : IVec S4x8x262144x257 32 := (extui 32 · natLt_1_32) main_v17
  let main_c_2 : IVec S_ 32 := constantI S_ 32 0#32
  fn_part1 (F := F) main_arg0 main_arg1 main_v5 main_v14 main_v18 main_c_2
-- ==== Kernel.lean ====
abbrev S4x1x1024x2048 : Shape := ⟨4, ![4, 1, 1024, 2048]⟩
abbrev S4x1024x2048 : Shape := ⟨3, ![4, 1024, 2048]⟩
abbrev S4x2097152 : Shape := ⟨2, ![4, 2097152]⟩
abbrev S4x32768 : Shape := ⟨2, ![4, 32768]⟩
abbrev S32768 : Shape := ⟨1, ![32768]⟩
abbrev S4096 : Shape := ⟨1, ![4096]⟩
abbrev S16 : Shape := ⟨1, ![16]⟩
abbrev S_ : Shape := ⟨0, ![]⟩
abbrev S1x32768 : Shape := ⟨2, ![1, 32768]⟩
abbrev S1x4096 : Shape := ⟨2, ![1, 4096]⟩
abbrev S4x2048 : Shape := ⟨2, ![4, 2048]⟩
abbrev S4x2048x1 : Shape := ⟨3, ![4, 2048, 1]⟩
abbrev S1 : Shape := ⟨1, ![1]⟩
abbrev S1x1x1 : Shape := ⟨3, ![1, 1, 1]⟩

abbrev nBuf : Table → Nat
  | .hbm => 30
  | .local .scVector .vmem => 4
  | _ => 0

abbrev bufTy : (tb : Table) → Fin (nBuf tb) → BufTy
  | .hbm, ⟨0, _⟩ => ⟨S4x1x1024x2048, .f32⟩
  | .hbm, ⟨1, _⟩ => ⟨S4x1x1024x2048, .f32⟩
  | .hbm, ⟨2, _⟩ => ⟨S4x1024x2048, .f32⟩
  | .hbm, ⟨3, _⟩ => ⟨S4x2097152, .f32⟩
  | .hbm, ⟨4, _⟩ => ⟨S4x32768, .f32⟩
  | .hbm, ⟨5, _⟩ => ⟨S4x32768, .i32⟩
  | .hbm, ⟨6, _⟩ => ⟨S4x2048, .f32⟩
  | .hbm, ⟨7, _⟩ => ⟨S4x2048, .i32⟩
  | .hbm, ⟨8, _⟩ => ⟨S_, .i32⟩
  | .hbm, ⟨9, _⟩ => ⟨S4x2048, .i32⟩
  | .hbm, ⟨10, _⟩ => ⟨S4x2048, .i1⟩
  | .hbm, ⟨11, _⟩ => ⟨S_, .i32⟩
  | .hbm, ⟨12, _⟩ => ⟨S4x2048, .i32⟩
  | .hbm, ⟨13, _⟩ => ⟨S4x2048, .i32⟩
  | .hbm, ⟨14, _⟩ => ⟨S4x2048, .i32⟩
  | .hbm, ⟨15, _⟩ => ⟨S4x2048x1, .i32⟩
  | .hbm, ⟨16, _⟩ => ⟨S1, .i32⟩
  | .hbm, ⟨17, _⟩ => ⟨S_, .i32⟩
  | .hbm, ⟨18, _⟩ => ⟨S4x2048x1, .i32⟩
  | .hbm, ⟨19, _⟩ => ⟨S4x2048x1, .i1⟩
  | .hbm, ⟨20, _⟩ => ⟨S1x1x1, .i32⟩
  | .hbm, ⟨21, _⟩ => ⟨S4x2048x1, .i32⟩
  | .hbm, ⟨22, _⟩ => ⟨S4x2048x1, .i1⟩
  | .hbm, ⟨23, _⟩ => ⟨S4x2048x1, .i1⟩
  | .hbm, ⟨24, _⟩ => ⟨S_, .i1⟩
  | .hbm, ⟨25, _⟩ => ⟨S4x2048, .i1⟩
  | .hbm, ⟨26, _⟩ => ⟨S4x2048, .i32⟩
  | .hbm, ⟨27, _⟩ => ⟨S_, .i32⟩
  | .hbm, ⟨28, _⟩ => ⟨S4x2048, .i32⟩
  | .hbm, ⟨29, _⟩ => ⟨S4x2048, .i32⟩
  | .local .scVector .vmem, ⟨0, _⟩ => ⟨S32768, .f32⟩
  | .local .scVector .vmem, ⟨1, _⟩ => ⟨S4096, .f32⟩
  | .local .scVector .vmem, ⟨2, _⟩ => ⟨S4096, .f32⟩
  | .local .scVector .vmem, ⟨3, _⟩ => ⟨S4096, .i32⟩
  | _, _ => ⟨S4x1x1024x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_values : Ref sig .tc := ⟨.hbm, 6, rfl⟩
abbrev main_indices : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_c_4 : Ref sig .tc := ⟨.hbm, 27, rfl⟩
abbrev main_call0_v14 : Ref sig .tc := ⟨.hbm, 28, rfl⟩
abbrev main_v3 : Ref sig .tc := ⟨.hbm, 29, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c256_i32 : BitVec 32 := 256#32
  let v34 : BitVec 32 := Scalar.addi c0_i32_13 c256_i32
  let c1_i32_14 : BitVec 32 := 1#32
  ⟨c0_i32_13, v34, c1_i32_14⟩
def k0_off1 (k0_t1 : Fin k0_t1_loop.trips) : Fin 1 → Nat :=
  let c0_i32_13 : BitVec 32 := 0#32
  let c1_i32_14 : BitVec 32 := 1#32
  let arg9 : BitVec 32 := Scf.iv c0_i32_13 c1_i32_14 k0_t1
  let c16_i32_110 : BitVec 32 := 16#32
  let v99 : BitVec 32 := Scalar.muli arg9 c16_i32_110
  let v100 : Index := Scalar.indexCast v99
  ![v100.toNat]
def k0_off2 (i : grid0.Coords) (c0_i32_16 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c262144_i32 : BitVec 32 := 262144#32
  let v29 : BitVec 32 := Scalar.muli v28 c262144_i32
  let v36 : BitVec 32 := Scalar.addi v29 c0_i32_16
  ![v18.toNat, v36.toNat]
@[reducible] def k0_t2_loop : Scf.Loop 32 :=
  let c0_i32_18 : BitVec 32 := 0#32
  let c2048_i32 : BitVec 32 := 2048#32
  let v37 : BitVec 32 := Scalar.addi c0_i32_18 c2048_i32
  let c1_i32_19 : BitVec 32 := 1#32
  ⟨c0_i32_18, v37, c1_i32_19⟩
def k0_off3 (k0_t2 : Fin k0_t2_loop.trips) : Fin 1 → Nat :=
  let c0_i32_18 : BitVec 32 := 0#32
  let c1_i32_19 : BitVec 32 := 1#32
  let arg9 : BitVec 32 := Scf.iv c0_i32_18 c1_i32_19 k0_t2
  let c16_i32_110 : BitVec 32 := 16#32
  let v99 : BitVec 32 := Scalar.muli arg9 c16_i32_110
  let v100 : Index := Scalar.indexCast v99
  ![v100.toNat]

def k0_chk1 (v106 : IVec S16 32) : Prop :=
  (∀ a x, ((![v106] : Fin 1 → IVec S16 32) a x).toNat < S4096.size a)
theorem k0_idx1_inb : ∀ (v106 : IVec S16 32) (k0_hw1 : k0_chk1 v106), ∀ a x, ((![v106] : Fin 1 → IVec S16 32) a x).toNat < S4096.size a := fun v106 k0_hw1 => k0_hw1
@[reducible] def k0_t3_loop : Scf.Loop 32 :=
  let c0_i32_22 : BitVec 32 := 0#32
  let c2048_i32_23 : BitVec 32 := 2048#32
  let v40 : BitVec 32 := Scalar.addi c0_i32_22 c2048_i32_23
  let c1_i32_24 : BitVec 32 := 1#32
  ⟨c0_i32_22, v40, c1_i32_24⟩
def k0_off4 (k0_t3 : Fin k0_t3_loop.trips) : Fin 1 → Nat :=
  let c0_i32_22 : BitVec 32 := 0#32
  let c1_i32_24 : BitVec 32 := 1#32
  let arg9 : BitVec 32 := Scf.iv c0_i32_22 c1_i32_24 k0_t3
  let c16_i32_110 : BitVec 32 := 16#32
  let v99 : BitVec 32 := Scalar.muli arg9 c16_i32_110
  let v100 : Index := Scalar.indexCast v99
  ![v100.toNat]

def k0_chk2 (v106 : IVec S16 32) : Prop :=
  (∀ a x, ((![v106] : Fin 1 → IVec S16 32) a x).toNat < S4096.size a)
theorem k0_idx2_inb : ∀ (v106 : IVec S16 32) (k0_hw2 : k0_chk2 v106), ∀ a x, ((![v106] : Fin 1 → IVec S16 32) a x).toNat < S4096.size a := fun v106 k0_hw2 => k0_hw2
@[reducible] def k0_t4_loop : Scf.Loop 32 :=
  let c0_i32_27 : BitVec 32 := 0#32
  let c2048_i32_28 : BitVec 32 := 2048#32
  let v43 : BitVec 32 := Scalar.addi c0_i32_27 c2048_i32_28
  let c1_i32_29 : BitVec 32 := 1#32
  ⟨c0_i32_27, v43, c1_i32_29⟩
def k0_off5 (k0_t4 : Fin k0_t4_loop.trips) : Fin 1 → Nat :=
  let c0_i32_27 : BitVec 32 := 0#32
  let c1_i32_29 : BitVec 32 := 1#32
  let arg9 : BitVec 32 := Scf.iv c0_i32_27 c1_i32_29 k0_t4
  let c16_i32_110 : BitVec 32 := 16#32
  let v99 : BitVec 32 := Scalar.muli arg9 c16_i32_110
  let v100 : Index := Scalar.indexCast v99
  ![v100.toNat]

def k0_chk3 (v106 : IVec S16 32) : Prop :=
  (∀ a x, ((![v106] : Fin 1 → IVec S16 32) a x).toNat < S4096.size a)
theorem k0_idx3_inb : ∀ (v106 : IVec S16 32) (k0_hw3 : k0_chk3 v106), ∀ a x, ((![v106] : Fin 1 → IVec S16 32) a x).toNat < S4096.size a := fun v106 k0_hw3 => k0_hw3
@[reducible] def k0_t5_loop : Scf.Loop 32 :=
  let c0_i32_32 : BitVec 32 := 0#32
  let c2048_i32_33 : BitVec 32 := 2048#32
  let v46 : BitVec 32 := Scalar.addi c0_i32_32 c2048_i32_33
  let c1_i32_34 : BitVec 32 := 1#32
  ⟨c0_i32_32, v46, c1_i32_34⟩
def k0_off6 (k0_t5 : Fin k0_t5_loop.trips) : Fin 1 → Nat :=
  let c0_i32_32 : BitVec 32 := 0#32
  let c1_i32_34 : BitVec 32 := 1#32
  let arg9 : BitVec 32 := Scf.iv c0_i32_32 c1_i32_34 k0_t5
  let c16_i32_110 : BitVec 32 := 16#32
  let v99 : BitVec 32 := Scalar.muli arg9 c16_i32_110
  let v100 : Index := Scalar.indexCast v99
  ![v100.toNat]

def k0_chk4 (v106 : IVec S16 32) : Prop :=
  (∀ a x, ((![v106] : Fin 1 → IVec S16 32) a x).toNat < S4096.size a)
theorem k0_idx4_inb : ∀ (v106 : IVec S16 32) (k0_hw4 : k0_chk4 v106), ∀ a x, ((![v106] : Fin 1 → IVec S16 32) a x).toNat < S4096.size a := fun v106 k0_hw4 => k0_hw4
@[reducible] def k0_t6_loop : Scf.Loop 32 :=
  let c0_i32_37 : BitVec 32 := 0#32
  let c2048_i32_38 : BitVec 32 := 2048#32
  let v49 : BitVec 32 := Scalar.addi c0_i32_37 c2048_i32_38
  let c1_i32_39 : BitVec 32 := 1#32
  ⟨c0_i32_37, v49, c1_i32_39⟩
def k0_off7 (k0_t6 : Fin k0_t6_loop.trips) : Fin 1 → Nat :=
  let c0_i32_37 : BitVec 32 := 0#32
  let c1_i32_39 : BitVec 32 := 1#32
  let arg9 : BitVec 32 := Scf.iv c0_i32_37 c1_i32_39 k0_t6
  let c16_i32_110 : BitVec 32 := 16#32
  let v99 : BitVec 32 := Scalar.muli arg9 c16_i32_110
  let v100 : Index := Scalar.indexCast v99
  ![v100.toNat]

def k0_chk5 (v106 : IVec S16 32) : Prop :=
  (∀ a x, ((![v106] : Fin 1 → IVec S16 32) a x).toNat < S4096.size a)
theorem k0_idx5_inb : ∀ (v106 : IVec S16 32) (k0_hw5 : k0_chk5 v106), ∀ a x, ((![v106] : Fin 1 → IVec S16 32) a x).toNat < S4096.size a := fun v106 k0_hw5 => k0_hw5
@[reducible] def k0_t7_loop : Scf.Loop 32 :=
  let c0_i32_42 : BitVec 32 := 0#32
  let c2048_i32_43 : BitVec 32 := 2048#32
  let v52 : BitVec 32 := Scalar.addi c0_i32_42 c2048_i32_43
  let c1_i32_44 : BitVec 32 := 1#32
  ⟨c0_i32_42, v52, c1_i32_44⟩
def k0_off8 (k0_t7 : Fin k0_t7_loop.trips) : Fin 1 → Nat :=
  let c0_i32_42 : BitVec 32 := 0#32
  let c1_i32_44 : BitVec 32 := 1#32
  let arg9 : BitVec 32 := Scf.iv c0_i32_42 c1_i32_44 k0_t7
  let c16_i32_110 : BitVec 32 := 16#32
  let v99 : BitVec 32 := Scalar.muli arg9 c16_i32_110
  let v100 : Index := Scalar.indexCast v99
  ![v100.toNat]

def k0_chk6 (v106 : IVec S16 32) : Prop :=
  (∀ a x, ((![v106] : Fin 1 → IVec S16 32) a x).toNat < S4096.size a)
theorem k0_idx6_inb : ∀ (v106 : IVec S16 32) (k0_hw6 : k0_chk6 v106), ∀ a x, ((![v106] : Fin 1 → IVec S16 32) a x).toNat < S4096.size a := fun v106 k0_hw6 => k0_hw6
@[reducible] def k0_t8_loop : Scf.Loop 32 :=
  let c0_i32_47 : BitVec 32 := 0#32
  let c2048_i32_48 : BitVec 32 := 2048#32
  let v55 : BitVec 32 := Scalar.addi c0_i32_47 c2048_i32_48
  let c1_i32_49 : BitVec 32 := 1#32
  ⟨c0_i32_47, v55, c1_i32_49⟩
def k0_off9 (k0_t8 : Fin k0_t8_loop.trips) : Fin 1 → Nat :=
  let c0_i32_47 : BitVec 32 := 0#32
  let c1_i32_49 : BitVec 32 := 1#32
  let arg9 : BitVec 32 := Scf.iv c0_i32_47 c1_i32_49 k0_t8
  let c16_i32_110 : BitVec 32 := 16#32
  let v99 : BitVec 32 := Scalar.muli arg9 c16_i32_110
  let v100 : Index := Scalar.indexCast v99
  ![v100.toNat]

def k0_chk7 (v106 : IVec S16 32) : Prop :=
  (∀ a x, ((![v106] : Fin 1 → IVec S16 32) a x).toNat < S4096.size a)
theorem k0_idx7_inb : ∀ (v106 : IVec S16 32) (k0_hw7 : k0_chk7 v106), ∀ a x, ((![v106] : Fin 1 → IVec S16 32) a x).toNat < S4096.size a := fun v106 k0_hw7 => k0_hw7
@[reducible] def k0_t9_loop : Scf.Loop 32 :=
  let c0_i32_52 : BitVec 32 := 0#32
  let c2048_i32_53 : BitVec 32 := 2048#32
  let v58 : BitVec 32 := Scalar.addi c0_i32_52 c2048_i32_53
  let c1_i32_54 : BitVec 32 := 1#32
  ⟨c0_i32_52, v58, c1_i32_54⟩
def k0_off10 (k0_t9 : Fin k0_t9_loop.trips) : Fin 1 → Nat :=
  let c0_i32_52 : BitVec 32 := 0#32
  let c1_i32_54 : BitVec 32 := 1#32
  let arg9 : BitVec 32 := Scf.iv c0_i32_52 c1_i32_54 k0_t9
  let c16_i32_110 : BitVec 32 := 16#32
  let v99 : BitVec 32 := Scalar.muli arg9 c16_i32_110
  let v100 : Index := Scalar.indexCast v99
  ![v100.toNat]

def k0_chk8 (v106 : IVec S16 32) : Prop :=
  (∀ a x, ((![v106] : Fin 1 → IVec S16 32) a x).toNat < S4096.size a)
theorem k0_idx8_inb : ∀ (v106 : IVec S16 32) (k0_hw8 : k0_chk8 v106), ∀ a x, ((![v106] : Fin 1 → IVec S16 32) a x).toNat < S4096.size a := fun v106 k0_hw8 => k0_hw8
@[reducible] def k0_t10_loop : Scf.Loop 32 :=
  let c0_i32_58 : BitVec 32 := 0#32
  let c256_i32_59 : BitVec 32 := 256#32
  let v60 : BitVec 32 := Scalar.addi c0_i32_58 c256_i32_59
  let c1_i32_60 : BitVec 32 := 1#32
  ⟨c0_i32_58, v60, c1_i32_60⟩
def k0_off11 (k0_t10 : Fin k0_t10_loop.trips) : Fin 1 → Nat :=
  let c255_i32 : BitVec 32 := 255#32
  let c0_i32_58 : BitVec 32 := 0#32
  let c1_i32_60 : BitVec 32 := 1#32
  let arg9 : BitVec 32 := Scf.iv c0_i32_58 c1_i32_60 k0_t10
  let v99 : BitVec 32 := Scalar.subi c255_i32 arg9
  let c16_i32_110 : BitVec 32 := 16#32
  let v100 : BitVec 32 := Scalar.muli v99 c16_i32_110
  let v101 : Index := Scalar.indexCast v100
  ![v101.toNat]
@[reducible] def k0_t11_loop : Scf.Loop 32 :=
  let c0_i32_64 : BitVec 32 := 0#32
  let c256_i32_65 : BitVec 32 := 256#32
  let v63 : BitVec 32 := Scalar.addi c0_i32_64 c256_i32_65
  let c1_i32_66 : BitVec 32 := 1#32
  ⟨c0_i32_64, v63, c1_i32_66⟩
def k0_off12 (k0_t11 : Fin k0_t11_loop.trips) : Fin 1 → Nat :=
  let c0_i32_64 : BitVec 32 := 0#32
  let c1_i32_66 : BitVec 32 := 1#32
  let arg9 : BitVec 32 := Scf.iv c0_i32_64 c1_i32_66 k0_t11
  let c16_i32_110 : BitVec 32 := 16#32
  let v99 : BitVec 32 := Scalar.muli arg9 c16_i32_110
  let v100 : Index := Scalar.indexCast v99
  ![v100.toNat]
@[reducible] def k0_t12_loop : Scf.Loop 32 :=
  let c0_i32_70 : BitVec 32 := 0#32
  let c2048_i32_71 : BitVec 32 := 2048#32
  let v67 : BitVec 32 := Scalar.addi c0_i32_70 c2048_i32_71
  let c1_i32_72 : BitVec 32 := 1#32
  ⟨c0_i32_70, v67, c1_i32_72⟩
def k0_off13 (k0_t12 : Fin k0_t12_loop.trips) : Fin 1 → Nat :=
  let c0_i32_70 : BitVec 32 := 0#32
  let c1_i32_72 : BitVec 32 := 1#32
  let arg9 : BitVec 32 := Scf.iv c0_i32_70 c1_i32_72 k0_t12
  let c16_i32_110 : BitVec 32 := 16#32
  let v99 : BitVec 32 := Scalar.muli arg9 c16_i32_110
  let v100 : Index := Scalar.indexCast v99
  ![v100.toNat]

def k0_chk9 (v111 : IVec S16 32) : Prop :=
  (∀ a x, ((![v111] : Fin 1 → IVec S16 32) a x).toNat < S4096.size a) ∧
  (∀ a x, ((![v111] : Fin 1 → IVec S16 32) a x).toNat < S4096.size a)
theorem k0_idx9_inb : ∀ (v111 : IVec S16 32) (k0_hw9 : k0_chk9 v111), ∀ a x, ((![v111] : Fin 1 → IVec S16 32) a x).toNat < S4096.size a := fun v111 k0_hw9 => k0_hw9.1
theorem k0_idx10_inb : ∀ (v111 : IVec S16 32) (k0_hw9 : k0_chk9 v111), ∀ a x, ((![v111] : Fin 1 → IVec S16 32) a x).toNat < S4096.size a := fun v111 k0_hw9 => k0_hw9.2
@[reducible] def k0_t13_loop : Scf.Loop 32 :=
  let c0_i32_75 : BitVec 32 := 0#32
  let c2048_i32_76 : BitVec 32 := 2048#32
  let v71 : BitVec 32 := Scalar.addi c0_i32_75 c2048_i32_76
  let c1_i32_77 : BitVec 32 := 1#32
  ⟨c0_i32_75, v71, c1_i32_77⟩
def k0_off14 (k0_t13 : Fin k0_t13_loop.trips) : Fin 1 → Nat :=
  let c0_i32_75 : BitVec 32 := 0#32
  let c1_i32_77 : BitVec 32 := 1#32
  let arg9 : BitVec 32 := Scf.iv c0_i32_75 c1_i32_77 k0_t13
  let c16_i32_110 : BitVec 32 := 16#32
  let v99 : BitVec 32 := Scalar.muli arg9 c16_i32_110
  let v100 : Index := Scalar.indexCast v99
  ![v100.toNat]

def k0_chk10 (v111 : IVec S16 32) : Prop :=
  (∀ a x, ((![v111] : Fin 1 → IVec S16 32) a x).toNat < S4096.size a) ∧
  (∀ a x, ((![v111] : Fin 1 → IVec S16 32) a x).toNat < S4096.size a)
theorem k0_idx11_inb : ∀ (v111 : IVec S16 32) (k0_hw10 : k0_chk10 v111), ∀ a x, ((![v111] : Fin 1 → IVec S16 32) a x).toNat < S4096.size a := fun v111 k0_hw10 => k0_hw10.1
theorem k0_idx12_inb : ∀ (v111 : IVec S16 32) (k0_hw10 : k0_chk10 v111), ∀ a x, ((![v111] : Fin 1 → IVec S16 32) a x).toNat < S4096.size a := fun v111 k0_hw10 => k0_hw10.2
@[reducible] def k0_t14_loop : Scf.Loop 32 :=
  let c0_i32_80 : BitVec 32 := 0#32
  let c2048_i32_81 : BitVec 32 := 2048#32
  let v75 : BitVec 32 := Scalar.addi c0_i32_80 c2048_i32_81
  let c1_i32_82 : BitVec 32 := 1#32
  ⟨c0_i32_80, v75, c1_i32_82⟩
def k0_off15 (k0_t14 : Fin k0_t14_loop.trips) : Fin 1 → Nat :=
  let c0_i32_80 : BitVec 32 := 0#32
  let c1_i32_82 : BitVec 32 := 1#32
  let arg9 : BitVec 32 := Scf.iv c0_i32_80 c1_i32_82 k0_t14
  let c16_i32_110 : BitVec 32 := 16#32
  let v99 : BitVec 32 := Scalar.muli arg9 c16_i32_110
  let v100 : Index := Scalar.indexCast v99
  ![v100.toNat]

def k0_chk11 (v111 : IVec S16 32) : Prop :=
  (∀ a x, ((![v111] : Fin 1 → IVec S16 32) a x).toNat < S4096.size a) ∧
  (∀ a x, ((![v111] : Fin 1 → IVec S16 32) a x).toNat < S4096.size a)
theorem k0_idx13_inb : ∀ (v111 : IVec S16 32) (k0_hw11 : k0_chk11 v111), ∀ a x, ((![v111] : Fin 1 → IVec S16 32) a x).toNat < S4096.size a := fun v111 k0_hw11 => k0_hw11.1
theorem k0_idx14_inb : ∀ (v111 : IVec S16 32) (k0_hw11 : k0_chk11 v111), ∀ a x, ((![v111] : Fin 1 → IVec S16 32) a x).toNat < S4096.size a := fun v111 k0_hw11 => k0_hw11.2
@[reducible] def k0_t15_loop : Scf.Loop 32 :=
  let c0_i32_85 : BitVec 32 := 0#32
  let c2048_i32_86 : BitVec 32 := 2048#32
  let v79 : BitVec 32 := Scalar.addi c0_i32_85 c2048_i32_86
  let c1_i32_87 : BitVec 32 := 1#32
  ⟨c0_i32_85, v79, c1_i32_87⟩
def k0_off16 (k0_t15 : Fin k0_t15_loop.trips) : Fin 1 → Nat :=
  let c0_i32_85 : BitVec 32 := 0#32
  let c1_i32_87 : BitVec 32 := 1#32
  let arg9 : BitVec 32 := Scf.iv c0_i32_85 c1_i32_87 k0_t15
  let c16_i32_110 : BitVec 32 := 16#32
  let v99 : BitVec 32 := Scalar.muli arg9 c16_i32_110
  let v100 : Index := Scalar.indexCast v99
  ![v100.toNat]

def k0_chk12 (v111 : IVec S16 32) : Prop :=
  (∀ a x, ((![v111] : Fin 1 → IVec S16 32) a x).toNat < S4096.size a) ∧
  (∀ a x, ((![v111] : Fin 1 → IVec S16 32) a x).toNat < S4096.size a)
theorem k0_idx15_inb : ∀ (v111 : IVec S16 32) (k0_hw12 : k0_chk12 v111), ∀ a x, ((![v111] : Fin 1 → IVec S16 32) a x).toNat < S4096.size a := fun v111 k0_hw12 => k0_hw12.1
theorem k0_idx16_inb : ∀ (v111 : IVec S16 32) (k0_hw12 : k0_chk12 v111), ∀ a x, ((![v111] : Fin 1 → IVec S16 32) a x).toNat < S4096.size a := fun v111 k0_hw12 => k0_hw12.2
@[reducible] def k0_t16_loop : Scf.Loop 32 :=
  let c0_i32_90 : BitVec 32 := 0#32
  let c2048_i32_91 : BitVec 32 := 2048#32
  let v83 : BitVec 32 := Scalar.addi c0_i32_90 c2048_i32_91
  let c1_i32_92 : BitVec 32 := 1#32
  ⟨c0_i32_90, v83, c1_i32_92⟩
def k0_off17 (k0_t16 : Fin k0_t16_loop.trips) : Fin 1 → Nat :=
  let c0_i32_90 : BitVec 32 := 0#32
  let c1_i32_92 : BitVec 32 := 1#32
  let arg9 : BitVec 32 := Scf.iv c0_i32_90 c1_i32_92 k0_t16
  let c16_i32_110 : BitVec 32 := 16#32
  let v99 : BitVec 32 := Scalar.muli arg9 c16_i32_110
  let v100 : Index := Scalar.indexCast v99
  ![v100.toNat]

def k0_chk13 (v111 : IVec S16 32) : Prop :=
  (∀ a x, ((![v111] : Fin 1 → IVec S16 32) a x).toNat < S4096.size a) ∧
  (∀ a x, ((![v111] : Fin 1 → IVec S16 32) a x).toNat < S4096.size a)
theorem k0_idx17_inb : ∀ (v111 : IVec S16 32) (k0_hw13 : k0_chk13 v111), ∀ a x, ((![v111] : Fin 1 → IVec S16 32) a x).toNat < S4096.size a := fun v111 k0_hw13 => k0_hw13.1
theorem k0_idx18_inb : ∀ (v111 : IVec S16 32) (k0_hw13 : k0_chk13 v111), ∀ a x, ((![v111] : Fin 1 → IVec S16 32) a x).toNat < S4096.size a := fun v111 k0_hw13 => k0_hw13.2
@[reducible] def k0_t17_loop : Scf.Loop 32 :=
  let c0_i32_95 : BitVec 32 := 0#32
  let c2048_i32_96 : BitVec 32 := 2048#32
  let v87 : BitVec 32 := Scalar.addi c0_i32_95 c2048_i32_96
  let c1_i32_97 : BitVec 32 := 1#32
  ⟨c0_i32_95, v87, c1_i32_97⟩
def k0_off18 (k0_t17 : Fin k0_t17_loop.trips) : Fin 1 → Nat :=
  let c0_i32_95 : BitVec 32 := 0#32
  let c1_i32_97 : BitVec 32 := 1#32
  let arg9 : BitVec 32 := Scf.iv c0_i32_95 c1_i32_97 k0_t17
  let c16_i32_110 : BitVec 32 := 16#32
  let v99 : BitVec 32 := Scalar.muli arg9 c16_i32_110
  let v100 : Index := Scalar.indexCast v99
  ![v100.toNat]

def k0_chk14 (v111 : IVec S16 32) : Prop :=
  (∀ a x, ((![v111] : Fin 1 → IVec S16 32) a x).toNat < S4096.size a) ∧
  (∀ a x, ((![v111] : Fin 1 → IVec S16 32) a x).toNat < S4096.size a)
theorem k0_idx19_inb : ∀ (v111 : IVec S16 32) (k0_hw14 : k0_chk14 v111), ∀ a x, ((![v111] : Fin 1 → IVec S16 32) a x).toNat < S4096.size a := fun v111 k0_hw14 => k0_hw14.1
theorem k0_idx20_inb : ∀ (v111 : IVec S16 32) (k0_hw14 : k0_chk14 v111), ∀ a x, ((![v111] : Fin 1 → IVec S16 32) a x).toNat < S4096.size a := fun v111 k0_hw14 => k0_hw14.2
@[reducible] def k0_t18_loop : Scf.Loop 32 :=
  let c0_i32_100 : BitVec 32 := 0#32
  let c2048_i32_101 : BitVec 32 := 2048#32
  let v91 : BitVec 32 := Scalar.addi c0_i32_100 c2048_i32_101
  let c1_i32_102 : BitVec 32 := 1#32
  ⟨c0_i32_100, v91, c1_i32_102⟩
def k0_off19 (k0_t18 : Fin k0_t18_loop.trips) : Fin 1 → Nat :=
  let c0_i32_100 : BitVec 32 := 0#32
  let c1_i32_102 : BitVec 32 := 1#32
  let arg9 : BitVec 32 := Scf.iv c0_i32_100 c1_i32_102 k0_t18
  let c16_i32_110 : BitVec 32 := 16#32
  let v99 : BitVec 32 := Scalar.muli arg9 c16_i32_110
  let v100 : Index := Scalar.indexCast v99
  ![v100.toNat]

def k0_chk15 (v111 : IVec S16 32) : Prop :=
  (∀ a x, ((![v111] : Fin 1 → IVec S16 32) a x).toNat < S4096.size a) ∧
  (∀ a x, ((![v111] : Fin 1 → IVec S16 32) a x).toNat < S4096.size a)
theorem k0_idx21_inb : ∀ (v111 : IVec S16 32) (k0_hw15 : k0_chk15 v111), ∀ a x, ((![v111] : Fin 1 → IVec S16 32) a x).toNat < S4096.size a := fun v111 k0_hw15 => k0_hw15.1
theorem k0_idx22_inb : ∀ (v111 : IVec S16 32) (k0_hw15 : k0_chk15 v111), ∀ a x, ((![v111] : Fin 1 → IVec S16 32) a x).toNat < S4096.size a := fun v111 k0_hw15 => k0_hw15.2
@[reducible] def k0_t19_loop : Scf.Loop 32 :=
  let c0_i32_105 : BitVec 32 := 0#32
  let c2048_i32_106 : BitVec 32 := 2048#32
  let v95 : BitVec 32 := Scalar.addi c0_i32_105 c2048_i32_106
  let c1_i32_107 : BitVec 32 := 1#32
  ⟨c0_i32_105, v95, c1_i32_107⟩
def k0_off20 (k0_t19 : Fin k0_t19_loop.trips) : Fin 1 → Nat :=
  let c0_i32_105 : BitVec 32 := 0#32
  let c1_i32_107 : BitVec 32 := 1#32
  let arg9 : BitVec 32 := Scf.iv c0_i32_105 c1_i32_107 k0_t19
  let c16_i32_110 : BitVec 32 := 16#32
  let v99 : BitVec 32 := Scalar.muli arg9 c16_i32_110
  let v100 : Index := Scalar.indexCast v99
  ![v100.toNat]

def k0_chk16 (v111 : IVec S16 32) : Prop :=
  (∀ a x, ((![v111] : Fin 1 → IVec S16 32) a x).toNat < S4096.size a) ∧
  (∀ a x, ((![v111] : Fin 1 → IVec S16 32) a x).toNat < S4096.size a)
theorem k0_idx23_inb : ∀ (v111 : IVec S16 32) (k0_hw16 : k0_chk16 v111), ∀ a x, ((![v111] : Fin 1 → IVec S16 32) a x).toNat < S4096.size a := fun v111 k0_hw16 => k0_hw16.1
theorem k0_idx24_inb : ∀ (v111 : IVec S16 32) (k0_hw16 : k0_chk16 v111), ∀ a x, ((![v111] : Fin 1 → IVec S16 32) a x).toNat < S4096.size a := fun v111 k0_hw16 => k0_hw16.2
def k0_off21 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4096_i32 : BitVec 32 := 4096#32
  let v97 : BitVec 32 := Scalar.muli v28 c4096_i32
  ![v18.toNat, v97.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x1024x2048 : Shape := ⟨4, ![4, 1, 1024, 2048]⟩
abbrev S4x1024x2048 : Shape := ⟨3, ![4, 1024, 2048]⟩
abbrev S4x2097152 : Shape := ⟨2, ![4, 2097152]⟩
abbrev S4x2048 : Shape := ⟨2, ![4, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x1x1024x2048, .f32⟩
  | .hbm, ⟨1, _⟩ => ⟨S4x1x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x2097152, .f32⟩
  | .hbm, ⟨6, _⟩ => ⟨S4x2048, .f32⟩
  | .hbm, ⟨7, _⟩ => ⟨S4x2048, .i32⟩
  | _, _ => ⟨S4x1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩

abbrev nD : Nat := 1
abbrev τ : Topo := Topo.v7x

variable {F : FTy → Type} [FloatOps F]
-- ==== SelectIdeal.lean ====
abbrev S4x2048 : Shape := ⟨2, ![4, 2048]⟩
abbrev S_ : Shape := ⟨0, ![]⟩
abbrev S4x1x2048 : Shape := ⟨3, ![4, 1, 2048]⟩
abbrev S4x2048x1 : Shape := ⟨3, ![4, 2048, 1]⟩
abbrev S4x512x2 : Shape := ⟨3, ![4, 512, 2]⟩
abbrev S4x512x1 : Shape := ⟨3, ![4, 512, 1]⟩
abbrev S1x1x2048 : Shape := ⟨3, ![1, 1, 2048]⟩
abbrev S1x2048x1 : Shape := ⟨3, ![1, 2048, 1]⟩
abbrev S1x512x2 : Shape := ⟨3, ![1, 512, 2]⟩
abbrev S1x512x1 : Shape := ⟨3, ![1, 512, 1]⟩
abbrev S1x2048 : Shape := ⟨2, ![1, 2048]⟩
abbrev S2048x1 : Shape := ⟨2, ![2048, 1]⟩
abbrev S2048x2048 : Shape := ⟨2, ![2048, 2048]⟩
abbrev S1 : Shape := ⟨1, ![1]⟩
abbrev S1x1x1 : Shape := ⟨3, ![1, 1, 1]⟩
abbrev S2x2048 : Shape := ⟨2, ![2, 2048]⟩
abbrev S512x1 : Shape := ⟨2, ![512, 1]⟩
abbrev S512x2048 : Shape := ⟨2, ![512, 2048]⟩
abbrev S2048x3 : Shape := ⟨2, ![2048, 3]⟩
abbrev S512x3 : Shape := ⟨2, ![512, 3]⟩
abbrev S512x2 : Shape := ⟨2, ![512, 2]⟩
abbrev S4x512 : Shape := ⟨2, ![4, 512]⟩

abbrev nBuf : Space → Nat
  | .hbm => 53
  | .vmem => 16
  | .smem => 0
  | _ => 0

abbrev bufTy : (tb : Table) → Fin (tcTables nBuf tb) → BufTy
  | .hbm, ⟨0, _⟩ => ⟨S4x2048, .f32⟩
  | .hbm, ⟨1, _⟩ => ⟨S4x2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S_, .i32⟩
  | .hbm, ⟨11, _⟩ => ⟨S4x2048, .i32⟩
  | .hbm, ⟨12, _⟩ => ⟨S4x2048, .i1⟩
  | .hbm, ⟨13, _⟩ => ⟨S_, .i32⟩
  | .hbm, ⟨14, _⟩ => ⟨S4x2048, .i32⟩
  | .hbm, ⟨15, _⟩ => ⟨S4x2048, .i1⟩
  | .hbm, ⟨16, _⟩ => ⟨S_, .i32⟩
  | .hbm, ⟨17, _⟩ => ⟨S_, .i1⟩
  | .hbm, ⟨18, _⟩ => ⟨S4x2048, .i1⟩
  | .hbm, ⟨19, _⟩ => ⟨S4x2048, .i1⟩
  | .hbm, ⟨20, _⟩ => ⟨S4x2048, .i1⟩
  | .hbm, ⟨21, _⟩ => ⟨S4x2048, .i32⟩
  | .hbm, ⟨22, _⟩ => ⟨S4x2048, .i32⟩
  | .hbm, ⟨23, _⟩ => ⟨S4x2048, .i32⟩
  | .hbm, ⟨24, _⟩ => ⟨S4x2048, .f32⟩
  | .hbm, ⟨25, _⟩ => ⟨S_, .i32⟩
  | .hbm, ⟨26, _⟩ => ⟨S_, .i32⟩
  | .hbm, ⟨27, _⟩ => ⟨S4x2048, .i32⟩
  | .hbm, ⟨28, _⟩ => ⟨S4x2048, .i32⟩
  | .hbm, ⟨29, _⟩ => ⟨S4x2048, .i32⟩
  | .hbm, ⟨30, _⟩ => ⟨S_, .i32⟩
  | .hbm, ⟨31, _⟩ => ⟨S4x2048, .i32⟩
  | .hbm, ⟨32, _⟩ => ⟨S4x2048, .i1⟩
  | .hbm, ⟨33, _⟩ => ⟨S4x2048, .i32⟩
  | .hbm, ⟨34, _⟩ => ⟨S4x2048, .i32⟩
  | .hbm, ⟨35, _⟩ => ⟨S_, .i32⟩
  | .hbm, ⟨36, _⟩ => ⟨S4x2048, .i32⟩
  | .hbm, ⟨37, _⟩ => ⟨S4x2048, .i1⟩
  | .hbm, ⟨38, _⟩ => ⟨S4x2048, .i1⟩
  | .hbm, ⟨39, _⟩ => ⟨S_, .i32⟩
  | .hbm, ⟨40, _⟩ => ⟨S4x2048, .i32⟩
  | .hbm, ⟨41, _⟩ => ⟨S4x2048, .i32⟩
  | .hbm, ⟨42, _⟩ => ⟨S4x2048, .i32⟩
  | .hbm, ⟨43, _⟩ => ⟨S4x2048, .f32⟩
  | .hbm, ⟨44, _⟩ => ⟨S4x1x2048, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x1x2048, .f32⟩
  | .hbm, ⟨49, _⟩ => ⟨S4x1x2048, .f32⟩
  | .hbm, ⟨50, _⟩ => ⟨S4x512x2, .f32⟩
  | .hbm, ⟨51, _⟩ => ⟨S4x512x1, .f32⟩
  | .hbm, ⟨52, _⟩ => ⟨S4x512, .f32⟩
  | .local _ .vmem, ⟨0, _⟩ => ⟨S1x1x2048, .f32⟩
  | .local _ .vmem, ⟨1, _⟩ => ⟨S1x1x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2, .f32⟩
  | .local _ .vmem, ⟨13, _⟩ => ⟨S1x512x2, .f32⟩
  | .local _ .vmem, ⟨14, _⟩ => ⟨S1x512x1, .f32⟩
  | .local _ .vmem, ⟨15, _⟩ => ⟨S1x512x1, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10_0 : Ref sig .tc := ⟨.hbm, 50, rfl⟩
abbrev main_v10_1 : Ref sig .tc := ⟨.hbm, 51, rfl⟩
abbrev main_v11 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SelectReferenceIdeal.lean ====
abbrev S4x2048 : Shape := ⟨2, ![4, 2048]⟩
abbrev S_ : Shape := ⟨0, ![]⟩
abbrev S4x2048x1 : Shape := ⟨3, ![4, 2048, 1]⟩
abbrev S4x2048x2 : Shape := ⟨3, ![4, 2048, 2]⟩
abbrev S4x1x2048 : Shape := ⟨3, ![4, 1, 2048]⟩
abbrev S4x2048x2048 : Shape := ⟨3, ![4, 2048, 2048]⟩
abbrev S2048 : Shape := ⟨1, ![2048]⟩
abbrev S4x1 : Shape := ⟨2, ![4, 1]⟩
abbrev S1x2048 : Shape := ⟨2, ![1, 2048]⟩
abbrev S4x512 : Shape := ⟨2, ![4, 512]⟩
abbrev S4x512x1 : Shape := ⟨3, ![4, 512, 1]⟩
abbrev S1 : Shape := ⟨1, ![1]⟩
abbrev S1x1x1 : Shape := ⟨3, ![1, 1, 1]⟩
abbrev S4x512x2 : Shape := ⟨3, ![4, 512, 2]⟩

abbrev nBuf : Space → Nat
  | .hbm => 146
  | .vmem => 0
  | .smem => 0
  | _ => 0

abbrev hbmTy0_0 (i : Nat) : BufTy := match i % 128 with
  | 0 => ⟨S4x2048, .f32⟩
  | 1 => ⟨S4x2048, .i32⟩
  | 2 => ⟨S_, .i32⟩
  | 3 => ⟨S_, .i32⟩
  | 4 => ⟨S4x2048, .i32⟩
  | 5 => ⟨S4x2048, .i32⟩
  | 6 => ⟨S4x2048, .i32⟩
  | 7 => ⟨S_, .i32⟩
  | 8 => ⟨S4x2048, .i32⟩
  | 9 => ⟨S4x2048, .i1⟩
  | 10 => ⟨S4x2048, .i32⟩
  | 11 => ⟨S4x2048, .i32⟩
  | 12 => ⟨S_, .i32⟩
  | 13 => ⟨S4x2048, .i32⟩
  | 14 => ⟨S4x2048, .i1⟩
  | 15 => ⟨S4x2048, .i1⟩
  | 16 => ⟨S_, .i32⟩
  | 17 => ⟨S4x2048, .i32⟩
  | 18 => ⟨S4x2048, .i32⟩
  | 19 => ⟨S4x2048, .i32⟩
  | 20 => ⟨S4x2048, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S4x2048, .i32⟩
  | 28 => ⟨S4x2048, .i32⟩
  | 29 => ⟨S_, .i32⟩
  | 30 => ⟨S4x2048, .i32⟩
  | 31 => ⟨S4x2048, .i1⟩
  | 32 => ⟨S_, .i32⟩
  | 33 => ⟨S4x2048, .i32⟩
  | 34 => ⟨S4x2048, .i1⟩
  | 35 => ⟨S_, .i32⟩
  | 36 => ⟨S_, .i1⟩
  | 37 => ⟨S4x2048, .i1⟩
  | 38 => ⟨S4x2048, .i1⟩
  | 39 => ⟨S4x2048, .i1⟩
  | 40 => ⟨S4x2048, .i32⟩
  | 41 => ⟨S4x2048, .i32⟩
  | 42 => ⟨S4x2048, .i32⟩
  | 43 => ⟨S4x2048, .f32⟩
  | 44 => ⟨S4x2048x1, .f32⟩
  | 45 => ⟨S4x2048x1, .f32⟩
  | 46 => ⟨S4x2048x2, .f32⟩
  | 47 => ⟨S_, .f32⟩
  | 48 => ⟨S4x2048, .f32⟩
  | 49 => ⟨S4x2048, .i1⟩
  | 50 => ⟨S4x2048x2, .f32⟩
  | 51 => ⟨S_, .f32⟩
  | 52 => ⟨S4x2048, .f32⟩
  | 53 => ⟨S4x2048x1, .f32⟩
  | 54 => ⟨S4x1x2048, .f32⟩
  | 55 => ⟨S4x2048x2048, .f32⟩
  | 56 => ⟨S4x2048x2048, .f32⟩
  | 57 => ⟨S4x2048x2048, .f32⟩
  | 58 => ⟨S4x2048x2048, .f32⟩
  | 59 => ⟨S_, .f32⟩
  | 60 => ⟨S4x2048x2048, .f32⟩
  | 61 => ⟨S4x2048x2048, .f32⟩
  | 62 => ⟨S4x2048x2048, .f32⟩
  | 63 => ⟨S2048, .i32⟩
  | 64 => ⟨S_, .i32⟩
  | 65 => ⟨S_, .i32⟩
  | 66 => ⟨S4x2048x2048, .f32⟩
  | 67 => ⟨S2048, .i32⟩
  | 68 => ⟨S_, .i32⟩
  | 69 => ⟨S_, .i32⟩
  | 70 => ⟨S4x2048, .i1⟩
  | 71 => ⟨S_, .i32⟩
  | 72 => ⟨S_, .i1⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S4x1x2048, .f32⟩
  | 84 => ⟨S4x2048, .f32⟩
  | 85 => ⟨S_, .f32⟩
  | 86 => ⟨S4x2048, .f32⟩
  | 87 => ⟨S4x2048, .i1⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S4x1, .i1⟩
  | 96 => ⟨S4x2048, .i1⟩
  | 97 => ⟨S4x2048, .i1⟩
  | 98 => ⟨S_, .i32⟩
  | 99 => ⟨S2048, .i32⟩
  | 100 => ⟨S2048, .i1⟩
  | 101 => ⟨S1x2048, .i1⟩
  | 102 => ⟨S4x2048, .i1⟩
  | 103 => ⟨S4x2048, .i1⟩
  | 104 => ⟨S4x2048, .i1⟩
  | 105 => ⟨S4x2048, .i1⟩
  | 106 => ⟨S_, .i32⟩
  | 107 => ⟨S_, .i32⟩
  | 108 => ⟨S_, .f32⟩
  | 109 => ⟨S_, .f32⟩
  | 110 => ⟨S4x2048, .f32⟩
  | 111 => ⟨S4x2048, .f32⟩
  | 112 => ⟨S4x512, .f32⟩
  | 113 => ⟨S4x512, .i32⟩
  | 114 => ⟨S4x512x1, .i32⟩
  | 115 => ⟨S_, .i32⟩
  | 116 => ⟨S4x512x1, .i32⟩
  | 117 => ⟨S4x512x1, .i1⟩
  | 118 => ⟨S_, .i32⟩
  | 119 => ⟨S4x512x1, .i32⟩
  | 120 => ⟨S4x512x1, .i32⟩
  | 121 => ⟨S4x512x1, .i32⟩
  | 122 => ⟨S1, .i32⟩
  | 123 => ⟨S_, .i32⟩
  | 124 => ⟨S4x512x1, .i32⟩
  | 125 => ⟨S4x512x1, .i1⟩
  | 126 => ⟨S1x1x1, .i32⟩
  | 127 => ⟨S4x512x1, .i32⟩
  | _ => ⟨S4x2048, .f32⟩

abbrev hbmTy0_1 (i : Nat) : BufTy := match i % 128 with
  | 0 => ⟨S4x512x1, .i1⟩
  | 1 => ⟨S4x512x1, .i1⟩
  | 2 => ⟨S_, .i1⟩
  | 3 => ⟨S4x512, .i1⟩
  | 4 => ⟨S4x512x2, .f32⟩
  | 5 => ⟨S4x512x2, .i1⟩
  | 6 => ⟨S_, .f32⟩
  | 7 => ⟨S4x512x2, .f32⟩
  | 8 => ⟨S4x512x2, .f32⟩
  | 9 => ⟨S4x512x1, .f32⟩
  | 10 => ⟨S_, .f32⟩
  | 11 => ⟨S4x512x1, .f32⟩
  | 12 => ⟨S4x512x1, .i1⟩
  | 13 => ⟨S_, .f32⟩
  | 14 => ⟨S_, .f32⟩
  | 15 => ⟨S4x512x2, .i1⟩
  | 16 => ⟨S4x512x2, .f32⟩
  | 17 => ⟨S4x512x2, .f32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_1 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_c_3 : Ref sig .tc := ⟨.hbm, 64, rfl⟩
abbrev main_c_4 : Ref sig .tc := ⟨.hbm, 65, rfl⟩
abbrev main_v21_0 : Ref sig .tc := ⟨.hbm, 66, rfl⟩
abbrev main_v21_1 : Ref sig .tc := ⟨.hbm, 67, rfl⟩
abbrev main_v21_2 : Ref sig .tc := ⟨.hbm, 68, rfl⟩
abbrev main_v21_3 : Ref sig .tc := ⟨.hbm, 69, rfl⟩
abbrev main_v21_4 : Ref sig .tc := ⟨.hbm, 70, rfl⟩
abbrev main_while0c_c_12 : Ref sig .tc := ⟨.hbm, 71, rfl⟩
abbrev main_while0c_v29 : Ref sig .tc := ⟨.hbm, 72, rfl⟩
abbrev main_while0b_c_12 : Ref sig .tc := ⟨.hbm, 73, rfl⟩
abbrev main_while0b_v29 : Ref sig .tc := ⟨.hbm, 74, rfl⟩
abbrev main_while0b_call2_c : Ref sig .tc := ⟨.hbm, 75, rfl⟩
abbrev main_while0b_call2_v0 : Ref sig .tc := ⟨.hbm, 76, rfl⟩
abbrev main_while0b_call2_v1 : Ref sig .tc := ⟨.hbm, 77, rfl⟩
abbrev main_while0b_call2_c_0 : Ref sig .tc := ⟨.hbm, 78, rfl⟩
abbrev main_while0b_call2_v2 : Ref sig .tc := ⟨.hbm, 79, rfl⟩
abbrev main_while0b_call2_v3 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v4 : Ref sig .tc := ⟨.hbm, 83, rfl⟩
abbrev main_while0b_v30 : Ref sig .tc := ⟨.hbm, 84, rfl⟩
abbrev main_while0b_cst_13 : Ref sig .tc := ⟨.hbm, 85, rfl⟩
abbrev main_while0b_v31 : Ref sig .tc := ⟨.hbm, 86, rfl⟩
abbrev main_while0b_v32 : Ref sig .tc := ⟨.hbm, 87, rfl⟩
abbrev main_while0b_call3_c : Ref sig .tc := ⟨.hbm, 88, rfl⟩
abbrev main_while0b_call3_v0 : Ref sig .tc := ⟨.hbm, 89, rfl⟩
abbrev main_while0b_call3_v1 : Ref sig .tc := ⟨.hbm, 90, rfl⟩
abbrev main_while0b_call3_c_0 : Ref sig .tc := ⟨.hbm, 91, rfl⟩
abbrev main_while0b_call3_v2 : Ref sig .tc := ⟨.hbm, 92, rfl⟩
abbrev main_while0b_call3_v3 : Ref sig .tc := ⟨.hbm, 93, rfl⟩
abbrev main_while0b_call3_c_1 : Ref sig .tc := ⟨.hbm, 94, rfl⟩
abbrev main_while0b_v33 : Ref sig .tc := ⟨.hbm, 95, rfl⟩
abbrev main_while0b_v34 : Ref sig .tc := ⟨.hbm, 96, rfl⟩
abbrev main_while0b_v35 : Ref sig .tc := ⟨.hbm, 97, rfl⟩
abbrev main_while0b_v36 : Ref sig .tc := ⟨.hbm, 98, rfl⟩
abbrev main_while0b_v37 : Ref sig .tc := ⟨.hbm, 99, rfl⟩
abbrev main_while0b_v38 : Ref sig .tc := ⟨.hbm, 100, rfl⟩
abbrev main_while0b_v39 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_c_14 : Ref sig .tc := ⟨.hbm, 106, rfl⟩
abbrev main_while0b_v44 : Ref sig .tc := ⟨.hbm, 107, rfl⟩
abbrev main_cst_5 : Ref sig .tc := ⟨.hbm, 108, rfl⟩
abbrev main_call4_v0 : Ref sig .tc := ⟨.hbm, 109, rfl⟩
abbrev main_call4_v1 : Ref sig .tc := ⟨.hbm, 110, rfl⟩
abbrev main_v22 : Ref sig .tc := ⟨.hbm, 111, rfl⟩
abbrev main_values : Ref sig .tc := ⟨.hbm, 112, rfl⟩
abbrev main_indices : Ref sig .tc := ⟨.hbm, 113, rfl⟩
abbrev main_v23 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_c_1 : Ref sig .tc := ⟨.hbm, 122, rfl⟩
abbrev main_call5_c_2 : Ref sig .tc := ⟨.hbm, 123, rfl⟩
abbrev main_call5_v5 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_c_3 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_cst : Ref sig .tc := ⟨.hbm, 134, rfl⟩
abbrev main_call5_v14 : Ref sig .tc := ⟨.hbm, 135, rfl⟩
abbrev main_v24 : Ref sig .tc := ⟨.hbm, 136, rfl⟩
abbrev main_v25 : Ref sig .tc := ⟨.hbm, 137, rfl⟩
abbrev main_cst_6 : Ref sig .tc := ⟨.hbm, 138, rfl⟩
abbrev main_v26 : Ref sig .tc := ⟨.hbm, 139, rfl⟩
abbrev main_v27 : Ref sig .tc := ⟨.hbm, 140, rfl⟩
abbrev main_cst_7 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v28 : Ref sig .tc := ⟨.hbm, 145, rfl⟩

abbrev nD : Nat := 1
abbrev τ : Topo := Topo.v7x

variable {F : FTy → Type} [FloatOps F]

abbrev main_while0_count : Scf.Loop 32 := ⟨0#32, 2048#32, 1#32⟩
-- ==== Proof.Lanes.lean ====
/-
  Facts about sixteen lanes taken one after the other: an invariant of a fold over the lanes, the running sum and
  the running maximum of a vector of words, and a scatter of sixteen lanes one lane at a time.
-/
module

public import Idealize.ShloMosaic.PureOps.ShapeOps
public import Mathlib.Data.Nat.Count
public import Mathlib.Algebra.BigOperators.Intervals

@[expose] public section

namespace Cert.Proof

open Idealize.ShloMosaic

/-- An invariant that each lane's step carries from `k` to `k + 1` holds of a fold over all the lanes. -/
theorem foldl_lanes {α : Type*} : ∀ (n : ℕ) (step : α → Fin n → α) (P : ℕ → α → Prop) (a : α),
    P 0 a → (∀ (k : Fin n) (b : α), P k.val b → P (k.val + 1) (step b k)) → P n ((List.finRange n).foldl step a)
  | 0, _, _, _, h0, _ => by simpa using h0
  | n + 1, step, P, a, h0, hs => by
    rw [List.finRange_succ_last, List.foldl_append, List.foldl_map]
    refine hs (Fin.last n) _ ?_
    exact foldl_lanes n (fun b k => step b k.castSucc) P a h0 fun k b h => hs k.castSucc b h

/-- The shape of sixteen lanes. -/
abbrev L16 : Shape := ⟨1, ![16]⟩

/-- Lane `k`, as an index of the sixteen lanes. -/
abbrev lane (k : Fin 16) : L16.Idx := Shape.ofLane (d := ![16]) k

/-- Every index of the sixteen lanes is the lane that its one coordinate names. -/
theorem eq_lane (i : L16.Idx) : i = lane (i 0) := by
  funext a
  have ha : a = 0 := Fin.eq_zero a
  subst ha
  rfl

/-- The running sum of sixteen words that are naturals: at lane `i` the natural sum of lanes `0` to `i`. -/
theorem scan_sum (v : IVec L16 32) (a : ℕ → ℕ) (hv : ∀ k : Fin 16, v (lane k) = BitVec.ofNat 32 (a k.val)) (i : Fin 16) :
    scan .sum v (lane i) = BitVec.ofNat 32 (∑ k ∈ Finset.range (i.val + 1), a k) := by
  unfold scan
  simp only [List.foldl_filter]
  have h := foldl_lanes 16
    (fun (r : BitVec 32) (k : Fin 16) => if decide (0 < k.val ∧ k.val ≤ i.val) = true then ScanKind.sum.step r (v (lane k)) else r)
    (fun k r => r = BitVec.ofNat 32 (∑ m ∈ Finset.range (max 1 (min k (i.val + 1))), a m)) (v (lane 0))
    (by simp [hv 0]) (by
      intro k b hb
      by_cases hk : 0 < k.val ∧ k.val ≤ i.val
      · simp only [hk, and_self, decide_true, if_true]
        have e1 : max 1 (min k.val (i.val + 1)) = k.val := by omega
        have e2 : max 1 (min (k.val + 1) (i.val + 1)) = k.val + 1 := by omega
        rw [e1] at hb
        rw [e2, Finset.sum_range_succ, hb, hv k]
        simp [ScanKind.step, IntOp.addi, BitVec.ofNat_add]
      · have e : max 1 (min (k.val + 1) (i.val + 1)) = max 1 (min k.val (i.val + 1)) := by omega
        simp only [hk, decide_false, e]
        simpa using hb)
  have e : max 1 (min 16 (i.val + 1)) = i.val + 1 := by omega
  rw [e] at h
  exact h

/-- The running unsigned maximum of sixteen words that do not descend is the vector itself. -/
theorem scan_max (v : IVec L16 32) (hv : ∀ k k' : Fin 16, k ≤ k' → (v (lane k)).toNat ≤ (v (lane k')).toNat) (i : Fin 16) :
    scan .max v (lane i) = v (lane i) := by
  unfold scan
  simp only [List.foldl_filter]
  have h := foldl_lanes 16
    (fun (r : BitVec 32) (k : Fin 16) => if decide (0 < k.val ∧ k.val ≤ i.val) = true then ScanKind.max.step r (v (lane k)) else r)
    (fun k r => r = v (lane ⟨min (k - 1) i.val, by omega⟩)) (v (lane 0))
    (by simp) (by
      intro k b hb
      by_cases hk : 0 < k.val ∧ k.val ≤ i.val
      · simp only [hk, and_self, decide_true, if_true]
        have e2 : (⟨min (k.val + 1 - 1) i.val, by omega⟩ : Fin 16) = k := by ext; simp; omega
        rw [e2]
        have hle : b.toNat ≤ (v (lane k)).toNat := by
          rw [hb]; apply hv; rw [Fin.le_def]; simp
        simp only [ScanKind.step, IntOp.maxui]
        split
        · rename_i hh
          have := BitVec.toNat_inj.mp (show b.toNat = (v (lane k)).toNat by
            first | (have := BitVec.le_def.mp hh; omega) | (have := BitVec.lt_def.mp hh; omega) | (simp [BitVec.ult, BitVec.ule] at hh; omega))
          exact this
        · rfl
      · have e : (⟨min (k.val + 1 - 1) i.val, by omega⟩ : Fin 16) = ⟨min (k.val - 1) i.val, by omega⟩ := by ext; simp; omega
        simp only [hk, decide_false, e]
        simpa using hb)
  have e : (⟨min (16 - 1) i.val, by omega⟩ : Fin 16) = i := by ext; simp; omega
  rw [e] at h
  exact h

section Scatter
variable {F : FTy → Type} [FloatOps F]

/-- An invariant that each lane's step of a scatter carries on holds of the scatter. A masked-off lane leaves the
    contents; a lane whose bit is set puts one word, or adds one, at the place its index names. -/
theorem storeIdx_lanes {n : ℕ} {e : EltTy} (f : Vec F ⟨1, ![n]⟩ e) (idx : IVec L16 32) (v : Vec F L16 e) (mask : IVec L16 1) (add : Bool)
    (h : ∀ a x, ((![idx] : Fin 1 → IVec L16 32) a x).toNat < (⟨1, ![n]⟩ : Shape).size a)
    (P : ℕ → Vec F ⟨1, ![n]⟩ e → Prop) (h0 : P 0 f)
    (hoff : ∀ (k : Fin 16) (g : Vec F ⟨1, ![n]⟩ e), P k.val g → mask (lane k) ≠ 1 → P (k.val + 1) g)
    (hon : ∀ (k : Fin 16) (g : Vec F ⟨1, ![n]⟩ e) (i : (⟨1, ![n]⟩ : Shape).Idx), (i 0).val = (idx (lane k)).toNat → P k.val g → mask (lane k) = 1 →
      P (k.val + 1) (fun j => if (j 0).val = (idx (lane k)).toNat then (if add then Elt.idxAdd e (g i) (v (lane k)) else v (lane k)) else g j)) :
    P 16 (storeIdx f ![idx] v mask add h) := by
  unfold storeIdx
  refine foldl_lanes 16 _ P f h0 fun k g hg => ?_
  by_cases hm : mask (lane k) = 1
  · have hm' : mask (Shape.ofLane k) = 1 := hm
    simp only [hm', if_true]
    have := hon k g (idxAt ![idx] h (lane k)) rfl hg hm
    convert this using 3
    · simp only [Fin.forall_fin_one]
      rfl
  · have hm' : ¬ mask (Shape.ofLane k) = 1 := hm
    simp only [hm', if_false]
    exact hoff k g hg hm

end Scatter

end Cert.Proof
-- ==== Proof.Shard.lean ====
/-
  What one tile makes of its shard of 262144 pixels, as plain functions: the 4096-bin histogram, the threshold that
  the scan from the top finds, and the list of kept pixels with the two slot arrays that hold it. Each of the
  kernel's loop steps is then one equation between these functions.
-/
module

public import proofs.«01_k».proof.Proof.Lanes
public import Idealize.ShloMosaic.Lib.Pointwise

@[expose] public section

namespace Cert.Proof

open Idealize.ShloMosaic

/-- How many pixels a shard has. -/
abbrev shardSize : ℕ := 262144

section Words
variable {F : FTy → Type} [FloatOps F]

/-- A pixel times 4096. -/
def scaled (v : F .f32) : F .f32 := FloatOps.mulf v (Scalar.ofBits .f32 0x45800000#32)

/-- The bin of a pixel: the integer part of 4096 times it, at most 4095. -/
def binWord (v : F .f32) : BitVec 32 := IntOp.minsi (FloatOps.fptosi 32 (scaled v)) 4095#32

/-- Whether a pixel is kept under the threshold `t`: 4096 times it is at least `t`. -/
def keepBit (t : BitVec 32) (v : F .f32) : BitVec 1 := FloatOps.cmpf .oge (scaled v) (Scalar.sitofp .f32 t)

/-- `nat n` is the float that counts `n`: counting by adding one is exact up to the size of a shard, and a count reads
    back as its word. -/
structure Exact (nat : ℕ → F .f32) : Prop where
  zero : nat 0 = Scalar.ofBits .f32 0x00000000#32
  succ : ∀ n < shardSize, FloatOps.idxAddf (nat n) (Scalar.ofBits .f32 0x3F800000#32) = nat (n + 1)
  word : ∀ n ≤ shardSize, FloatOps.fptosi 32 (nat n) = BitVec.ofNat 32 n

/-- Thirty-two thousand pixels from pixel `n0` on, as a tile holds them. -/
def chunk (px : ℕ → F .f32) (n0 : ℕ) : Vec F ⟨1, ![32768]⟩ .f32 := fun j => px (n0 + (j 0).val)

/-! ## The histogram -/

/-- The bin of pixel `n`, a natural number. -/
def bin (px : ℕ → F .f32) (n : ℕ) : ℕ := (binWord (px n)).toNat

/-- The histogram of the first `N` pixels. -/
def histAt (nat : ℕ → F .f32) (px : ℕ → F .f32) (N : ℕ) : Vec F ⟨1, ![4096]⟩ .f32 :=
  fun j => nat (Nat.count (fun n => bin px n = (j 0).val) N)

/-- The histogram of no pixels is all zeros. -/
theorem histAt_zero {nat : ℕ → F .f32} (he : Exact nat) (px : ℕ → F .f32) :
    histAt nat px 0 = fun _ => Scalar.ofBits .f32 0x00000000#32 := by
  funext j
  simp [histAt, he.zero]

/-- Sixteen ones scattered with add at the bins of sixteen pixels count these pixels. -/
theorem histAt_step {nat : ℕ → F .f32} (he : Exact nat) (px : ℕ → F .f32) (N : ℕ) (hN : N + 16 ≤ shardSize)
    (idx : IVec L16 32) (hidx : ∀ k : Fin 16, idx (lane k) = binWord (px (N + k.val)))
    (h : ∀ a x, ((![idx] : Fin 1 → IVec L16 32) a x).toNat < (⟨1, ![4096]⟩ : Shape).size a) :
    storeIdx (F := F) (e := .f32) (histAt nat px N) ![idx] (fun _ => Scalar.ofBits .f32 0x3F800000#32) (fun _ => 1#1) true h
      = histAt nat px (N + 16) := by
  refine storeIdx_lanes (F := F) (e := .f32) (histAt nat px N) idx (fun _ => Scalar.ofBits .f32 0x3F800000#32) (fun _ => 1#1) true h
    (fun k g => g = histAt nat px (N + k)) rfl (fun k g _ hm => absurd rfl hm) ?_
  intro k g i hi hg _
  subst hg
  funext j
  simp only [if_true, Elt.idxAdd_f32]
  have hb : (idx (lane k)).toNat = bin px (N + k.val) := by rw [hidx]; rfl
  by_cases hj : (j 0).val = (idx (lane k)).toNat
  · rw [if_pos hj]
    have hij : (i 0).val = (j 0).val := hi.trans hj.symm
    simp only [histAt, hij, ← Nat.add_assoc]
    rw [Nat.count_succ, if_pos (by rw [hj, hb])]
    refine he.succ _ (lt_of_le_of_lt (Nat.count_le _) ?_)
    have := k.isLt
    omega
  · rw [if_neg hj]
    simp only [histAt, ← Nat.add_assoc]
    rw [Nat.count_succ, if_neg (by rw [← hb]; exact fun e => hj e.symm), Nat.add_zero]

/-! ## The threshold -/

/-- How many of the shard's pixels lie in bin `16 g` or above. -/
def above (px : ℕ → F .f32) (g : ℕ) : ℕ := Nat.count (fun n => 16 * g ≤ bin px n) shardSize

/-- The last group of sixteen bins, counted from below, with at least 2048 pixels in it or above. -/
def level (px : ℕ → F .f32) : ℕ := Nat.findGreatest (fun g => 2048 ≤ above px g) 255

theorem count_split (f : ℕ → ℕ) (a N : ℕ) :
    Nat.count (fun n => a ≤ f n) N = Nat.count (fun n => f n = a) N + Nat.count (fun n => a + 1 ≤ f n) N := by
  induction N with
  | zero => simp
  | succ N ih =>
    rw [Nat.count_succ, Nat.count_succ, Nat.count_succ, ih]
    by_cases h1 : f N = a
    · have h2 : ¬ (a + 1 ≤ f N) := by omega
      have h3 : a ≤ f N := by omega
      simp only [h1, h2, h3, if_true, if_false]
      simp
      omega
    · by_cases h2 : a + 1 ≤ f N
      · have h3 : a ≤ f N := by omega
        simp only [h1, h2, h3, if_true, if_false]
        omega
      · have h3 : ¬ a ≤ f N := by omega
        simp only [h1, h2, h3, if_false, Nat.add_zero]

/-- The pixels at or above a bin are those of the next `m` bins and those above them. -/
theorem count_group (f : ℕ → ℕ) (a m N : ℕ) :
    Nat.count (fun n => a ≤ f n) N = ∑ k ∈ Finset.range m, Nat.count (fun n => f n = a + k) N + Nat.count (fun n => a + m ≤ f n) N := by
  induction m with
  | zero => simp
  | succ m ih =>
    rw [ih, Finset.sum_range_succ, count_split f (a + m) N]
    simp only [Nat.add_assoc]

theorem above_group (px : ℕ → F .f32) (g : ℕ) :
    above px g = ∑ k ∈ Finset.range 16, Nat.count (fun n => bin px n = 16 * g + k) shardSize + above px (g + 1) := by
  have := count_group (bin px) (16 * g) 16 shardSize
  simpa only [above, Nat.mul_add, Nat.mul_one] using this

theorem above_anti (px : ℕ → F .f32) {g g' : ℕ} (h : g ≤ g') : above px g' ≤ above px g :=
  Nat.count_mono_left (by intros; omega)

theorem above_le (px : ℕ → F .f32) (g : ℕ) : above px g ≤ shardSize := Nat.count_le _

theorem above_zero (px : ℕ → F .f32) : above px 0 = shardSize := by
  unfold above
  rw [Nat.count_eq_card_filter_range, Finset.filter_true_of_mem (by intros; omega), Finset.card_range]

theorem above_top (px : ℕ → F .f32) (hb : ∀ n < shardSize, bin px n < 4096) : above px 256 = 0 := by
  unfold above
  rw [Nat.count_eq_card_filter_range, Finset.card_eq_zero, Finset.filter_eq_empty_iff]
  intro n hn h
  have := hb n (Finset.mem_range.mp hn)
  omega

/-- The threshold as the scan has it once it has come down to group `g`. -/
def found (px : ℕ → F .f32) (g : ℕ) : ℕ := if 2048 ≤ above px g then 16 * level px else 0

theorem level_le (px : ℕ → F .f32) : level px ≤ 255 := Nat.findGreatest_le 255

theorem above_level (px : ℕ → F .f32) : 2048 ≤ above px (level px) := by
  refine Nat.findGreatest_spec (P := fun g => 2048 ≤ above px g) (m := 0) (Nat.zero_le _) ?_
  show 2048 ≤ above px 0
  rw [above_zero]
  decide

theorem above_level_succ (px : ℕ → F .f32) (hb : ∀ n < shardSize, bin px n < 4096) : above px (level px + 1) < 2048 := by
  by_cases h : level px + 1 ≤ 255
  · have := Nat.findGreatest_is_greatest (P := fun g => 2048 ≤ above px g) (n := 255) (k := level px + 1) (Nat.lt_succ_self _) h
    omega
  · have h1 := level_le px
    have : level px + 1 = 256 := by omega
    rw [this, above_top px hb]
    decide

theorem level_eq (px : ℕ → F .f32) {g : ℕ} (hg : g ≤ 255) (h1 : 2048 ≤ above px g) (h2 : above px (g + 1) < 2048) : level px = g := by
  refine le_antisymm ?_ (Nat.le_findGreatest hg h1)
  by_contra hc
  have h3 := above_anti px (show g + 1 ≤ level px by omega)
  have h4 := above_level px
  omega

/-- One step of the scan: the words that it carries from group `g + 1` to group `g`. -/
theorem found_step (px : ℕ → F .f32) {g : ℕ} (hg : g ≤ 255) :
    found px g = if 2048 ≤ above px g ∧ above px (g + 1) < 2048 then 16 * g else found px (g + 1) := by
  unfold found
  by_cases h1 : 2048 ≤ above px g
  · by_cases h2 : above px (g + 1) < 2048
    · rw [if_pos h1, if_pos ⟨h1, h2⟩, level_eq px hg h1 h2]
    · rw [if_pos h1, if_neg (fun h => h2 h.2), if_pos (by omega)]
  · have := above_anti px (show g ≤ g + 1 by omega)
    rw [if_neg h1, if_neg (fun h => h1 h.1), if_neg (by omega)]

theorem found_zero (px : ℕ → F .f32) : found px 0 = 16 * level px := by
  unfold found
  rw [if_pos]
  rw [above_zero]
  decide

theorem found_top (px : ℕ → F .f32) (hb : ∀ n < shardSize, bin px n < 4096) : found px 256 = 0 := by
  unfold found
  rw [above_top px hb]
  rfl

/-! ## The kept pixels -/

/-- The kept ones of the first `N` pixels, in order. -/
def kept (px : ℕ → F .f32) (t : BitVec 32) (N : ℕ) : List ℕ := (List.range N).filter fun n => decide (keepBit t (px n) = 1#1)

theorem kept_succ (px : ℕ → F .f32) (t : BitVec 32) (N : ℕ) :
    kept px t (N + 1) = if keepBit t (px N) = 1#1 then kept px t N ++ [N] else kept px t N := by
  unfold kept
  rw [List.range_succ, List.filter_append]
  by_cases h : keepBit t (px N) = 1#1
  · simp [h]
  · simp [h]

/-- One if the pixel is kept, else zero. -/
def keepNat (t : BitVec 32) (v : F .f32) : ℕ := (keepBit t v).toNat

theorem length_kept_succ (px : ℕ → F .f32) (t : BitVec 32) (N : ℕ) :
    (kept px t (N + 1)).length = (kept px t N).length + keepNat t (px N) := by
  rw [kept_succ]
  unfold keepNat
  rcases BitVec.eq_zero_or_eq_one (keepBit t (px N)) with h | h <;> rw [h] <;> simp

theorem length_kept_add (px : ℕ → F .f32) (t : BitVec 32) (N m : ℕ) :
    (kept px t (N + m)).length = (kept px t N).length + ∑ k ∈ Finset.range m, keepNat t (px (N + k)) := by
  induction m with
  | zero => simp
  | succ m ih => rw [← Nat.add_assoc, length_kept_succ, ih, Finset.sum_range_succ, Nat.add_assoc]

theorem length_kept_mono (px : ℕ → F .f32) (t : BitVec 32) {N N' : ℕ} (h : N ≤ N') : (kept px t N).length ≤ (kept px t N').length := by
  obtain ⟨m, rfl⟩ := Nat.exists_eq_add_of_le h
  rw [length_kept_add]
  omega

theorem length_kept_le (px : ℕ → F .f32) (t : BitVec 32) (N : ℕ) : (kept px t N).length ≤ N := by
  unfold kept
  exact (List.length_filter_le _ _).trans (by simp)

/-- The slots of values once the first `N` pixels are through: the kept pixels in order, then −1. -/
def valsAt (px : ℕ → F .f32) (t : BitVec 32) (N : ℕ) : Vec F ⟨1, ![4096]⟩ .f32 :=
  fun j => ((kept px t N)[(j 0).val]?).elim (Scalar.ofBits .f32 0xBF800000#32) px

/-- The slots of positions: the kept pixels' positions in the image, whose shard starts at `base`, then 0. -/
def idxsAt (px : ℕ → F .f32) (t : BitVec 32) (base N : ℕ) : IVec ⟨1, ![4096]⟩ 32 :=
  fun j => ((kept px t N)[(j 0).val]?).elim 0#32 fun n => BitVec.ofNat 32 (base + n)

theorem valsAt_zero (px : ℕ → F .f32) (t : BitVec 32) : valsAt px t 0 = fun _ => Scalar.ofBits .f32 0xBF800000#32 := by
  funext j; simp [valsAt, kept]

theorem idxsAt_zero (px : ℕ → F .f32) (t : BitVec 32) (base : ℕ) : idxsAt px t base 0 = fun _ => 0#32 := by
  funext j; simp [idxsAt, kept]

/-- One lane's step on a slot array. -/
theorem elim_append {α : Type*} (l : List ℕ) (n j : ℕ) (z : α) (f : ℕ → α) :
    ((l ++ [n])[j]?).elim z f = if j = l.length then f n else (l[j]?).elim z f := by
  by_cases h : j = l.length
  · subst h; simp
  · rw [if_neg h]
    rcases lt_or_gt_of_ne h with h1 | h1
    · rw [List.getElem?_append_left h1]
    · rw [List.getElem?_eq_none (by simp; omega), List.getElem?_eq_none (by omega)]

/-- The words of sixteen lanes' places: the count so far and the kept lanes before. -/
theorem valsAt_step (px : ℕ → F .f32) (t : BitVec 32) (N : ℕ) (idx : IVec L16 32) (v : Vec F L16 .f32) (mask : IVec L16 1)
    (hidx : ∀ k : Fin 16, (idx (lane k)).toNat = (kept px t (N + k.val)).length)
    (hmask : ∀ k : Fin 16, mask (lane k) = keepBit t (px (N + k.val))) (hv : ∀ k : Fin 16, v (lane k) = px (N + k.val))
    (h : ∀ a x, ((![idx] : Fin 1 → IVec L16 32) a x).toNat < (⟨1, ![4096]⟩ : Shape).size a) :
    storeIdx (F := F) (e := .f32) (valsAt px t N) ![idx] v mask false h = valsAt px t (N + 16) := by
  refine storeIdx_lanes (F := F) (e := .f32) (valsAt px t N) idx v mask false h (fun k g => g = valsAt px t (N + k)) rfl ?_ ?_
  · intro k g hg hm
    rw [hmask] at hm
    replace hm : ¬ keepBit t (px (N + k.val)) = 1#1 := hm
    rw [hg]
    funext j
    simp only [valsAt, ← Nat.add_assoc]
    rw [kept_succ, if_neg hm]
  · intro k g i hi hg hm
    rw [hmask] at hm
    replace hm : keepBit t (px (N + k.val)) = 1#1 := hm
    subst hg
    funext j
    simp only [valsAt, ← Nat.add_assoc]
    rw [kept_succ, if_pos hm, elim_append, hidx, hv]
    rfl

theorem idxsAt_step (px : ℕ → F .f32) (t : BitVec 32) (base N : ℕ) (idx : IVec L16 32) (v : IVec L16 32) (mask : IVec L16 1)
    (hidx : ∀ k : Fin 16, (idx (lane k)).toNat = (kept px t (N + k.val)).length)
    (hmask : ∀ k : Fin 16, mask (lane k) = keepBit t (px (N + k.val))) (hv : ∀ k : Fin 16, v (lane k) = BitVec.ofNat 32 (base + (N + k.val)))
    (h : ∀ a x, ((![idx] : Fin 1 → IVec L16 32) a x).toNat < (⟨1, ![4096]⟩ : Shape).size a) :
    storeIdx (F := F) (e := .i32) (idxsAt px t base N) ![idx] v mask false h = idxsAt px t base (N + 16) := by
  refine storeIdx_lanes (F := F) (e := .i32) (idxsAt px t base N) idx v mask false h (fun k g => g = idxsAt px t base (N + k)) rfl ?_ ?_
  · intro k g hg hm
    rw [hmask] at hm
    replace hm : ¬ keepBit t (px (N + k.val)) = 1#1 := hm
    rw [hg]
    funext j
    simp only [idxsAt, ← Nat.add_assoc]
    rw [kept_succ, if_neg hm]
  · intro k g i hi hg hm
    rw [hmask] at hm
    replace hm : keepBit t (px (N + k.val)) = 1#1 := hm
    subst hg
    funext j
    simp only [idxsAt, ← Nat.add_assoc]
    rw [kept_succ, if_pos hm, elim_append, hidx, hv]
    rfl

/-- What a shard must be for a tile to run through: every bin is one of the 4096, and the kept pixels leave a slot
    free. -/
structure Fits (px : ℕ → F .f32) : Prop where
  bins : ∀ n < shardSize, bin px n < 4096
  room : (kept px (BitVec.ofNat 32 (16 * level px)) shardSize).length < 4096

end Words

end Cert.Proof
-- ==== Proof.LaneWords.lean ====
/-
  The words that the tile computes from sixteen lanes: the places of the kept lanes, how many lanes are kept, and how
  many pixels sixteen neighbouring bins hold. The vector operations are spelt as the program spells them.
-/
module

public import proofs.«01_k».proof.Proof.Shard
public import Idealize.ShloMosaic.Lib.SortNet.Words

@[expose] public section

namespace Cert.Proof

open Idealize.ShloMosaic

section
variable {F : FTy → Type} [FloatOps F]

/-- The prefix sums of the kept lanes are the growth of the list of kept pixels. -/
theorem scan_keep (px : ℕ → F .f32) (t : BitVec 32) (N : ℕ) (m : IVec L16 32)
    (hm : ∀ k : Fin 16, m (lane k) = BitVec.ofNat 32 (keepNat t (px (N + k.val)))) (k : Fin 16) :
    scan .sum m (lane k) = BitVec.ofNat 32 ((kept px t (N + (k.val + 1))).length - (kept px t N).length) := by
  rw [scan_sum m (fun k => keepNat t (px (N + k))) hm k, length_kept_add]
  congr 1
  omega

theorem extui_keep (t : BitVec 32) (v : F .f32) : (keepBit t v).setWidth 32 = BitVec.ofNat 32 (keepNat t v) := by
  unfold keepNat
  rcases BitVec.eq_zero_or_eq_one (keepBit t v) with h | h <;> rw [h] <;> rfl

/-- The place of each lane: the count so far with the kept lanes before it. -/
theorem place_lane (px : ℕ → F .f32) (t : BitVec 32) (N : ℕ) (hN : N + 16 ≤ shardSize) (m : IVec L16 32)
    (hm : ∀ k : Fin 16, m (lane k) = BitVec.ofNat 32 (keepNat t (px (N + k.val)))) (k : Fin 16) :
    (subi (addi (broadcast L16 (BitVec.ofNat 32 (kept px t N).length)) (scan .sum m)) m (lane k)) = BitVec.ofNat 32 (kept px t (N + k.val)).length := by
  show IntOp.subi (IntOp.addi (BitVec.ofNat 32 (kept px t N).length) (scan .sum m (lane k))) (m (lane k)) = _
  rw [scan_keep px t N m hm, hm]
  have h1 := length_kept_succ px t (N + k.val)
  have h2 := length_kept_mono px t (show N ≤ N + k.val by omega)
  have h3 := length_kept_le px t (N + (k.val + 1))
  rw [← Nat.add_assoc] at h3 ⊢
  have hk := k.isLt
  rw [h1] at h3 ⊢
  have h4 : keepNat t (px (N + k.val)) ≤ 1 := by unfold keepNat; have := (keepBit t (px (N + k.val))).isLt; omega
  apply BitVec.eq_of_toNat_eq
  simp only [IntOp.subi, IntOp.addi, BitVec.toNat_sub, BitVec.toNat_add, BitVec.toNat_ofNat]
  omega

/-- The sign bit flipped on a small natural adds it. -/
theorem toNat_flip (a : ℕ) (h : a < 2 ^ 31) : (IntOp.xori (BitVec.ofNat 32 a) 2147483648#32).toNat = a + 2 ^ 31 := by
  unfold IntOp.xori
  rw [BitVec.toNat_xor, BitVec.toNat_ofNat, BitVec.toNat_ofNat, Nat.mod_eq_of_lt (by omega), show 2147483648 % 2 ^ 32 = 2 ^ 31 by norm_num,
    SortNet.xor_two_pow_top (q := 31) a (by omega), if_pos h]

theorem flip_lane (x : IVec L16 32) (i : L16.Idx) : xori x (broadcast L16 2147483648#32) i = IntOp.xori (x i) 2147483648#32 := rfl

/-- How many of sixteen lanes are kept, read off the last lane of the running sum through a running maximum. -/
theorem grown (px : ℕ → F .f32) (t : BitVec 32) (N : ℕ) (hN : N + 16 ≤ shardSize) (m : IVec L16 32)
    (hm : ∀ k : Fin 16, m (lane k) = BitVec.ofNat 32 (keepNat t (px (N + k.val)))) :
    IntOp.addi (BitVec.ofNat 32 (kept px t N).length)
      (xori (scan .max (xori (scan .sum m) (broadcast L16 2147483648#32))) (broadcast L16 2147483648#32) (lane 15))
      = BitVec.ofNat 32 (kept px t (N + 16)).length := by
  have hlt : ∀ k : Fin 16, (kept px t (N + (k.val + 1))).length - (kept px t N).length < 2 ^ 31 := fun k => by
    have := length_kept_le px t (N + (k.val + 1))
    have := k.isLt
    simp only [shardSize] at hN
    omega
  have hx : ∀ k : Fin 16, (xori (scan .sum m) (broadcast L16 2147483648#32) (lane k)).toNat
      = (kept px t (N + (k.val + 1))).length - (kept px t N).length + 2 ^ 31 := fun k => by
    rw [flip_lane, scan_keep px t N m hm]
    have h := hlt k
    generalize (kept px t (N + (k.val + 1))).length - (kept px t N).length = a at h
    exact toNat_flip a h
  have hmax := scan_max (xori (scan .sum m) (broadcast L16 2147483648#32)) (fun k k' hk => by
    rw [hx, hx]
    have := length_kept_mono px t (show N + (k.val + 1) ≤ N + (k'.val + 1) by rw [Fin.le_def] at hk; omega)
    omega) 15
  rw [flip_lane, hmax, flip_lane]
  rw [show ∀ b c : BitVec 32, IntOp.xori (IntOp.xori b c) c = b from fun b c => by simp [IntOp.xori, BitVec.xor_assoc]]
  rw [scan_keep px t N m hm]
  have := length_kept_mono px t (show N ≤ N + 16 by omega)
  have e : ((15 : Fin 16).val + 1) = 16 := rfl
  rw [e]
  unfold IntOp.addi
  rw [← BitVec.ofNat_add, Nat.add_sub_cancel' this]

/-- A running sum of sixteen bins' counts, read at its last lane. -/
theorem group_count {nat : ℕ → F .f32} (he : Exact nat) (px : ℕ → F .f32) (g : ℕ) (v : IVec L16 32)
    (hv : ∀ k : Fin 16, v (lane k) = FloatOps.fptosi 32 (nat (Nat.count (fun n => bin px n = 16 * g + k.val) shardSize))) :
    BitVec.ofNat 32 (above px (g + 1)) + scan .sum v (lane 15) = BitVec.ofNat 32 (above px g) := by
  rw [scan_sum v (fun k => Nat.count (fun n => bin px n = 16 * g + k) shardSize)
    (fun k => by rw [hv]; exact he.word _ (Nat.count_le _)) 15, above_group px g, ← BitVec.ofNat_add, Nat.add_comm]
  rfl

end

end Cert.Proof
-- ==== Proof.Setup.lean ====
/-
  The kernel's launch as the proof sees it: the label table, the variants, the ghost state (the launch's rounds beside
  the transfers' counters), a tile's own memory and semaphores by name, and the shard of the image that a tile reads.
-/
module

public import proofs.«01_k».proof.Defs
public import proofs.«01_k».proof.Proof.LaneWords
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Kit

@[expose] public section

noncomputable section

namespace Cert.Proof

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The arrays that the tiles read and write, as the TensorCore names them: the pixels, the values, the positions. -/
abbrev xLoc (d : Dev nD) : Loc nD τ sig := (SparseCore.T d).loc main_v1
abbrev vLoc (d : Dev nD) : Loc nD τ sig := (SparseCore.T d).loc main_v2_0
abbrev pLoc (d : Dev nD) : Loc nD τ sig := (SparseCore.T d).loc main_v2_1

/-- The same as a tile names them. -/
abbrev xM : Memref sig .scVector .hbm S4x2097152 .f32 := Memref.whole main_v1_scv
abbrev vM : Memref sig .scVector .hbm S4x32768 .f32 := Memref.whole main_v2_0_scv
abbrev pM : Memref sig .scVector .hbm S4x32768 .i32 := Memref.whole main_v2_1_scv
/-- A tile's own memory: the chunk of pixels, the histogram, the kept values, the kept positions. -/
abbrev cM : Memref sig .scVector .vmem S32768 .f32 := Memref.whole cc0_scratch0
abbrev hM : Memref sig .scVector .vmem S4096 .f32 := Memref.whole cc0_scratch1
abbrev wM : Memref sig .scVector .vmem S4096 .f32 := Memref.whole cc0_scratch2
abbrev iM : Memref sig .scVector .vmem S4096 .i32 := Memref.whole cc0_scratch3

/-- The SparseCore and the subcore of the tile at grid coordinates `L`, and its thread. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-- The tile's number, the image it works on and the shard of that image. -/
def wid (L : grid0.Coords) : ℕ := (L 0).val * 16 + (L 1).val
theorem wid_lt (L : grid0.Coords) : wid L < 32 := by
  have h0 : (L 0).val < 2 := (L 0).isLt
  have h1 : (L 1).val < 16 := (L 1).isLt
  unfold wid; omega
def image (L : grid0.Coords) : Fin 4 := ⟨wid L / 8, by have := wid_lt L; omega⟩
def shard (L : grid0.Coords) : ℕ := wid L % 8

/-- Pixel `n` of shard `w` of image `b`. -/
def pixel (x : Vec F S4x2097152 .f32) (b : Fin 4) (w n : ℕ) : F .f32 :=
  x fun | 0 => b | 1 => ⟨(w * shardSize + n) % 2097152, Nat.mod_lt _ (by decide)⟩ | ⟨_ + 2, h⟩ => absurd h (Nat.not_lt.2 (Nat.le_add_left _ _))

/-- The pixels of the tile at `L`. -/
def tilePx (x : Vec F S4x2097152 .f32) (L : grid0.Coords) (n : ℕ) : F .f32 := pixel x (image L) (shard L) n

/-- A chunk's offsets in the pixels: the tile's image, and the chunk's place in its shard. -/
theorem chunk_off : ∀ (L : grid0.Coords) (r : Fin 8),
    k0_off2 L (BitVec.ofNat 32 (32768 * r.val)) = ![((L 0).val * 16 + (L 1).val) / 8, ((L 0).val * 16 + (L 1).val) % 8 * 262144 + 32768 * r.val] := by
  have h : ∀ (a : Fin 2) (b : Fin 16) (r : Fin 8),
      k0_off2 (fun | 0 => a | 1 => b | ⟨_ + 2, h⟩ => absurd h (Nat.not_lt.2 (Nat.le_add_left _ _))) (BitVec.ofNat 32 (32768 * r.val))
        = ![(a.val * 16 + b.val) / 8, (a.val * 16 + b.val) % 8 * 262144 + 32768 * r.val] := by
    decide +kernel
  intro L r
  have hL : L = fun | 0 => L 0 | 1 => L 1 | ⟨_ + 2, h⟩ => absurd h (Nat.not_lt.2 (Nat.le_add_left _ _)) := by
    funext a
    match a with
    | 0 => rfl
    | 1 => rfl
  rw [hL]
  exact h (L 0) (L 1) r

/-- The offsets of a tile's slots in the results. -/
theorem slot_off : ∀ L : grid0.Coords,
    k0_off21 L = ![((L 0).val * 16 + (L 1).val) / 8, ((L 0).val * 16 + (L 1).val) % 8 * 4096] := by
  have h : ∀ (a : Fin 2) (b : Fin 16),
      k0_off21 (fun | 0 => a | 1 => b | ⟨_ + 2, h⟩ => absurd h (Nat.not_lt.2 (Nat.le_add_left _ _)))
        = ![(a.val * 16 + b.val) / 8, (a.val * 16 + b.val) % 8 * 4096] := by
    decide +kernel
  intro L
  have hL : L = fun | 0 => L 0 | 1 => L 1 | ⟨_ + 2, h⟩ => absurd h (Nat.not_lt.2 (Nat.le_add_left _ _)) := by
    funext a
    match a with
    | 0 => rfl
    | 1 => rfl
  rw [hL]
  exact h (L 0) (L 1)

end Cert.Proof

end
-- ==== Proof.Loops.lean ====
/-
  The tile's loops, one trip at a time and then whole: zeroing the histogram, counting a chunk's pixels into it, the
  scan for the threshold, filling the slots, and packing a chunk's kept pixels into the slots.
-/
module

public import proofs.«01_k».proof.Proof.Setup
public import Idealize.ShloMosaic.Lib.WritesUnit

@[expose] public section

noncomputable section

namespace Cert.Proof

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Sixteen words of a buffer -/

/-- The index of word `n` of a rank-one shape. -/
abbrev at1 {m : ℕ} (n : ℕ) (h : n < m) : (⟨1, ![m]⟩ : Shape).Idx := fun _ => ⟨n, by simpa using h⟩

/-- Lane `j` of sixteen words of the chunk's buffer read at `o` is word `o + j`. -/
theorem read_lane_c (o : ℕ) (inb : ∀ a, (![o] : Fin 1 → ℕ) a + S16.size a ≤ S32768.size a) (f : Vec F S32768 .f32) (j : S16.Idx)
    (h : o + (j 0).val < 32768) :
    cM.view.readAt (Elt F) (Rect.unit (s := S32768) ![o] S16.size inb).toLoadRect f j = f (at1 (o + (j 0).val) h) := by
  show (View.whole cc0_scratch0).read (Elt F) f _ = _
  rw [View.read_whole]
  refine congrArg f (funext fun a => Fin.ext ?_)
  rw [Fin.eq_zero a]
  simp [Rect.unit, LoadRect.idx_apply]

/-- Likewise of the histogram. -/
theorem read_lane_h (o : ℕ) (inb : ∀ a, (![o] : Fin 1 → ℕ) a + S16.size a ≤ S4096.size a) (f : Vec F S4096 .f32) (j : S16.Idx)
    (h : o + (j 0).val < 4096) :
    hM.view.readAt (Elt F) (Rect.unit (s := S4096) ![o] S16.size inb).toLoadRect f j = f (at1 (o + (j 0).val) h) := by
  show (View.whole cc0_scratch1).read (Elt F) f _ = _
  rw [View.read_whole]
  refine congrArg f (funext fun a => Fin.ext ?_)
  rw [Fin.eq_zero a]
  simp [Rect.unit, LoadRect.idx_apply]

/-- A constant stored over sixteen words at `o`, where the words below `o` hold that constant: the words below
    `o + 16` hold it. -/
theorem fill_lane {e : EltTy} (M : Memref sig .scVector .vmem S4096 e) (o : ℕ)
    (inb : ∀ a, (![o] : Fin 1 → ℕ) a + S16.size a ≤ S4096.size a) (z : Elt F e) (f : M.view.ty.Contents (Elt F))
    (hf : ∀ j : S4096.Idx, (j 0).val < o → M.view.read (Elt F) f j = z) (j : S4096.Idx) (hj : (j 0).val < o + 16) :
    M.view.read (Elt F) ((M.access (Rect.unit (s := S4096) ![o] S16.size inb)).write (Elt F) f (fun _ => z) Finset.univ) j = z := by
  refine (View.read_writes_cons_unit M.view f inb (fun _ => z) [] j rfl).trans ?_
  split
  · rfl
  · rename_i h
    refine hf j ?_
    by_contra hn
    refine h fun a => ?_
    obtain rfl : a = 0 := Subsingleton.elim _ _
    show o ≤ (j 0).val ∧ (j 0).val < o + 16
    omega

variable [FloatOps F] (d : Dev nD) (L : grid0.Coords)

/-- A tile's four buffers at given contents. -/
abbrev cPts (f : Vec F S32768 .f32) : sProp 𝕄 := (tile d L).loc cc0_scratch0 ↦{fullShare} (f : Buf (Elt F) ((tile d L).loc cc0_scratch0))
abbrev hPts (f : Vec F S4096 .f32) : sProp 𝕄 := (tile d L).loc cc0_scratch1 ↦{fullShare} (f : Buf (Elt F) ((tile d L).loc cc0_scratch1))
abbrev wPts (f : Vec F S4096 .f32) : sProp 𝕄 := (tile d L).loc cc0_scratch2 ↦{fullShare} (f : Buf (Elt F) ((tile d L).loc cc0_scratch2))
abbrev iPts (f : IVec S4096 32) : sProp 𝕄 := (tile d L).loc cc0_scratch3 ↦{fullShare} (f : Buf (Elt F) ((tile d L).loc cc0_scratch3))

/-! ## An indexed store into a whole buffer -/

section Scatter
variable {α : Type} {n : Fin 1 → ℕ}
  {k : PUnit → Prog (TpuEff nD τ sig (Elt F) Λ₀ (tile d L).2) α} {mask : IVec ⟨1, n⟩ 1} {add : Bool}
  {idxs : Fin 1 → IVec ⟨1, n⟩ 32} {h : ∀ a x, (idxs a x).toNat < S4096.size a}

theorem wp_scatter_h {Q : α → sProp 𝕄} {v : Vec F ⟨1, n⟩ .f32} {hs : (hM.access (.whole S4096)).Stores Finset.univ} {f g : Vec F S4096 .f32}
    (hg : storeIdx (F := F) (e := .f32) f idxs v mask add h = g) :
    hPts d L f ⊢ iprop((hPts d L g -∗ wp frame (wpE (defs₀ (F := F)) 𝒱₀ (tile d L) none) Set.univ (k ⟨⟩) Q)
      -∗ wp frame (wpE (defs₀ (F := F)) 𝒱₀ (tile d L) none) Set.univ (SparseCore.vectorStoreIdx hM idxs v mask add h hs >>= k) Q) := by
  have hw := SparseCore.wp_vectorStoreIdx (defs := defs₀ (F := F)) 𝒱₀ (tile d L) none Set.univ (Q := Q) (base := hM) (idxs := idxs) (v := v) (mask := mask)
    (add := add) (h := h) (hs := hs) (k := k) (f := f)
  have e1 : (hM.access (.whole S4096)).set = Finset.univ := Memref.set_access_whole cc0_scratch1
  have e2 : ∀ f w, (hM.access (.whole S4096)).write (Elt F) f w Finset.univ = w := Memref.write_access_whole_univ (Elt F) cc0_scratch1
  have e3 : ∀ f, (hM.access (.whole S4096)).read (Elt F) f = f := Memref.read_access_whole (Elt F) cc0_scratch1
  rw [e1, e2, e3] at hw
  subst hg
  exact hw

theorem wp_scatter_w {Q : α → sProp 𝕄} {v : Vec F ⟨1, n⟩ .f32} {hs : (wM.access (.whole S4096)).Stores Finset.univ} {f g : Vec F S4096 .f32}
    (hg : storeIdx (F := F) (e := .f32) f idxs v mask add h = g) :
    wPts d L f ⊢ iprop((wPts d L g -∗ wp frame (wpE (defs₀ (F := F)) 𝒱₀ (tile d L) none) Set.univ (k ⟨⟩) Q)
      -∗ wp frame (wpE (defs₀ (F := F)) 𝒱₀ (tile d L) none) Set.univ (SparseCore.vectorStoreIdx wM idxs v mask add h hs >>= k) Q) := by
  have hw := SparseCore.wp_vectorStoreIdx (defs := defs₀ (F := F)) 𝒱₀ (tile d L) none Set.univ (Q := Q) (base := wM) (idxs := idxs) (v := v) (mask := mask)
    (add := add) (h := h) (hs := hs) (k := k) (f := f)
  have e1 : (wM.access (.whole S4096)).set = Finset.univ := Memref.set_access_whole cc0_scratch2
  have e2 : ∀ f w, (wM.access (.whole S4096)).write (Elt F) f w Finset.univ = w := Memref.write_access_whole_univ (Elt F) cc0_scratch2
  have e3 : ∀ f, (wM.access (.whole S4096)).read (Elt F) f = f := Memref.read_access_whole (Elt F) cc0_scratch2
  rw [e1, e2, e3] at hw
  subst hg
  exact hw

theorem wp_scatter_i {Q : α → sProp 𝕄} {v : IVec ⟨1, n⟩ 32} {hs : (iM.access (.whole S4096)).Stores Finset.univ} {f g : IVec S4096 32}
    (hg : storeIdx (F := F) (e := .i32) f idxs v mask add h = g) :
    iPts (F := F) d L f ⊢ iprop((iPts (F := F) d L g -∗ wp frame (wpE (defs₀ (F := F)) 𝒱₀ (tile d L) none) Set.univ (k ⟨⟩) Q)
      -∗ wp frame (wpE (defs₀ (F := F)) 𝒱₀ (tile d L) none) Set.univ (SparseCore.vectorStoreIdx iM idxs v mask add h hs >>= k) Q) := by
  have hw := SparseCore.wp_vectorStoreIdx (defs := defs₀ (F := F)) 𝒱₀ (tile d L) none Set.univ (Q := Q) (base := iM) (idxs := idxs) (v := v) (mask := mask)
    (add := add) (h := h) (hs := hs) (k := k) (f := f)
  have e1 : (iM.access (.whole S4096)).set = Finset.univ := Memref.set_access_whole cc0_scratch3
  have e2 : ∀ f w, (iM.access (.whole S4096)).write (Elt F) f w Finset.univ = w := Memref.write_access_whole_univ (Elt F) cc0_scratch3
  have e3 : ∀ f, (iM.access (.whole S4096)).read (Elt F) f = f := Memref.read_access_whole (Elt F) cc0_scratch3
  rw [e1, e2, e3] at hw
  subst hg
  exact hw

end Scatter

/-- A load of sixteen pixels of the chunk. -/
theorem wp_load_chunk {α : Type} {Q : α → sProp 𝕄} (px : ℕ → F .f32) (n0 o : ℕ) (off : Fin 1 → ℕ) (inb : ∀ a, off a + S16.size a ≤ S32768.size a) (hoff : off = ![o])
    {hl : cM.view.LoadsAt (Rect.unit (s := S32768) off S16.size inb).toLoadRect}
    {k : Vec F S16 .f32 → Prog (TpuEff nD τ sig (Elt F) Λ₀ (tile d L).2) α} :
    cPts d L (chunk px n0) ⊢ iprop((cPts d L (chunk px n0) -∗ ∀ v : Vec F S16 .f32, ⌜∀ j : Fin 16, v (lane j) = px (n0 + o + j.val)⌝ -∗
        wp frame (wpE (defs₀ (F := F)) 𝒱₀ (tile d L) none) Set.univ (k v) Q)
      -∗ wp frame (wpE (defs₀ (F := F)) 𝒱₀ (tile d L) none) Set.univ (.op (.load cM (Rect.unit (s := S32768) off S16.size inb).toLoadRect hl) k) Q) := by
  subst hoff
  iintro Hc Hk
  iapply (wp_load 𝒱₀ (tile d L) none Set.univ (m := cM) (S := Finset.univ) (Finset.subset_univ _)) $$ Hc
  iintro Hc
  ihave Hk := Hk $$ Hc
  iapply Hk
  ipureintro
  intro j
  have h0 := inb 0
  have h1 : o + 16 ≤ 32768 := h0
  rw [read_lane_c _ _ _ _ (show o + ((lane j) 0).val < 32768 by have := j.isLt; show o + j.val < 32768; omega)]
  simp only [chunk, Nat.add_assoc]
  rfl

/-! ## Counting a chunk -/

/-- The trip that counts sixteen pixels into the histogram. -/
def histBody (ones : FVec F S16 .f32) (k : Fin k0_t2_loop.trips) (_ : BitVec 32) :
    Prog (TpuEff nD τ sig (Elt F) Λ₀ (tile d L).2) (BitVec 32) := do
  let v : Vec F S16 .f32 ← Prog.lift (.load cM (Rect.unit (s := S32768) (k0_off3 k) S16.size (k0_off3_inb k)).toLoadRect (View.loadsAt_vmem h_S16))
  have b : IVec S16 32 := k0_pay18 v
  have hb : k0_chk1 b := (← Prog.lift (TpuEff.assume (k0_chk1 b) (k0_chk1.dec b))).down
  SparseCore.vectorStoreIdx hM ![b] ones (fun _ => 1#1) true (k0_idx1_inb b hb) (View.stores_vmem_bits_univ h_S4096 rfl)
  pure 0#32

theorem pay18_lane (v : Vec F S16 .f32) (j : S16.Idx) : k0_pay18 v j = binWord (v j) := rfl

theorem hist_region {nat : ℕ → F .f32} (he : Exact nat) (px : ℕ → F .f32) (hpx : ∀ n < shardSize, bin px n < 4096) (n0 : ℕ) (hn0 : n0 + 32768 ≤ shardSize)
    (k : Fin k0_t2_loop.trips) (acc : BitVec 32) :
    iprop(cPts d L (chunk px n0) ∗ hPts d L (histAt nat px (n0 + 16 * k.val)))
      ⊢ wp frame (wpE (defs₀ (F := F)) 𝒱₀ (tile d L) none) Set.univ (histBody d L (k0_pay17 (F := F)) k acc)
          fun _ => iprop(cPts d L (chunk px n0) ∗ hPts d L (histAt nat px (n0 + 16 * (k.val + 1)))) := by
  have hk : k.val < 2048 := k.isLt
  unfold histBody
  simp only [Prog.lift, Prog.bind_op, Prog.bind_ret, Prog.pure_eq_ret]
  iintro ⟨Hc, Hh⟩
  iapply (wp_load_chunk d L px n0 (16 * k.val) _ _ (k0_off3_eq k)) $$ Hc
  iintro Hc %v %hv
  have hb : ∀ j : Fin 16, k0_pay18 v (lane j) = binWord (px (n0 + 16 * k.val + j.val)) := fun j => by rw [pay18_lane, hv]
  have hchk : k0_chk1 (k0_pay18 v) := by
    intro a x
    obtain rfl : a = 0 := Subsingleton.elim _ _
    refine (congrArg (fun y => (k0_pay18 v y).toNat) (eq_lane x)).trans_lt ((congrArg BitVec.toNat (hb (x 0))).trans_lt (hpx _ ?_))
    have : (x 0).val < 16 := (x 0).isLt
    simp only [shardSize] at *
    omega
  rw [wp_assume_of _ _ _ _ hchk]
  iapply (wp_scatter_h d L (histAt_step he px (n0 + 16 * k.val) (by simp only [shardSize] at *; omega) _ hb _)) $$ Hh
  iintro Hh
  rw [wp_ret]
  imodintro
  isplitl [Hc]; · iexact Hc
  iexact Hh

/-! ## Filling a buffer with a constant -/

/-- The first `n` words of a buffer hold `z`, the rest anything. -/
def filled {e : EltTy} (M : Memref sig .scVector .vmem S4096 e) (z : Elt F e) (n : ℕ) : sProp 𝕄 :=
  iprop(∃ f, ⌜∀ j : S4096.Idx, (j 0).val < n → M.view.read (Elt F) f j = z⌝ ∗ (M.view.loc (tile d L) ↦{fullShare} f))

theorem wp_fill {α : Type} {Q : α → sProp 𝕄} {e : EltTy} (M : Memref sig .scVector .vmem S4096 e) (z : Elt F e) (o : ℕ) (off : Fin 1 → ℕ)
    (inb : ∀ a, off a + S16.size a ≤ S4096.size a) (hoff : off = ![o]) {hl : M.view.LoadsAt (Rect.unit (s := S4096) off S16.size inb).toLoadRect}
    {hs : (M.access (Rect.unit (s := S4096) off S16.size inb)).Stores Finset.univ} {hm} {k : PUnit → Prog (TpuEff nD τ sig (Elt F) Λ₀ (tile d L).2) α} :
    filled d L M z o ⊢ iprop((filled d L M z (o + 16) -∗ wp frame (wpE (defs₀ (F := F)) 𝒱₀ (tile d L) none) Set.univ (k ⟨⟩) Q)
      -∗ wp frame (wpE (defs₀ (F := F)) 𝒱₀ (tile d L) none) Set.univ
        (.op (.load M (Rect.unit (s := S4096) off S16.size inb).toLoadRect hl)
          fun _ => .op (.store M (Rect.unit (s := S4096) off S16.size inb) (fun _ => z) Finset.univ hs hm) k) Q) := by
  subst hoff
  unfold filled
  iintro ⟨%f, %hf, Hf⟩ Hk
  iapply (wp_load 𝒱₀ (tile d L) none Set.univ (m := M) (S := Finset.univ) (Finset.subset_univ _)) $$ Hf
  iintro Hf
  iapply (wp_store 𝒱₀ (tile d L) none Set.univ (m := M) (r := Rect.unit (s := S4096) ![o] S16.size inb) (Mk := Finset.univ) (S := Finset.univ) (Finset.subset_univ _)) $$ Hf
  iintro Hf
  iapply Hk
  iexists _
  isplitr
  · ipureintro
    exact fill_lane M o inb z f hf
  · iexact Hf

/-! ## The threshold -/

theorem level_step {nat : ℕ → F .f32} (he : Exact nat) (px : ℕ → F .f32) (i : ℕ) (hi : i < 256) (v : Vec F S16 .f32)
    (hv : ∀ j : Fin 16, v (lane j) = histAt nat px shardSize (at1 (4080 - 16 * i + j.val) (by have := j.isLt; omega))) :
    Scalar.addi (BitVec.ofNat 32 (above px (256 - i))) (extractAt ![15] (k0_pay26 v) inpos_S16_p15) = BitVec.ofNat 32 (above px (256 - (i + 1))) := by
  have h1 : 256 - i = 256 - (i + 1) + 1 := by omega
  have hg := group_count he px (256 - (i + 1)) (fptosi 32 v) (fun j => by
    show FloatOps.fptosi 32 (v (lane j)) = _
    rw [hv]
    unfold histAt
    have h2 : 4080 - 16 * i + j.val = 16 * (256 - (i + 1)) + j.val := by omega
    exact congrArg (fun m => FloatOps.fptosi 32 (nat (Nat.count (fun n => bin px n = m) shardSize))) h2)
  rw [h1, ← hg]
  have h3 : extractAt ![15] (k0_pay26 v) inpos_S16_p15 = scan .sum (fptosi 32 v) (lane 15) := by
    unfold extractAt k0_pay26
    refine congrArg (scan .sum (fptosi 32 v)) ?_
    funext a
    obtain rfl : a = 0 := Subsingleton.elim _ _
    rfl
  rw [h3]
  rfl

theorem toInt_word (a : ℕ) (ha : a < 2 ^ 31) : (BitVec.ofNat 32 a).toInt = a := by
  rw [BitVec.toInt_eq_toNat_of_lt] <;> rw [BitVec.toNat_ofNat, Nat.mod_eq_of_lt (by omega)]
  omega

theorem cmpi_slt_word (a b : ℕ) (ha : a < 2 ^ 31) (hb : b < 2 ^ 31) :
    IntOp.cmpi .slt (BitVec.ofNat 32 a) (BitVec.ofNat 32 b) = BitVec.ofBool (decide (a < b)) := by
  unfold IntOp.cmpi
  simp only [BitVec.slt_eq_decide, toInt_word a ha, toInt_word b hb, Nat.cast_lt]

theorem cmpi_sge_word (a b : ℕ) (ha : a < 2 ^ 31) (hb : b < 2 ^ 31) :
    IntOp.cmpi .sge (BitVec.ofNat 32 a) (BitVec.ofNat 32 b) = BitVec.ofBool (decide (b ≤ a)) := by
  unfold IntOp.cmpi
  simp only [BitVec.sle_eq_decide, toInt_word a ha, toInt_word b hb, Nat.cast_le]

theorem level_choice (px : ℕ → F .f32) (i : ℕ) (hi : i < 256) :
    Scalar.select (Scalar.andi (Scalar.cmpi .sge (BitVec.ofNat 32 (above px (256 - (i + 1)))) 2048#32) (Scalar.cmpi .slt (BitVec.ofNat 32 (above px (256 - i))) 2048#32))
      (Scalar.muli (Scalar.subi 255#32 (Scf.iv 0#32 1#32 i)) 16#32) (BitVec.ofNat 32 (found px (256 - i))) = BitVec.ofNat 32 (found px (256 - (i + 1))) := by
  have hs : Scalar.cmpi .sge (BitVec.ofNat 32 (above px (256 - (i + 1)))) 2048#32 = BitVec.ofBool (decide (2048 ≤ above px (256 - (i + 1)))) := by
    have := above_le px (256 - (i + 1))
    simp only [shardSize] at this
    exact cmpi_sge_word _ 2048 (by omega) (by omega)
  have hl : Scalar.cmpi .slt (BitVec.ofNat 32 (above px (256 - i))) 2048#32 = BitVec.ofBool (decide (above px (256 - i) < 2048)) := by
    have := above_le px (256 - i)
    simp only [shardSize] at this
    exact cmpi_slt_word _ 2048 (by omega) (by omega)
  have hv : Scalar.muli (Scalar.subi 255#32 (Scf.iv 0#32 1#32 i)) 16#32 = BitVec.ofNat 32 (16 * (256 - (i + 1))) := by
    show (255#32 - (0#32 + BitVec.ofNat 32 i * 1#32)) * 16#32 = _
    apply BitVec.eq_of_toNat_eq
    simp only [BitVec.toNat_mul, BitVec.toNat_sub, BitVec.toNat_add, BitVec.toNat_ofNat]
    omega
  rw [hs, hl, hv, found_step px (g := 256 - (i + 1)) (by omega), show 256 - (i + 1) + 1 = 256 - i by omega]
  generalize 256 - (i + 1) = g
  by_cases h1 : 2048 ≤ above px g <;> by_cases h2 : above px (256 - i) < 2048 <;>
    simp [h1, h2, Scalar.select, Scalar.andi, IntOp.andi]

/-! ## Packing a chunk's kept pixels -/

/-- The positions of sixteen pixels. -/
def packPos (b c : BitVec 32) (io : IVec S16 32) (k : Fin k0_t12_loop.trips) : IVec S16 32 :=
  addi (broadcast S16 (Scalar.addi (Scalar.addi b c) (Scalar.muli (Scf.iv 0#32 1#32 k) 16#32))) io

/-- The trip that packs sixteen pixels' kept ones. -/
def packBody (t b c : BitVec 32) (io : IVec S16 32) (k : Fin k0_t12_loop.trips) (n : BitVec 32) :
    Prog (TpuEff nD τ sig (Elt F) Λ₀ (tile d L).2) (BitVec 32) := do
  let v : Vec F S16 .f32 ← Prog.lift (.load cM (Rect.unit (s := S32768) (k0_off13 k) S16.size (k0_off13_inb k)).toLoadRect (View.loadsAt_vmem h_S16))
  have p : IVec S16 32 := k0_pay31 t n v
  have hp : k0_chk9 p := (← Prog.lift (TpuEff.assume (k0_chk9 p) (k0_chk9.dec p))).down
  SparseCore.vectorStoreIdx wM ![p] v (k0_pay32 t v p) false (k0_idx9_inb p hp) (View.stores_vmem_bits_univ h_S4096 rfl)
  SparseCore.vectorStoreIdx iM ![p] (packPos b c io k) (k0_pay32 t v p) false (k0_idx10_inb p hp) (View.stores_vmem_bits_univ h_S4096 rfl)
  let m : BitVec 32 := extractAt ![15] (k0_pay34 t v) inpos_S16_p15
  pure (Scalar.addi n m)

/-- What holds in a packing loop once the first `N` pixels of the shard are through. -/
def packInv (px : ℕ → F .f32) (t : BitVec 32) (base n0 k : ℕ) (n : BitVec 32) : sProp 𝕄 :=
  iprop(⌜n = BitVec.ofNat 32 (kept px t (n0 + 16 * k)).length⌝ ∗ cPts d L (chunk px n0) ∗ wPts d L (valsAt px t (n0 + 16 * k)) ∗ iPts (F := F) d L (idxsAt px t base (n0 + 16 * k)))

theorem packPos_lane (base n0 : ℕ) (io : IVec S16 32) (hio : ∀ j : Fin 16, io (lane j) = BitVec.ofNat 32 j.val) (k : Fin k0_t12_loop.trips) (j : Fin 16) :
    packPos (BitVec.ofNat 32 base) (BitVec.ofNat 32 n0) io k (lane j) = BitVec.ofNat 32 (base + (n0 + 16 * k.val + j.val)) := by
  show IntOp.addi (IntOp.addi (IntOp.addi (BitVec.ofNat 32 base) (BitVec.ofNat 32 n0)) (IntOp.muli (Scf.iv 0#32 1#32 k.val) 16#32)) (io (lane j)) = _
  rw [hio]
  show BitVec.ofNat 32 base + BitVec.ofNat 32 n0 + (0#32 + BitVec.ofNat 32 k.val * 1#32) * 16#32 + BitVec.ofNat 32 j.val = _
  apply BitVec.eq_of_toNat_eq
  simp only [BitVec.toNat_mul, BitVec.toNat_add, BitVec.toNat_ofNat]
  omega

theorem pack_region (px : ℕ → F .f32) (t : BitVec 32) (hroom : (kept px t shardSize).length < 4096) (base n0 : ℕ) (hn0 : n0 + 32768 ≤ shardSize)
    (io : IVec S16 32) (hio : ∀ j : Fin 16, io (lane j) = BitVec.ofNat 32 j.val) (k : Fin k0_t12_loop.trips) (n : BitVec 32) :
    packInv d L px t base n0 k.val n
      ⊢ wp frame (wpE (defs₀ (F := F)) 𝒱₀ (tile d L) none) Set.univ (packBody d L t (BitVec.ofNat 32 base) (BitVec.ofNat 32 n0) io k n)
          (packInv d L px t base n0 (k.val + 1)) := by
  have hk : k.val < 2048 := k.isLt
  have hN : n0 + 16 * k.val + 16 ≤ shardSize := by simp only [shardSize] at *; omega
  unfold packBody packInv
  simp only [Prog.lift, Prog.bind_op, Prog.bind_ret, Prog.pure_eq_ret]
  iintro ⟨%hn, Hc, Hw, Hi⟩
  subst hn
  iapply (wp_load_chunk d L px n0 (16 * k.val) _ _ (k0_off13_eq k)) $$ Hc
  iintro Hc %v %hv
  have hkeep : ∀ j : Fin 16, k0_pay28 t v (lane j) = keepBit t (px (n0 + 16 * k.val + j.val)) := fun j => by
    rw [← hv j]; rfl
  have hm : ∀ j : Fin 16, k0_pay29 t v (lane j) = BitVec.ofNat 32 (keepNat t (px (n0 + 16 * k.val + j.val))) := fun j => by
    rw [← extui_keep, ← hkeep j]; rfl
  have hp : ∀ j : Fin 16, k0_pay31 t (BitVec.ofNat 32 (kept px t (n0 + 16 * k.val)).length) v (lane j) = BitVec.ofNat 32 (kept px t (n0 + 16 * k.val + j.val)).length :=
    place_lane px t (n0 + 16 * k.val) hN _ hm
  generalize hpp : k0_pay31 t (BitVec.ofNat 32 (kept px t (n0 + 16 * k.val)).length) v = p at hp
  have hlt : ∀ j : Fin 16, (kept px t (n0 + 16 * k.val + j.val)).length < 4096 := fun j =>
    (length_kept_mono px t (by have := j.isLt; simp only [shardSize] at *; omega)).trans_lt hroom
  have hp' : ∀ j : Fin 16, (p (lane j)).toNat = (kept px t (n0 + 16 * k.val + j.val)).length := fun j => by
    rw [hp, BitVec.toNat_ofNat, Nat.mod_eq_of_lt]
    have := hlt j
    omega
  have hin : ∀ x : S16.Idx, (p x).toNat < 4096 := fun x =>
    (congrArg (fun y => (p y).toNat) (eq_lane x)).trans_lt ((hp' (x 0)).trans_lt (hlt (x 0)))
  have hchk : k0_chk9 p := by
    constructor <;>
    · intro a x
      obtain rfl : a = 0 := Subsingleton.elim _ _
      exact hin x
  have hmask : ∀ j : Fin 16, k0_pay32 t v p (lane j) = keepBit t (px (n0 + 16 * k.val + j.val)) := fun j => by
    show IntOp.andi (k0_pay28 t v (lane j)) (IntOp.cmpi .slt (p (lane j)) 4096#32) = _
    rw [hkeep j, hp, show IntOp.cmpi .slt (BitVec.ofNat 32 (kept px t (n0 + 16 * k.val + j.val)).length) 4096#32 = 1#1 from
      (cmpi_slt_word _ 4096 (by have := hlt j; omega) (by omega)).trans (by rw [decide_eq_true (hlt j)]; rfl)]
    unfold IntOp.andi
    rcases BitVec.eq_zero_or_eq_one (keepBit t (px (n0 + 16 * k.val + j.val))) with h | h <;> rw [h] <;> rfl
  rw [wp_assume_of _ _ _ _ hchk]
  iapply (wp_scatter_w d L (valsAt_step px t (n0 + 16 * k.val) p v _ hp' hmask hv _)) $$ Hw
  iintro Hw
  iapply (wp_scatter_i d L (idxsAt_step px t base (n0 + 16 * k.val) p _ _ hp' hmask (packPos_lane base n0 io hio k) _)) $$ Hi
  iintro Hi
  rw [wp_ret]
  imodintro
  isplitr
  · ipureintro
    refine Eq.trans ?_ (grown px t (n0 + 16 * k.val) hN _ hm)
    rfl
  isplitl [Hc]; · iexact Hc
  isplitl [Hw]; · iexact Hw
  iexact Hi

end Cert.Proof

end
-- ==== Proof.Fetch.lean ====
/-
  A tile's copies in: the thread's standing state (its semaphores at zero, what it owes, a read share of the pixels),
  a chunk's copy started and waited for, and what the chunk's buffer then holds.
-/
module

public import proofs.«01_k».proof.Proof.Loops
public import Idealize.ShloMosaic.Lib.Transfers
public import Idealize.ShloMosaic.Lib.ValueLayout

@[expose] public section

noncomputable section

namespace Cert.Proof

open Cert.KernelIdeal Cert.KernelIdeal.Gen

open Idealize.ShloMosaic
open Idealize.ShloMosaic.SparseCore (S V)
open Idealize.ShloMosaic.SparseCore.Cfg (HIx ownSems0 ownCells mem_ownCells)
open Idealize.ShloMosaic.Transfers (MayWaits Flight)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

/-- Chunk `r` of the tile's shard, as the program slices it. -/
abbrev srcM (r : Fin 8) : Memref sig .scVector .hbm S32768 .f32 :=
  (xM.slice (Rect.unit (s := S4x2097152) (k0_off2 L (BitVec.ofNat 32 (32768 * r.val))) S1x32768.size (k0_off2_inb L r)) (fun _ => rfl)).squeeze S32768 squeezes_S1x32768_S32768

/-- What chunk `r` reads of the pixels. -/
theorem read_src (x : Vec F S4x2097152 .f32) (r : Fin 8) : (srcM L r).view.read (Elt F) x = chunk (tilePx x L) (32768 * r.val) := by
  have hc : (⟨2, ![1, 32768]⟩ : Shape).ShapeCasts ⟨1, ![32768]⟩ := by decide
  refine (Memref.read_squeeze_slice (Val := Elt F) xM _ (fun _ => rfl) squeezes_S1x32768_S32768 hc x).trans ?_
  funext j
  have hj : j = ix1 (j 0) := by
    funext a
    obtain rfl : a = 0 := Subsingleton.elim _ _
    rfl
  rw [hj]
  refine (ValueIdx.shapeCast_1a_a_apply _ hc (j 0)).trans ?_
  show (View.whole main_v1_scv).read (Elt F) x _ = _
  rw [View.read_whole]
  unfold chunk tilePx pixel
  refine congrArg x ?_
  have h0 := congrFun (chunk_off L r) 0
  have h1 := congrFun (chunk_off L r) 1
  have hw := wid_lt L
  have hr := r.isLt
  have hjl : (j 0).val < 32768 := (j 0).isLt
  funext a
  apply Fin.ext
  match a with
  | 0 =>
    show k0_off2 L (BitVec.ofNat 32 (32768 * r.val)) 0 + 1 * 0 = wid L / 8
    rw [h0]
    rfl
  | 1 =>
    show k0_off2 L (BitVec.ofNat 32 (32768 * r.val)) 1 + 1 * (j 0).val = (shard L * shardSize + (32768 * r.val + (j 0).val)) % 2097152
    rw [h1]
    show wid L % 8 * 262144 + 32768 * r.val + 1 * (j 0).val = _
    unfold shard
    simp only [shardSize]
    omega

/-- The thread's standing state. -/
def Standing (O : CellTallies nD τ sig (HIx 1)) (W : Waits sig (HIx 1)) : sProp 𝕄 :=
  iprop(MayWaits (tile d L) none O ∗ ∃ W', ⌜∀ p ∈ W', p ∈ W ∨ p.2 = none⌝ ∗ owes (tile d L) O W')

/-- The pixels at a read share, as a tile holds them. -/
abbrev xPts (q : PosShare TreeShare) (x : Vec F S4x2097152 .f32) : sProp 𝕄 := (tile d L).loc main_v1_scv ↦{q} (x : Buf (Elt F) ((tile d L).loc main_v1_scv))

/-- The tile's cell of a DMA semaphore. -/
abbrev cell (s : DmaSem sig) : GSem nD τ sig := (tile d L, .dma s)

def SemsBut (s : DmaSem sig) : sProp 𝕄 := bigSep ((ownCells (tile d L)).erase (cell d L s)) fun g => semVal g 0

theorem sems_split (s : DmaSem sig) (hs : (SemLoc.dma s : SemLoc sig).isScoped .scVector = true) :
    (ownSems0 (tile d L) : sProp 𝕄) = iprop(semVal (cell d L s) 0 ∗ SemsBut (F := F) d L s) := by
  unfold SparseCore.Cfg.ownSems0 SemsBut
  exact SparseCore.bigSep_erase' ((mem_ownCells (g := cell d L s)).mpr ⟨rfl, hs⟩)

/-- Between a tile's copies: every semaphore at zero. -/
def Still (O : CellTallies nD τ sig (HIx 1)) (W : Waits sig (HIx 1)) (q : PosShare TreeShare) (x : Vec F S4x2097152 .f32) : sProp 𝕄 :=
  iprop(Standing (F := F) d L O W ∗ ownSems0 (tile d L) ∗ xPts d L q x)

/-- While chunk `r` is on its way on semaphore `s`. -/
def Flying (O : CellTallies nD τ sig (HIx 1)) (W : Waits sig (HIx 1)) (q : PosShare TreeShare) (x : Vec F S4x2097152 .f32) (s : DmaSem sig) (r : Fin 8) : sProp 𝕄 :=
  iprop(Standing (F := F) d L O W ∗ SemsBut (F := F) d L s
    ∗ ((tile d L).loc main_v1_scv ↦[Finset.univ \ (srcM L r).view.set]{q} (x : Buf (Elt F) ((tile d L).loc main_v1_scv)))
    ∗ ∃ D : sProp 𝕄, ⌜D ⊢ iprop(cPts d L (chunk (tilePx x L) (32768 * r.val)) ∗ ((srcM L r).view.loc (tile d L) ↦[(srcM L r).view.set]{q} x))⌝
        ∗ Flight countersEmb (tile d L) (.dma s) none (cM.view.amount (.dma s)) D)

section
variable {O : CellTallies nD τ sig (HIx 1)} {W : Waits sig (HIx 1)} {q : PosShare TreeShare} {x : Vec F S4x2097152 .f32} {α : Type}
  {k : PUnit → Prog (TpuEff nD τ sig (Elt F) Λ₀ (tile d L).2) α}

theorem fetch_start {Q : α → sProp 𝕄} {f : Vec F S32768 .f32} (s : DmaSem sig) (hs : (SemLoc.dma s : SemLoc sig).isScoped .scVector = true) (r : Fin 8) {h1 h2 h3} :
    iprop(Still d L O W q x ∗ cPts d L f)
      ⊢ iprop((Flying d L O W q x s r -∗ wp frame (wpE (defs₀ (F := F)) 𝒱₀ (tile d L) none) Set.univ (k ⟨⟩) Q)
        -∗ wp frame (wpE (defs₀ (F := F)) 𝒱₀ (tile d L) none) Set.univ (.op (.enqueueDma (srcM L r) (.here cM) (.dma s) h1 h2 h3) k) Q) := by
  unfold Still Flying
  rw [sems_split d L s hs]
  iintro ⟨⟨HS, ⟨Hv, Hsems⟩, Hx⟩, Hc⟩ Hk
  ihave Hx := (pointsTo_split_subset (I := (srcM L r).view.set) (Finset.subset_univ _)).1 $$ Hx
  icases Hx with ⟨Hx, Hrest⟩
  iapply (Transfers.wp_dmaLocal countersEmb 𝒱₀ (tile d L) none none (cM.view.amount (.dma s)) rfl (View.amount_pos _ _ (show 0 < S32768.numel by decide)) (Finset.subset_univ _)) $$ [Hx Hc Hv]
  · isplitl [Hx]; · iexact Hx
    isplitl [Hc]; · iexact Hc
    iexact Hv
  iintro Hf
  iapply Hk
  isplitl [HS]; · iexact HS
  isplitl [Hsems]; · iexact Hsems
  isplitl [Hrest]; · iexact Hrest
  iexists _
  isplitr
  rotate_left
  · iexact Hf
  · ipureintro
    refine sep_mono (Entails.of_eq ?_) .rfl
    rw [← read_src L x r]
    exact congrArg (fun g : Vec F S32768 .f32 => cPts d L g) (View.write_whole_univ cc0_scratch0 f _)

theorem fetch_end {Q : α → sProp 𝕄} (s : DmaSem sig) (hs : (SemLoc.dma s : SemLoc sig).isScoped .scVector = true) (r : Fin 8) {h1 h2} :
    iprop(Flying d L O W q x s r)
      ⊢ iprop((iprop(Still d L O W q x ∗ cPts d L (chunk (tilePx x L) (32768 * r.val))) -∗ wp frame (wpE (defs₀ (F := F)) 𝒱₀ (tile d L) none) Set.univ (k ⟨⟩) Q)
        -∗ wp frame (wpE (defs₀ (F := F)) 𝒱₀ (tile d L) none) Set.univ (.op (.waitDma2 s (srcM L r) cM h1 h2) k) Q) := by
  unfold Still Flying
  rw [sems_split d L s hs]
  unfold Standing
  iintro ⟨⟨#Hmw, %W', %hW', Ho⟩, Hsems, Hrest, %D, %hD, Hf⟩ Hk
  ihave Hm := (Transfers.MayWaits.elim (.dma s)) $$ Hmw
  have hN : cM.view.dmaCredit = cM.view.amount (.dma s) := rfl
  iapply (Transfers.wp_waitLocalO countersEmb 𝒱₀ (tile d L) none (sem := s) (srcw := srcM L r) (dstw := cM) none hN) $$ [Hf Ho Hm]
  · isplitl [Hf]; · iexact Hf
    isplitl [Ho]; · iexact Ho
    iexact Hm
  iintro ⟨HD, Hv, Ho⟩
  ihave HD := hD $$ HD
  icases HD with ⟨Hc, Hx⟩
  iapply Hk
  ihave Hx := (pointsTo_split_subset (ℓ := (tile d L).loc main_v1_scv) (I := (srcM L r).view.set) (Finset.subset_univ _)).2 $$ [Hx Hrest]
  · isplitl [Hx]; · iexact Hx
    iexact Hrest
  isplitr [Hc]
  · isplitl [Ho]
    · isplitr; · iexact Hmw
      iexists (insert (SemLoc.dma s, none) W')
      isplitr
      · ipureintro
        intro p hp
        rcases Finset.mem_insert.mp hp with h | h
        · exact .inr (congrArg Prod.snd h)
        · exact hW' p h
      · iexact Ho
    isplitr [Hx]
    · isplitl [Hv]; · iexact Hv
      iexact Hsems
    · iexact Hx
  · iexact Hc
end

end Cert.Proof

end
-- ==== Proof.Parts.lean ====
/-
  The tile's program in its parts: the histogram of the shard counted chunk by chunk, the threshold found, and the kept
  pixels packed chunk by chunk.
-/
module

public import proofs.«01_k».proof.Proof.Fetch

@[expose] public section

noncomputable section

namespace Cert.Proof

open Cert.KernelIdeal Cert.KernelIdeal.Gen

open Idealize.ShloMosaic
open Idealize.ShloMosaic.SparseCore (S V)
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

/-- The chunk's buffer at whatever contents. -/
def cAny : sProp 𝕄 := iprop(∃ f : Vec F S32768 .f32, cPts d L f)

section
variable {O : CellTallies nD τ sig (HIx 1)} {W : Waits sig (HIx 1)} {q : PosShare TreeShare} {x : Vec F S4x2097152 .f32} {nat : ℕ → F .f32}

/-- Chunk `r` fetched and counted into the histogram. -/
theorem count_chunk {α : Type} {Q : α → sProp 𝕄} (he : Exact nat) (hpx : ∀ n < shardSize, bin (tilePx x L) n < 4096)
    (s : DmaSem sig) (hs : (SemLoc.dma s : SemLoc sig).isScoped .scVector = true) (r : Fin 8) {h1 h2 h3 h4 h5}
    {k : BitVec 32 → Prog (TpuEff nD τ sig (Elt F) Λ₀ (tile d L).2) α} :
    iprop(Still d L O W q x ∗ cAny d L ∗ hPts d L (histAt nat (tilePx x L) (32768 * r.val)))
      ⊢ iprop((∀ acc, iprop(Still d L O W q x ∗ cAny d L ∗ hPts d L (histAt nat (tilePx x L) (32768 * (r.val + 1))))
            -∗ wp frame (wpE (defs₀ (F := F)) 𝒱₀ (tile d L) none) Set.univ (k acc) Q)
        -∗ wp frame (wpE (defs₀ (F := F)) 𝒱₀ (tile d L) none) Set.univ
          (.op (.enqueueDma (srcM L r) (.here cM) (.dma s) h1 h2 h3) fun _ => .op (.waitDma2 s (srcM L r) cM h4 h5) fun _ =>
            Scf.Loop.for k0_t2_loop k0_t2_ok 0#32 (histBody d L (k0_pay17 (F := F))) >>= k) Q) := by
  unfold cAny
  iintro ⟨HS, ⟨%f, Hc⟩, Hh⟩ Hk
  iapply (fetch_start d L (f := f) s hs r) $$ [HS Hc]
  · isplitl [HS]; · iexact HS
    iexact Hc
  iintro HF
  iapply (fetch_end d L s hs r) $$ HF
  iintro ⟨HS, Hc⟩
  iapply (Scf.wp_for_bind frame (wpE (defs₀ (F := F)) 𝒱₀ (tile d L) none) Set.univ _ _ _ k0_t2_ok (0#32 : BitVec 32) (histBody d L (k0_pay17 (F := F)))
    (fun k _ => iprop(cPts d L (chunk (tilePx x L) (32768 * r.val)) ∗ hPts d L (histAt nat (tilePx x L) (32768 * r.val + 16 * k))))
    (fun k acc => hist_region d L he (tilePx x L) hpx (32768 * r.val) (by have := r.isLt; simp only [shardSize]; omega) k acc)) $$ [Hc Hh]
  · isplitl [Hc]; · iexact Hc
    iexact Hh
  iintro %acc ⟨Hc, Hh⟩
  iapply Hk
  isplitl [HS]; · iexact HS
  isplitl [Hc]; · iexists _; iexact Hc
  iexact Hh

set_option maxRecDepth 2000 in
theorem part2_wp (he : Exact nat) (hpx : ∀ n < shardSize, bin (tilePx x L) n < 4096) (v29 : BitVec 32) :
    iprop(Still d L O W q x ∗ cAny d L ∗ hPts d L (histAt nat (tilePx x L) 0))
      ⊢ wp frame (wpE (defs₀ (F := F)) 𝒱₀ (tile d L) none) Set.univ
          (k0_part2 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 v29 (k0_pay17 (F := F)))
          fun _ => iprop(Still d L O W q x ∗ cAny d L ∗ hPts d L (histAt nat (tilePx x L) 98304)) := by
  rw [k0_part2_eq_skeleton]
  unfold k0_part2_skel
  simp only [Prog.lift, Prog.bind_op, Prog.bind_ret, Prog.pure_eq_ret]
  iintro H
  iapply (count_chunk d L he hpx cc0_scoped0.sem (by decide) 0) $$ H
  iintro %acc H
  iapply (count_chunk d L he hpx cc0_scoped1.sem (by decide) 1) $$ H
  iintro %acc H
  iapply (count_chunk d L he hpx cc0_scoped2.sem (by decide) 2) $$ H
  iintro %acc H
  rw [wp_ret]
  imodintro
  iexact H

set_option maxRecDepth 2000 in
theorem part3_wp (he : Exact nat) (hpx : ∀ n < shardSize, bin (tilePx x L) n < 4096) (v29 : BitVec 32) :
    iprop(Still d L O W q x ∗ cAny d L ∗ hPts d L (histAt nat (tilePx x L) 98304))
      ⊢ wp frame (wpE (defs₀ (F := F)) 𝒱₀ (tile d L) none) Set.univ
          (k0_part3 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 v29 (k0_pay17 (F := F)))
          fun _ => iprop(Still d L O W q x ∗ cAny d L ∗ hPts d L (histAt nat (tilePx x L) 196608)) := by
  rw [k0_part3_eq_skeleton]
  unfold k0_part3_skel
  simp only [Prog.lift, Prog.bind_op, Prog.bind_ret, Prog.pure_eq_ret]
  iintro H
  iapply (count_chunk d L he hpx cc0_scoped3.sem (by decide) 3) $$ H
  iintro %acc H
  iapply (count_chunk d L he hpx cc0_scoped4.sem (by decide) 4) $$ H
  iintro %acc H
  iapply (count_chunk d L he hpx cc0_scoped5.sem (by decide) 5) $$ H
  iintro %acc H
  rw [wp_ret]
  imodintro
  iexact H

/-! ## The first part: the tile's shard, and the histogram zeroed -/

/-- Where the tile's shard starts in its image. -/
abbrev base : ℕ := shard L * shardSize

/-- The tile's shard, computed in words. -/
def shardWord : BitVec 32 :=
  Scalar.select
    (Scalar.andi (Scalar.xori (Scalar.cmpi .slt (Scalar.remsi (Scalar.addi (Scalar.muli (BitVec.ofNat 32 (L 0).val) 16#32) (BitVec.ofNat 32 (L 1).val))
        (Scalar.select (Scalar.cmpi .eq 8#32 0#32) 1#32 8#32)) 0#32) (Scalar.cmpi .slt (Scalar.select (Scalar.cmpi .eq 8#32 0#32) 1#32 8#32) 0#32))
      (Scalar.cmpi .ne (Scalar.remsi (Scalar.addi (Scalar.muli (BitVec.ofNat 32 (L 0).val) 16#32) (BitVec.ofNat 32 (L 1).val))
        (Scalar.select (Scalar.cmpi .eq 8#32 0#32) 1#32 8#32)) 0#32))
    (Scalar.addi (Scalar.remsi (Scalar.addi (Scalar.muli (BitVec.ofNat 32 (L 0).val) 16#32) (BitVec.ofNat 32 (L 1).val))
      (Scalar.select (Scalar.cmpi .eq 8#32 0#32) 1#32 8#32)) (Scalar.select (Scalar.cmpi .eq 8#32 0#32) 1#32 8#32))
    (Scalar.remsi (Scalar.addi (Scalar.muli (BitVec.ofNat 32 (L 0).val) 16#32) (BitVec.ofNat 32 (L 1).val)) (Scalar.select (Scalar.cmpi .eq 8#32 0#32) 1#32 8#32))

theorem shardWord_eq : ∀ L : grid0.Coords, Scalar.muli (shardWord L) 262144#32 = BitVec.ofNat 32 (base L) := by
  have h : ∀ (a : Fin 2) (b : Fin 16),
      Scalar.muli (shardWord (fun | 0 => a | 1 => b | ⟨_ + 2, h⟩ => absurd h (Nat.not_lt.2 (Nat.le_add_left _ _)))) 262144#32
        = BitVec.ofNat 32 ((a.val * 16 + b.val) % 8 * 262144) := by
    decide +kernel
  intro L
  have hL : L = fun | 0 => L 0 | 1 => L 1 | ⟨_ + 2, h⟩ => absurd h (Nat.not_lt.2 (Nat.le_add_left _ _)) := by
    funext a
    match a with
    | 0 => rfl
    | 1 => rfl
  rw [hL]
  exact h (L 0) (L 1)

/-- The sixteen lane numbers. -/
abbrev lanes : IVec S16 32 := iota .scVector S16 32 [0] iota_S16_d0_w32_scVector

theorem lanes_lane (j : Fin 16) : lanes (lane j) = BitVec.ofNat 32 j.val := by
  show BitVec.ofNat 32 (0 * 16 + j.val) = _
  rw [Nat.zero_mul, Nat.zero_add]

theorem filled_zero {e : EltTy} (M : Memref sig .scVector .vmem S4096 e) (z : Elt F e) (f : Buf (Elt F) (M.view.loc (tile d L))) :
    (M.view.loc (tile d L) ↦{fullShare} f) ⊢ filled d L M z 0 := by
  unfold filled
  iintro H
  iexists f
  isplitr
  · ipureintro
    intro j hj
    omega
  · iexact H

set_option maxRecDepth 2000 in
theorem part1_wp (he : Exact nat) (f : Vec F S4096 .f32) :
    hPts d L f
      ⊢ wp frame (wpE (defs₀ (F := F)) 𝒱₀ (tile d L) none) Set.univ
          (k0_part1 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17)
          fun r => iprop(⌜r = ⟨shardWord L, BitVec.ofNat 32 (base L), k0_pay15, k0_pay17 (F := F), lanes⟩⌝ ∗ hPts d L (histAt nat (tilePx x L) 0)) := by
  rw [k0_part1_eq_skeleton]
  unfold k0_part1_skel
  simp only [Prog.lift, Prog.bind_op, Prog.bind_ret, Prog.pure_eq_ret]
  iintro H
  ihave H := (filled_zero d L hM (Scalar.ofBits .f32 0x00000000#32) f) $$ H
  iapply (Scf.wp_for_bind frame (wpE (defs₀ (F := F)) 𝒱₀ (tile d L) none) Set.univ _ _ _ k0_t1_ok (0#32 : BitVec 32) _
    (fun k _ => filled d L hM (Scalar.ofBits .f32 0x00000000#32) (16 * k)) (fun k acc => by
      unfold k0_t1_body
      simp only [Prog.lift, Prog.bind_op, Prog.bind_ret, Prog.pure_eq_ret]
      iintro H
      iapply (wp_fill d L hM (Scalar.ofBits .f32 0x00000000#32) (16 * k.val) _ _ (k0_off1_eq k)) $$ H
      iintro H
      rw [wp_ret]
      imodintro
      iexact H)) $$ H
  iintro %acc H
  rw [wp_ret]
  imodintro
  isplitr
  · ipureintro
    rw [← shardWord_eq]
    rfl
  · unfold filled
    icases H with ⟨%g, %hg, H⟩
    rw [histAt_zero he]
    rw [show (fun _ => Scalar.ofBits .f32 0#32 : Vec F S4096 .f32) = g from (funext fun j => (hg j (j 0).isLt).symm.trans (congrFun (View.read_whole cc0_scratch1 (Val := Elt F) g) j))]
    iexact H

end

end Cert.Proof

end
-- ==== Proof.Packs.lean ====
/-
  A tile's later parts: the last two chunks counted and the level found, then the chunks fetched again one after
  another and their kept pixels packed.
-/
module

public import proofs.«01_k».proof.Proof.Parts

@[expose] public section

noncomputable section

namespace Cert.Proof

open Cert.KernelIdeal Cert.KernelIdeal.Gen

open Idealize.ShloMosaic
open Idealize.ShloMosaic.SparseCore (S V)
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

section
variable {O : CellTallies nD τ sig (HIx 1)} {W : Waits sig (HIx 1)} {q : PosShare TreeShare} {x : Vec F S4x2097152 .f32} {nat : ℕ → F .f32}

theorem read_lane_off (off : Fin 1 → ℕ) (inb : ∀ a, off a + S16.size a ≤ S4096.size a) {o : Fin 1 → ℕ} (hoff : off = o) (f : Vec F S4096 .f32) (n : ℕ) (ho : o 0 = n)
    (h : ∀ j : Fin 16, n + j.val < 4096) (j : Fin 16) :
    hM.view.readAt (Elt F) (Rect.unit (s := S4096) off S16.size inb).toLoadRect f (lane j) = f (at1 (n + j.val) (h j)) := by
  obtain rfl : off = ![n] := by
    rw [hoff]
    funext a
    obtain rfl : a = 0 := Subsingleton.elim _ _
    exact ho
  exact read_lane_h n inb f (lane j) (h j)

/-- What holds in the level's search: the pixels in the bins seen so far, and the level found. -/
def levelInv (nat : ℕ → F .f32) (px : ℕ → F .f32) (i : ℕ) (acc : BitVec 32 × BitVec 32) : sProp 𝕄 :=
  iprop(⌜acc = (BitVec.ofNat 32 (above px (256 - i)), BitVec.ofNat 32 (found px (256 - i)))⌝ ∗ hPts d L (histAt nat px shardSize))

theorem level_region (he : Exact nat) (px : ℕ → F .f32) (v29 : BitVec 32) (k : Fin k0_t10_loop.trips) (acc : BitVec 32 × BitVec 32) :
    levelInv d L nat px k.val acc
      ⊢ wp frame (wpE (defs₀ (F := F)) 𝒱₀ (tile d L) none) Set.univ
          (k0_t10_body L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 v29 k0_pay15 (k0_pay17 (F := F)) k acc)
          (levelInv d L nat px (k.val + 1)) := by
  have hk : k.val < 256 := k.isLt
  unfold k0_t10_body levelInv
  simp only [Prog.lift, Prog.bind_op, Prog.bind_ret, Prog.pure_eq_ret]
  iintro ⟨%hacc, Hh⟩
  iapply (wp_load 𝒱₀ (tile d L) none Set.univ (m := hM) (S := Finset.univ) (Finset.subset_univ _)) $$ Hh
  iintro Hh
  have hv : ∀ j : Fin 16, hM.view.readAt (Elt F) (Rect.unit (s := S4096) (k0_off11 k) S16.size (k0_off11_inb k)).toLoadRect (histAt nat px shardSize) (lane j)
      = histAt nat px shardSize (at1 (4080 - 16 * k.val + j.val) (by have := j.isLt; omega)) := by
    exact fun j => read_lane_off _ _ (k0_off11_eq k) _ (4080 - 16 * k.val) rfl (fun j => by have := j.isLt; omega) j
  rw [wp_ret]
  imodintro
  isplitr
  · ipureintro
    subst hacc
    refine Prod.ext ?_ ?_
    · exact level_step he px k.val hk _ hv
    · refine Eq.trans ?_ (level_choice px k.val hk)
      exact congrArg (fun a => Scalar.select (Scalar.andi (Scalar.cmpi .sge a 2048#32) (Scalar.cmpi .slt (BitVec.ofNat 32 (above px (256 - k.val))) 2048#32))
        (Scalar.muli (Scalar.subi 255#32 (Scf.iv 0#32 1#32 k.val)) 16#32) (BitVec.ofNat 32 (found px (256 - k.val)))) (level_step he px k.val hk _ hv)
  · iexact Hh

/-- The level a shard's pixels are kept from, as a word. -/
abbrev levelWord (px : ℕ → F .f32) : BitVec 32 := BitVec.ofNat 32 (16 * level px)

set_option maxRecDepth 2000 in
theorem part4_wp (he : Exact nat) (hpx : ∀ n < shardSize, bin (tilePx x L) n < 4096) (v29 : BitVec 32) {fw : Vec F S4096 .f32} {fi : Vec F S4096 .i32} :
    iprop(Still d L O W q x ∗ cAny d L ∗ hPts d L (histAt nat (tilePx x L) 196608) ∗ wPts d L fw ∗ iPts (F := F) d L fi)
      ⊢ wp frame (wpE (defs₀ (F := F)) 𝒱₀ (tile d L) none) Set.univ
          (k0_part4 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 v29 k0_pay15 (k0_pay17 (F := F)))
          fun r => iprop(⌜r = levelWord (tilePx x L)⌝ ∗ Flying d L O W q x cc0_scoped8.sem 0 ∗ hPts d L (histAt nat (tilePx x L) shardSize)
            ∗ wPts d L (fun _ => Scalar.ofBits .f32 0xBF800000#32) ∗ iPts (F := F) d L (fun _ => 0#32)) := by
  rw [k0_part4_eq_skeleton]
  unfold k0_part4_skel
  simp only [Prog.lift, Prog.bind_op, Prog.bind_ret, Prog.pure_eq_ret]
  iintro ⟨HS, Hc, Hh, Hw, Hi⟩
  iapply (count_chunk d L he hpx cc0_scoped6.sem (by decide) 6) $$ [HS Hc Hh]
  · isplitl [HS]; · iexact HS
    isplitl [Hc]; · iexact Hc
    iexact Hh
  iintro %acc H
  iapply (count_chunk d L he hpx cc0_scoped7.sem (by decide) 7) $$ H
  iintro %acc ⟨HS, Hc, Hh⟩
  iapply (Scf.wp_for_bind frame (wpE (defs₀ (F := F)) 𝒱₀ (tile d L) none) Set.univ _ _ _ k0_t10_ok ((0#32, 0#32) : BitVec 32 × BitVec 32) _
    (levelInv d L nat (tilePx x L)) (fun k acc => level_region d L he (tilePx x L) v29 k acc)) $$ [Hh]
  · unfold levelInv
    isplitr
    · ipureintro
      rw [above_top (px := tilePx x L) hpx, found_top (px := tilePx x L) hpx]
    · iexact Hh
  unfold levelInv
  iintro %acc ⟨%hacc, Hh⟩
  ihave Hw := (filled_zero d L wM (Scalar.ofBits .f32 0xBF800000#32) fw) $$ Hw
  ihave Hi := (filled_zero d L iM (0#32 : BitVec 32) fi) $$ Hi
  iapply (Scf.wp_for_bind frame (wpE (defs₀ (F := F)) 𝒱₀ (tile d L) none) Set.univ _ _ _ k0_t11_ok (0#32 : BitVec 32) _
    (fun k _ => iprop(filled d L wM (Scalar.ofBits .f32 0xBF800000#32) (16 * k) ∗ filled d L iM (0#32 : BitVec 32) (16 * k))) (fun k acc => by
      unfold k0_t11_body
      simp only [Prog.lift, Prog.bind_op, Prog.bind_ret, Prog.pure_eq_ret]
      iintro ⟨Hw, Hi⟩
      iapply (wp_fill d L wM (Scalar.ofBits .f32 0xBF800000#32) (16 * k.val) _ _ (k0_off12_eq k)) $$ Hw
      iintro Hw
      iapply (wp_fill d L iM (0#32 : BitVec 32) (16 * k.val) _ _ (k0_off12_eq k)) $$ Hi
      iintro Hi
      rw [wp_ret]
      imodintro
      isplitl [Hw]; · iexact Hw
      iexact Hi)) $$ [Hw Hi]
  · isplitl [Hw]; · iexact Hw
    iexact Hi
  iintro %acc' ⟨Hw, Hi⟩
  unfold cAny
  icases Hc with ⟨%f, Hc⟩
  iapply (fetch_start d L (f := f) cc0_scoped8.sem (by decide) 0) $$ [HS Hc]
  · isplitl [HS]; · iexact HS
    iexact Hc
  iintro HF
  rw [wp_ret]
  imodintro
  isplitr
  · ipureintro
    rw [hacc]
    show BitVec.ofNat 32 (found (tilePx x L) (256 - 256)) = _
    rw [Nat.sub_self, found_zero]
  isplitl [HF]; · iexact HF
  isplitl [Hh]; · iexact Hh
  unfold filled
  icases Hw with ⟨%g, %hg, Hw⟩
  icases Hi with ⟨%g', %hg', Hi⟩
  isplitl [Hw]
  · rw [show (fun _ => Scalar.ofBits .f32 0xBF800000#32 : Vec F S4096 .f32) = g from (funext fun j => (hg j (j 0).isLt).symm.trans (congrFun (View.read_whole cc0_scratch2 (Val := Elt F) g) j))]
    iexact Hw
  · rw [show (fun _ => 0#32 : Vec F S4096 .i32) = g' from (funext fun j => (hg' j (j 0).isLt).symm.trans (congrFun (View.read_whole cc0_scratch3 (Val := Elt F) g') j))]
    iexact Hi

/-! ## Packing, chunk after chunk -/

/-- The slots once `r` chunks are packed, with the count of kept pixels. -/
def packed (px : ℕ → F .f32) (t : BitVec 32) (r : ℕ) (n : BitVec 32) : sProp 𝕄 :=
  iprop(⌜n = BitVec.ofNat 32 (kept px t (32768 * r)).length⌝ ∗ wPts d L (valsAt px t (32768 * r)) ∗ iPts (F := F) d L (idxsAt px t (base L) (32768 * r)))

theorem fetch_chunk {α : Type} {Q : α → sProp 𝕄} (s : DmaSem sig) (hs : (SemLoc.dma s : SemLoc sig).isScoped .scVector = true) (r : Fin 8) {h1 h2 h3 h4 h5}
    {k : PUnit → Prog (TpuEff nD τ sig (Elt F) Λ₀ (tile d L).2) α} :
    iprop(Still d L O W q x ∗ cAny d L)
      ⊢ iprop((iprop(Still d L O W q x ∗ cPts d L (chunk (tilePx x L) (32768 * r.val))) -∗ wp frame (wpE (defs₀ (F := F)) 𝒱₀ (tile d L) none) Set.univ (k ⟨⟩) Q)
        -∗ wp frame (wpE (defs₀ (F := F)) 𝒱₀ (tile d L) none) Set.univ (.op (.enqueueDma (srcM L r) (.here cM) (.dma s) h1 h2 h3) fun _ => .op (.waitDma2 s (srcM L r) cM h4 h5) k) Q) := by
  unfold cAny
  iintro ⟨HS, ⟨%f, Hc⟩⟩ Hk
  iapply (fetch_start d L (f := f) s hs r) $$ [HS Hc]
  · isplitl [HS]; · iexact HS
    iexact Hc
  iintro HF
  iapply (fetch_end d L s hs r) $$ HF
  iexact Hk

theorem pack_chunk {α : Type} {Q : α → sProp 𝕄} {px : ℕ → F .f32} {t : BitVec 32} (hroom : (kept px t shardSize).length < 4096) (r : Fin 8) {n : BitVec 32}
    {k : BitVec 32 → Prog (TpuEff nD τ sig (Elt F) Λ₀ (tile d L).2) α} :
    iprop(packed d L px t r.val n ∗ cPts d L (chunk px (32768 * r.val)))
      ⊢ iprop((∀ acc, iprop(packed d L px t (r.val + 1) acc ∗ cAny d L) -∗ wp frame (wpE (defs₀ (F := F)) 𝒱₀ (tile d L) none) Set.univ (k acc) Q)
        -∗ wp frame (wpE (defs₀ (F := F)) 𝒱₀ (tile d L) none) Set.univ (Scf.Loop.for k0_t12_loop k0_t12_ok n (packBody d L t (BitVec.ofNat 32 (base L)) (BitVec.ofNat 32 (32768 * r.val)) lanes) >>= k) Q) := by
  unfold packed cAny
  iintro ⟨⟨%hn, Hw, Hi⟩, Hc⟩ Hk
  iapply (Scf.wp_for_bind frame (wpE (defs₀ (F := F)) 𝒱₀ (tile d L) none) Set.univ _ _ _ k0_t12_ok n (packBody d L t (BitVec.ofNat 32 (base L)) (BitVec.ofNat 32 (32768 * r.val)) lanes)
    (packInv d L px t (base L) (32768 * r.val))
    (fun k acc => pack_region d L px t hroom (base L) (32768 * r.val) (by have := r.isLt; simp only [shardSize]; omega) lanes lanes_lane k acc)) $$ [Hc Hw Hi]
  · unfold packInv
    isplitr; · ipureintro; exact hn
    isplitl [Hc]; · iexact Hc
    isplitl [Hw]; · iexact Hw
    iexact Hi
  unfold packInv
  iintro %acc ⟨%hacc, Hc, Hw, Hi⟩
  iapply Hk
  isplitr [Hc]
  · isplitr; · ipureintro; exact hacc
    isplitl [Hw]; · iexact Hw
    iexact Hi
  · iexists _
    iexact Hc

set_option maxRecDepth 2000 in
theorem part5_wp {t : BitVec 32} (hroom : (kept (tilePx x L) t shardSize).length < 4096) :
    iprop(Flying d L O W q x cc0_scoped8.sem 0 ∗ packed d L (tilePx x L) t 0 0#32)
      ⊢ wp frame (wpE (defs₀ (F := F)) 𝒱₀ (tile d L) none) Set.univ
          (k0_part5 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 (BitVec.ofNat 32 (base L)) lanes t)
          fun n => iprop(Still d L O W q x ∗ cPts d L (chunk (tilePx x L) (32768 * 3)) ∗ packed d L (tilePx x L) t 3 n) := by
  rw [k0_part5_eq_skeleton]
  unfold k0_part5_skel
  simp only [Prog.lift, Prog.bind_op, Prog.bind_ret, Prog.pure_eq_ret]
  iintro ⟨HF, Hp⟩
  iapply (fetch_end d L cc0_scoped8.sem (by decide) 0) $$ HF
  iintro ⟨HS, Hc⟩
  iapply (pack_chunk d L hroom 0) $$ [Hp Hc]
  · isplitl [Hp]; · iexact Hp
    iexact Hc
  iintro %acc ⟨Hp, Hc⟩
  iapply (fetch_chunk d L cc0_scoped9.sem (by decide) 1) $$ [HS Hc]
  · isplitl [HS]; · iexact HS
    iexact Hc
  iintro ⟨HS, Hc⟩
  iapply (pack_chunk d L hroom 1) $$ [Hp Hc]
  · isplitl [Hp]; · iexact Hp
    iexact Hc
  iintro %acc ⟨Hp, Hc⟩
  iapply (fetch_chunk d L cc0_scoped10.sem (by decide) 2) $$ [HS Hc]
  · isplitl [HS]; · iexact HS
    iexact Hc
  iintro ⟨HS, Hc⟩
  iapply (pack_chunk d L hroom 2) $$ [Hp Hc]
  · isplitl [Hp]; · iexact Hp
    iexact Hc
  iintro %acc ⟨Hp, Hc⟩
  iapply (fetch_chunk d L cc0_scoped11.sem (by decide) 3) $$ [HS Hc]
  · isplitl [HS]; · iexact HS
    iexact Hc
  iintro ⟨HS, Hc⟩
  rw [wp_ret]
  imodintro
  isplitl [HS]; · iexact HS
  isplitl [Hc]; · iexact Hc
  iexact Hp

set_option maxRecDepth 2000 in
theorem part6_wp {t n : BitVec 32} (hroom : (kept (tilePx x L) t shardSize).length < 4096) :
    iprop(Still d L O W q x ∗ cPts d L (chunk (tilePx x L) (32768 * 3)) ∗ packed d L (tilePx x L) t 3 n)
      ⊢ wp frame (wpE (defs₀ (F := F)) 𝒱₀ (tile d L) none) Set.univ
          (k0_part6 L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 (BitVec.ofNat 32 (base L)) lanes t n)
          fun r => iprop(⌜r = ⟨r.1, k0_pay70 t, 0#32, 2048#32⟩⌝ ∗ Still d L O W q x ∗ cPts d L (chunk (tilePx x L) (32768 * 6)) ∗ packed d L (tilePx x L) t 6 r.1) := by
  rw [k0_part6_eq_skeleton]
  unfold k0_part6_skel
  simp only [Prog.lift, Prog.bind_op, Prog.bind_ret, Prog.pure_eq_ret]
  iintro ⟨HS, Hc, Hp⟩
  iapply (pack_chunk d L hroom 3) $$ [Hp Hc]
  · isplitl [Hp]; · iexact Hp
    iexact Hc
  iintro %acc ⟨Hp, Hc⟩
  iapply (fetch_chunk d L cc0_scoped12.sem (by decide) 4) $$ [HS Hc]
  · isplitl [HS]; · iexact HS
    iexact Hc
  iintro ⟨HS, Hc⟩
  iapply (pack_chunk d L hroom 4) $$ [Hp Hc]
  · isplitl [Hp]; · iexact Hp
    iexact Hc
  iintro %acc ⟨Hp, Hc⟩
  iapply (fetch_chunk d L cc0_scoped13.sem (by decide) 5) $$ [HS Hc]
  · isplitl [HS]; · iexact HS
    iexact Hc
  iintro ⟨HS, Hc⟩
  iapply (pack_chunk d L hroom 5) $$ [Hp Hc]
  · isplitl [Hp]; · iexact Hp
    iexact Hc
  iintro %acc ⟨Hp, Hc⟩
  iapply (fetch_chunk d L cc0_scoped14.sem (by decide) 6) $$ [HS Hc]
  · isplitl [HS]; · iexact HS
    iexact Hc
  iintro ⟨HS, Hc⟩
  rw [wp_ret]
  imodintro
  isplitr; · ipureintro; rfl
  isplitl [HS]; · iexact HS
  isplitl [Hc]; · iexact Hc
  iexact Hp

end

end Cert.Proof

end
-- ==== Proof.Tile.lean ====
/-
  A tile's whole task: its parts in order, then its kept values and positions copied out to its slots of the results.
-/
module

public import proofs.«01_k».proof.Proof.Packs

@[expose] public section

noncomputable section

namespace Cert.Proof

open Cert.KernelIdeal Cert.KernelIdeal.Gen

open Idealize.ShloMosaic
open Idealize.ShloMosaic.SparseCore (S V)
open Idealize.ShloMosaic.SparseCore.Cfg (HIx ownSems0 ownCells mem_ownCells)
open Idealize.ShloMosaic.Transfers (MayWaits Flight)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

section
variable {O : CellTallies nD τ sig (HIx 1)} {W : Waits sig (HIx 1)} {q : PosShare TreeShare} {x : Vec F S4x2097152 .f32} {nat : ℕ → F .f32}

/-! ## What the results hold -/

/-- The values: each shard's kept pixels in its own 4096 slots. -/
def outVals (x : Vec F S4x2097152 .f32) : Vec F S4x32768 .f32 := fun i =>
  valsAt (pixel x (i 0) ((i 1).val / 4096)) (levelWord (pixel x (i 0) ((i 1).val / 4096))) shardSize (at1 ((i 1).val % 4096) (Nat.mod_lt _ (by decide)))

/-- The positions of the same pixels in their image. -/
def outIdxs (x : Vec F S4x2097152 .f32) : Vec F S4x32768 .i32 := fun i =>
  idxsAt (pixel x (i 0) ((i 1).val / 4096)) (levelWord (pixel x (i 0) ((i 1).val / 4096))) ((i 1).val / 4096 * shardSize) shardSize
    (at1 ((i 1).val % 4096) (Nat.mod_lt _ (by decide)))

/-- A tile's slots in the values and in the positions, as the program slices them. -/
abbrev vSl : Memref sig .scVector .hbm S4096 .f32 :=
  (vM.slice (Rect.unit (s := S4x32768) (k0_off21 L) S1x4096.size (k0_off21_inb L)) (fun _ => rfl)).squeeze S4096 squeezes_S1x4096_S4096
abbrev pSl : Memref sig .scVector .hbm S4096 .i32 :=
  (pM.slice (Rect.unit (s := S4x32768) (k0_off21 L) S1x4096.size (k0_off21_inb L)) (fun _ => rfl)).squeeze S4096 squeezes_S1x4096_S4096

/-- Where slot `j` of the tile stands in the results. -/
def slotIdx (j : S4096.Idx) : S4x32768.Idx := fun
  | 0 => image L
  | 1 => ⟨shard L * 4096 + (j 0).val, by
      have hj : (j 0).val < 4096 := (j 0).isLt
      show _ < 32768
      unfold shard
      omega⟩
  | ⟨_ + 2, h⟩ => absurd h (Nat.not_lt.2 (Nat.le_add_left _ _))

theorem slot_place {α : Type} (f : S4x32768.Idx → α) (j : S4096.Idx) :
    shapeCast (s := S1x4096) S4096 (fun k => f ((Rect.unit (s := S4x32768) (k0_off21 L) S1x4096.size (k0_off21_inb L)).toLoadRect.idx k)) (by decide) j = f (slotIdx L j) := by
  have hj : j = ix1 (j 0) := by
    funext a
    obtain rfl : a = 0 := Subsingleton.elim _ _
    rfl
  have hc : (⟨2, ![1, 4096]⟩ : Shape).ShapeCasts ⟨1, ![4096]⟩ := by decide
  rw [hj]
  refine (ValueIdx.shapeCast_1a_a_apply _ hc (j 0)).trans ?_
  refine congrArg f ?_
  have h0 := congrFun (slot_off L) 0
  have h1 := congrFun (slot_off L) 1
  funext a
  apply Fin.ext
  match a with
  | 0 =>
    show k0_off21 L 0 + 1 * 0 = wid L / 8
    rw [h0]
    rfl
  | 1 =>
    show k0_off21 L 1 + 1 * (j 0).val = shard L * 4096 + (j 0).val
    rw [h1, Nat.one_mul]
    rfl

theorem read_vSl (f : Vec F S4x32768 .f32) (j : S4096.Idx) : (vSl L).view.read (Elt F) f j = f (slotIdx L j) := by
  have hc : (⟨2, ![1, 4096]⟩ : Shape).ShapeCasts ⟨1, ![4096]⟩ := by decide
  refine (congrFun (Memref.read_squeeze_slice (Val := Elt F) vM _ (fun _ => rfl) squeezes_S1x4096_S4096 hc f) j).trans ?_
  exact slot_place L f j

theorem read_pSl (f : Vec F S4x32768 .i32) (j : S4096.Idx) : (pSl L).view.read (Elt F) f j = f (slotIdx L j) := by
  have hc : (⟨2, ![1, 4096]⟩ : Shape).ShapeCasts ⟨1, ![4096]⟩ := by decide
  refine (congrFun (Memref.read_squeeze_slice (Val := Elt F) pM _ (fun _ => rfl) squeezes_S1x4096_S4096 hc f) j).trans ?_
  exact slot_place L f j

theorem slot_div (j : S4096.Idx) : ((slotIdx L j) 1).val / 4096 = shard L := by
  have hj : (j 0).val < 4096 := (j 0).isLt
  show (shard L * 4096 + (j 0).val) / 4096 = _
  omega

theorem slot_mod (j : S4096.Idx) : ((slotIdx L j) 1).val % 4096 = (j 0).val := by
  have hj : (j 0).val < 4096 := (j 0).isLt
  show (shard L * 4096 + (j 0).val) % 4096 = _
  omega

theorem at1_eq (j : S4096.Idx) {n : ℕ} (h : n < 4096) (e : n = (j 0).val) : at1 n h = j := by
  funext a
  obtain rfl : a = 0 := Subsingleton.elim _ _
  exact Fin.ext e

theorem outVals_slot (x : Vec F S4x2097152 .f32) (j : S4096.Idx) :
    outVals x (slotIdx L j) = valsAt (tilePx x L) (levelWord (tilePx x L)) shardSize j := by
  show valsAt (pixel x (image L) (((slotIdx L j) 1).val / 4096)) (levelWord (pixel x (image L) (((slotIdx L j) 1).val / 4096))) shardSize
    (at1 (((slotIdx L j) 1).val % 4096) _) = _
  rw [at1_eq j _ (slot_mod L j)]
  have h := slot_div L j
  generalize ((slotIdx L j) 1).val / 4096 = w at h
  subst h
  rfl

theorem outIdxs_slot (x : Vec F S4x2097152 .f32) (j : S4096.Idx) :
    outIdxs x (slotIdx L j) = idxsAt (tilePx x L) (levelWord (tilePx x L)) (base L) shardSize j := by
  show idxsAt (pixel x (image L) (((slotIdx L j) 1).val / 4096)) (levelWord (pixel x (image L) (((slotIdx L j) 1).val / 4096)))
    (((slotIdx L j) 1).val / 4096 * shardSize) shardSize (at1 (((slotIdx L j) 1).val % 4096) _) = _
  rw [at1_eq j _ (slot_mod L j)]
  have h := slot_div L j
  generalize ((slotIdx L j) 1).val / 4096 = w at h
  subst h
  rfl

/-- A write through a view agrees on the view's own elements with any array that reads the same there. -/
theorem write_agrees {e : EltTy} {sp : Space} {s : Shape} (v : View sig .scVector sp s e) (g f : v.ty.Contents (Elt F)) (w : s.Idx → Elt F e)
    (h : v.read (Elt F) f = w) : ∀ i ∈ v.set, v.write (Elt F) g w Finset.univ i = f i := by
  intro i hi
  obtain ⟨j, -, rfl⟩ := Finset.mem_map.mp hi
  have h1 := congrFun (View.read_write_univ (v := v) (Val := Elt F) g w) j
  have h2 := congrFun h j
  rw [View.read_apply] at h1 h2
  exact (cast_inj (congrArg (Elt F) v.elt_eq)).mp (h1.trans h2.symm)

/-! ## A tile's copies out -/

theorem send {α : Type} {Q : α → sProp 𝕄} {e : EltTy} (M : Memref sig .scVector .vmem S4096 e) (N : Memref sig .scVector .hbm S4096 e)
    (s : DmaSem sig) (hs : (SemLoc.dma s : SemLoc sig).isScoped .scVector = true) {h1 h2 h3 h4 h5}
    {f : Buf (Elt F) (M.view.loc (tile d L))} {g : Buf (Elt F) (N.view.loc (tile d L))}
    {k : PUnit → Prog (TpuEff nD τ sig (Elt F) Λ₀ (tile d L).2) α} :
    iprop(Still d L O W q x ∗ (M.view.loc (tile d L) ↦[M.view.set]{fullShare} f) ∗ (N.view.loc (tile d L) ↦[N.view.set]{fullShare} g))
      ⊢ iprop((iprop(Still d L O W q x ∗ (M.view.loc (tile d L) ↦[M.view.set]{fullShare} f)
            ∗ (N.view.loc (tile d L) ↦[N.view.set]{fullShare} (N.view.write (Elt F) g (M.view.read (Elt F) f) Finset.univ))) -∗ wp frame (wpE (defs₀ (F := F)) 𝒱₀ (tile d L) none) Set.univ (k ⟨⟩) Q)
        -∗ wp frame (wpE (defs₀ (F := F)) 𝒱₀ (tile d L) none) Set.univ (.op (.enqueueDma M (.here N) (.dma s) h1 h2 h3) fun _ => .op (.waitDma2 s M N h4 h5) k) Q) := by
  unfold Still
  rw [sems_split d L s hs]
  unfold Standing
  iintro ⟨⟨⟨#Hmw, %W', %hW', Ho⟩, ⟨Hv, Hsems⟩, Hx⟩, HM, HN⟩ Hk
  iapply (Transfers.wp_dmaLocal countersEmb 𝒱₀ (tile d L) none none (N.view.amount (.dma s)) rfl (View.amount_pos _ _ (show 0 < S4096.numel by decide)) (Finset.Subset.refl _)) $$ [HM HN Hv]
  · isplitl [HM]; · iexact HM
    isplitl [HN]; · iexact HN
    iexact Hv
  iintro Hf
  ihave Hm := (Transfers.MayWaits.elim (.dma s)) $$ Hmw
  have hN : N.view.dmaCredit = N.view.amount (.dma s) := rfl
  iapply (Transfers.wp_waitLocalO countersEmb 𝒱₀ (tile d L) none (sem := s) (srcw := M) (dstw := N) none hN) $$ [Hf Ho Hm]
  · isplitl [Hf]; · iexact Hf
    isplitl [Ho]; · iexact Ho
    iexact Hm
  iintro ⟨⟨HN, HM⟩, Hv, Ho⟩
  iapply Hk
  isplitl [Ho Hv Hsems Hx]
  · isplitl [Ho]
    · isplitr; · iexact Hmw
      iexists (insert (SemLoc.dma s, none) W')
      isplitr
      · ipureintro
        intro p hp
        rcases Finset.mem_insert.mp hp with h | h
        · exact .inr (congrArg Prod.snd h)
        · exact hW' p h
      · iexact Ho
    isplitr [Hx]
    · isplitl [Hv]; · iexact Hv
      iexact Hsems
    · iexact Hx
  isplitl [HM]; · iexact HM
  iexact HN

/-- The tile's slots of the values, at contents `f`; and of the positions. -/
abbrev vPts (f : Vec F S4x32768 .f32) : sProp 𝕄 := (vSl L).view.loc (tile d L) ↦[(vSl L).view.set]{fullShare} (f : Buf (Elt F) ((vSl L).view.loc (tile d L)))
abbrev pPts (f : Vec F S4x32768 .i32) : sProp 𝕄 := (pSl L).view.loc (tile d L) ↦[(pSl L).view.set]{fullShare} (f : Buf (Elt F) ((pSl L).view.loc (tile d L)))

theorem send_vals {α : Type} {Q : α → sProp 𝕄} (s : DmaSem sig) (hs : (SemLoc.dma s : SemLoc sig).isScoped .scVector = true) {h1 h2 h3 h4 h5}
    {g : Vec F S4x32768 .f32} {k : PUnit → Prog (TpuEff nD τ sig (Elt F) Λ₀ (tile d L).2) α} :
    iprop(Still d L O W q x ∗ wPts d L (valsAt (tilePx x L) (levelWord (tilePx x L)) shardSize) ∗ vPts d L g)
      ⊢ iprop((iprop(Still d L O W q x ∗ wPts d L (valsAt (tilePx x L) (levelWord (tilePx x L)) shardSize) ∗ vPts d L (outVals x)) -∗ wp frame (wpE (defs₀ (F := F)) 𝒱₀ (tile d L) none) Set.univ (k ⟨⟩) Q)
        -∗ wp frame (wpE (defs₀ (F := F)) 𝒱₀ (tile d L) none) Set.univ (.op (.enqueueDma wM (.here (vSl L)) (.dma s) h1 h2 h3) fun _ => .op (.waitDma2 s wM (vSl L) h4 h5) k) Q) := by
  have e1 : wM.view.set = Finset.univ := View.set_whole cc0_scratch2
  have h := send d L (O := O) (W := W) (q := q) (x := x) (Q := Q) wM (vSl L) s hs (h1 := h1) (h2 := h2) (h3 := h3) (h4 := h4) (h5 := h5)
    (f := valsAt (tilePx x L) (levelWord (tilePx x L)) shardSize) (g := g) (k := k)
  rw [e1] at h
  have e2 : wM.view.read (Elt F) (valsAt (tilePx x L) (levelWord (tilePx x L)) shardSize) = valsAt (tilePx x L) (levelWord (tilePx x L)) shardSize :=
    View.read_whole cc0_scratch2 _
  have e3 : vPts d L ((vSl L).view.write (Elt F) g (valsAt (tilePx x L) (levelWord (tilePx x L)) shardSize) Finset.univ) = vPts d L (outVals x) :=
    pointsTo_congr (write_agrees (vSl L).view g (outVals x) _ (funext fun j => (read_vSl L (outVals x) j).trans (outVals_slot L x j)))
  rw [e2] at h
  iintro H Hk
  iapply h $$ H
  iintro ⟨HS, Hb, Ho⟩
  ihave Ho := (Entails.of_eq e3) $$ Ho
  iapply Hk
  isplitl [HS]; · iexact HS
  isplitl [Hb]; · iexact Hb
  iexact Ho

theorem send_idxs {α : Type} {Q : α → sProp 𝕄} (s : DmaSem sig) (hs : (SemLoc.dma s : SemLoc sig).isScoped .scVector = true) {h1 h2 h3 h4 h5}
    {g : Vec F S4x32768 .i32} {k : PUnit → Prog (TpuEff nD τ sig (Elt F) Λ₀ (tile d L).2) α} :
    iprop(Still d L O W q x ∗ iPts (F := F) d L (idxsAt (tilePx x L) (levelWord (tilePx x L)) (base L) shardSize) ∗ pPts (F := F) d L g)
      ⊢ iprop((iprop(Still d L O W q x ∗ iPts (F := F) d L (idxsAt (tilePx x L) (levelWord (tilePx x L)) (base L) shardSize) ∗ pPts (F := F) d L (outIdxs x)) -∗ wp frame (wpE (defs₀ (F := F)) 𝒱₀ (tile d L) none) Set.univ (k ⟨⟩) Q)
        -∗ wp frame (wpE (defs₀ (F := F)) 𝒱₀ (tile d L) none) Set.univ (.op (.enqueueDma iM (.here (pSl L)) (.dma s) h1 h2 h3) fun _ => .op (.waitDma2 s iM (pSl L) h4 h5) k) Q) := by
  have e1 : iM.view.set = Finset.univ := View.set_whole cc0_scratch3
  have h := send d L (O := O) (W := W) (q := q) (x := x) (Q := Q) iM (pSl L) s hs (h1 := h1) (h2 := h2) (h3 := h3) (h4 := h4) (h5 := h5)
    (f := idxsAt (tilePx x L) (levelWord (tilePx x L)) (base L) shardSize) (g := g) (k := k)
  rw [e1] at h
  have e2 : iM.view.read (Elt F) (idxsAt (tilePx x L) (levelWord (tilePx x L)) (base L) shardSize) = idxsAt (tilePx x L) (levelWord (tilePx x L)) (base L) shardSize :=
    View.read_whole cc0_scratch3 _
  have e3 : pPts (F := F) d L ((pSl L).view.write (Elt F) g (idxsAt (tilePx x L) (levelWord (tilePx x L)) (base L) shardSize) Finset.univ) = pPts (F := F) d L (outIdxs x) :=
    pointsTo_congr (write_agrees (pSl L).view g (outIdxs x) _ (funext fun j => (read_pSl L (outIdxs x) j).trans (outIdxs_slot L x j)))
  rw [e2] at h
  iintro H Hk
  iapply h $$ H
  iintro ⟨HS, Hb, Ho⟩
  ihave Ho := (Entails.of_eq e3) $$ Ho
  iapply Hk
  isplitl [HS]; · iexact HS
  isplitl [Hb]; · iexact Hb
  iexact Ho

/-! ## The tile's whole task -/

set_option maxRecDepth 2000 in
theorem body_wp (he : Exact nat) (hpx : Fits (tilePx x L)) {fh fw : Vec F S4096 .f32} {fi : Vec F S4096 .i32}
    {gv : Vec F S4x32768 .f32} {gp : Vec F S4x32768 .i32} :
    iprop(Still d L O W q x ∗ cAny d L ∗ hPts d L fh ∗ wPts d L fw ∗ iPts (F := F) d L fi ∗ vPts d L gv ∗ pPts (F := F) d L gp)
      ⊢ wp frame (wpE (defs₀ (F := F)) 𝒱₀ (tile d L) none) Set.univ
          (cc0__extract_body L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17)
          fun _ => iprop(Still d L O W q x ∗ cAny d L ∗ (∃ f, hPts d L f) ∗ (∃ f, wPts d L f) ∗ (∃ f, iPts (F := F) d L f)
            ∗ vPts d L (outVals x) ∗ pPts (F := F) d L (outIdxs x)) := by
  have hroom := hpx.room
  rw [cc0__extract_body_eq_skeleton]
  unfold cc0__extract_body_skel
  simp only [Prog.lift, Prog.bind_op, Prog.bind_ret, Prog.pure_eq_ret]
  iintro ⟨HS, Hc, Hh, Hw, Hi, Hv, Hp⟩
  rw [wp_bind]
  ihave H := (part1_wp d L (x := x) he fh) $$ Hh
  iapply (wp_wand frame _ _) $$ H
  iintro %r ⟨%hr, Hh⟩
  subst hr
  rw [wp_bind]
  ihave H := (part2_wp d L (O := O) (W := W) (q := q) he hpx.bins (BitVec.ofNat 32 (base L))) $$ [HS Hc Hh]
  · isplitl [HS]; · iexact HS
    isplitl [Hc]; · iexact Hc
    iexact Hh
  iapply (wp_wand frame _ _) $$ H
  iintro %u H
  rw [wp_bind]
  ihave H := (part3_wp d L (O := O) (W := W) (q := q) he hpx.bins (BitVec.ofNat 32 (base L))) $$ H
  iapply (wp_wand frame _ _) $$ H
  iintro %u' ⟨HS, Hc, Hh⟩
  rw [wp_bind]
  ihave H := (part4_wp d L (O := O) (W := W) (q := q) he hpx.bins (BitVec.ofNat 32 (base L)) (fw := fw) (fi := fi)) $$ [HS Hc Hh Hw Hi]
  · isplitl [HS]; · iexact HS
    isplitl [Hc]; · iexact Hc
    isplitl [Hh]; · iexact Hh
    isplitl [Hw]; · iexact Hw
    iexact Hi
  iapply (wp_wand frame _ _) $$ H
  iintro %t ⟨%ht, HF, Hh, Hw, Hi⟩
  subst ht
  rw [wp_bind]
  ihave H := (part5_wp d L (O := O) (W := W) (q := q) hroom) $$ [HF Hw Hi]
  · isplitl [HF]; · iexact HF
    unfold packed
    isplitr
    · ipureintro
      rfl
    rw [show 32768 * 0 = 0 from rfl, valsAt_zero, idxsAt_zero]
    isplitl [Hw]; · iexact Hw
    iexact Hi
  iapply (wp_wand frame _ _) $$ H
  iintro %n H
  rw [wp_bind]
  ihave H := (part6_wp d L (O := O) (W := W) (q := q) hroom) $$ H
  iapply (wp_wand frame _ _) $$ H
  iintro %r ⟨%hr, HS, Hc, Hk⟩
  rw [hr]
  iapply (pack_chunk d L hroom 6) $$ [Hk Hc]
  · isplitl [Hk]; · iexact Hk
    iexact Hc
  iintro %acc ⟨Hk, Hc⟩
  iapply (fetch_chunk d L cc0_scoped15.sem (by decide) 7) $$ [HS Hc]
  · isplitl [HS]; · iexact HS
    iexact Hc
  iintro ⟨HS, Hc⟩
  iapply (pack_chunk d L hroom 7) $$ [Hk Hc]
  · isplitl [Hk]; · iexact Hk
    iexact Hc
  iintro %acc ⟨Hk, Hc⟩
  unfold packed
  icases Hk with ⟨-, Hw, Hi⟩
  iapply (send_vals d L cc0_scoped16.sem (by decide)) $$ [HS Hw Hv]
  · isplitl [HS]; · iexact HS
    isplitl [Hw]; · iexact Hw
    iexact Hv
  iintro ⟨HS, Hw, Hv⟩
  iapply (send_idxs d L cc0_scoped17.sem (by decide)) $$ [HS Hi Hp]
  · isplitl [HS]; · iexact HS
    isplitl [Hi]; · iexact Hi
    iexact Hp
  iintro ⟨HS, Hi, Hp⟩
  rw [wp_ret]
  imodintro
  isplitl [HS]; · iexact HS
  isplitl [Hc]; · iexact Hc
  isplitl [Hh]; · iexists _; iexact Hh
  isplitl [Hw]; · iexists _; iexact Hw
  isplitl [Hi]; · iexists _; iexact Hi
  isplitl [Hv]; · iexact Hv
  iexact Hp

end

end Cert.Proof

end
-- ==== Proof.Host.lean ====
/-
  The host's operations around the call, as lists: what stands in the arrays before the call and after the whole program.
-/
module

public import proofs.«01_k».proof.Proof.Tile

@[expose] public section

noncomputable section

namespace Cert.Proof

open Cert.KernelIdeal Cert.KernelIdeal.Gen
open Idealize.ShloMosaic Idealize.ShloMosaic.StableHlo

variable {F : FTy → Type} [FloatOps F]

/-- The operations before the call: the pixels flattened image by image. -/
def headOps : List (HloOp τ sig (Elt F)) :=
  [reshape main_arg0 main_v0 (rfl : (.f32 : EltTy) = .f32) shapeCasts_S4x1x1024x2048_S4x1024x2048,
    reshape main_v0 main_v1 (rfl : (.f32 : EltTy) = .f32) shapeCasts_S4x1024x2048_S4x2097152]

/-- The operations after the call: the 2048 greatest values, their slots, and the positions at those slots. -/
def tailOps : List (HloOp τ sig (Elt F)) :=
  [unary main_v2_0 main_values ((fun x => (Host.topK S4x2048 1 (FloatOps.cmpfTotal .gt) x sliceFits_S4x32768_S4x2048).1) : (⟨S4x32768, .f32⟩ : BufTy).Contents (Elt F) → (⟨S4x2048, .f32⟩ : BufTy).Contents (Elt F)),
    unary main_v2_0 main_indices ((fun x => (Host.topK S4x2048 1 (FloatOps.cmpfTotal .gt) x sliceFits_S4x32768_S4x2048).2) : (⟨S4x32768, .f32⟩ : BufTy).Contents (Elt F) → (⟨S4x2048, .i32⟩ : BufTy).Contents (Elt F)),
    nullary main_call0_c ((constantI S_ 32 0#32) : (⟨S_, .i32⟩ : BufTy).Contents (Elt F)),
    unary main_call0_c main_call0_v0 ((broadcastInDim S4x2048 ![] bcast_S_S4x2048) : (⟨S_, .i32⟩ : BufTy).Contents (Elt F) → (⟨S4x2048, .i32⟩ : BufTy).Contents (Elt F)),
    binary main_indices main_call0_v0 main_call0_v1 ((cmpi .slt) : (⟨S4x2048, .i32⟩ : BufTy).Contents (Elt F) → (⟨S4x2048, .i32⟩ : BufTy).Contents (Elt F) → (⟨S4x2048, .i1⟩ : BufTy).Contents (Elt F)),
    nullary main_call0_c_0 ((constantI S_ 32 32768#32) : (⟨S_, .i32⟩ : BufTy).Contents (Elt F)),
    unary main_call0_c_0 main_call0_v2 ((broadcastInDim S4x2048 ![] bcast_S_S4x2048) : (⟨S_, .i32⟩ : BufTy).Contents (Elt F) → (⟨S4x2048, .i32⟩ : BufTy).Contents (Elt F)),
    binary main_indices main_call0_v2 main_call0_v3 (addi : (⟨S4x2048, .i32⟩ : BufTy).Contents (Elt F) → (⟨S4x2048, .i32⟩ : BufTy).Contents (Elt F) → (⟨S4x2048, .i32⟩ : BufTy).Contents (Elt F)),
    ternary main_call0_v1 main_call0_v3 main_indices main_call0_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    reshape main_call0_v4 main_call0_v5 (rfl : (.i32 : EltTy) = .i32) shapeCasts_S4x2048_S4x2048x1,
    nullary main_call0_c_1 ((constantI S1 32 32767#32) : (⟨S1, .i32⟩ : BufTy).Contents (Elt F)),
    nullary main_call0_c_2 ((constantI S_ 32 0#32) : (⟨S_, .i32⟩ : BufTy).Contents (Elt F)),
    unary main_call0_c_2 main_call0_v6 ((broadcastInDim S4x2048x1 ![] bcast_S_S4x2048x1) : (⟨S_, .i32⟩ : BufTy).Contents (Elt F) → (⟨S4x2048x1, .i32⟩ : BufTy).Contents (Elt F)),
    binary main_call0_v5 main_call0_v6 main_call0_v7 ((cmpi .sge) : (⟨S4x2048x1, .i32⟩ : BufTy).Contents (Elt F) → (⟨S4x2048x1, .i32⟩ : BufTy).Contents (Elt F) → (⟨S4x2048x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S4x2048x1 ![0, 1, 2] bcast_S1x1x1_S4x2048x1_0_1_2) : (⟨S1x1x1, .i32⟩ : BufTy).Contents (Elt F) → (⟨S4x2048x1, .i32⟩ : BufTy).Contents (Elt F)),
    binary main_call0_v5 main_call0_v9 main_call0_v10 ((cmpi .sle) : (⟨S4x2048x1, .i32⟩ : BufTy).Contents (Elt F) → (⟨S4x2048x1, .i32⟩ : BufTy).Contents (Elt F) → (⟨S4x2048x1, .i1⟩ : BufTy).Contents (Elt F)),
    binary main_call0_v7 main_call0_v10 main_call0_v11 (andi : (⟨S4x2048x1, .i1⟩ : BufTy).Contents (Elt F) → (⟨S4x2048x1, .i1⟩ : BufTy).Contents (Elt F) → (⟨S4x2048x1, .i1⟩ : BufTy).Contents (Elt F)),
    nullary main_call0_c_3 ((constantI S_ 1 1#1) : (⟨S_, .i1⟩ : BufTy).Contents (Elt F)),
    binary main_call0_v11 main_call0_c_3 main_call0_v12 ((fun x v => Host.reduce IntOp.andi x v reducesTo_S4x2048x1_S4x2048_d2 h_S_) : (⟨S4x2048x1, .i1⟩ : BufTy).Contents (Elt F) → (⟨S_, .i1⟩ : BufTy).Contents (Elt F) → (⟨S4x2048, .i1⟩ : BufTy).Contents (Elt F)),
    binary main_v2_1 main_call0_v5 main_call0_v13 ((fun x i => Host.gather gather_S4x32768_S4x2048x1_S4x2048_n_1_0_0_1_2_11 x i) : (⟨S4x32768, .i32⟩ : BufTy).Contents (Elt F) → (⟨S4x2048x1, .i32⟩ : BufTy).Contents (Elt F) → (⟨S4x2048, .i32⟩ : BufTy).Contents (Elt F)),
    nullary main_call0_c_4 ((constantI S_ 32 2147483648#32) : (⟨S_, .i32⟩ : BufTy).Contents (Elt F)),
    unary main_call0_c_4 main_call0_v14 ((broadcastInDim S4x2048 ![] bcast_S_S4x2048) : (⟨S_, .i32⟩ : BufTy).Contents (Elt F) → (⟨S4x2048, .i32⟩ : BufTy).Contents (Elt F)),
    ternary main_call0_v12 main_call0_v13 main_call0_v14 main_v3 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))]

/-- An operation named through typed references is the operation at the references themselves. -/
theorem nullary_of {y : Ref sig .tc} (h1 h2 h3) (v : y.ty.Contents (Elt F)) :
    TRef.nullary (τ := τ) (.of (T := y.ty) y h1 h2 h3) v = nullary y v (TRef.of (T := y.ty) y h1 h2 h3).dev := rfl
theorem unary_of {x y : Ref sig .tc} (h1 h2 h3 h4 h5 h6) (f : x.ty.Contents (Elt F) → y.ty.Contents (Elt F)) :
    TRef.unary (τ := τ) (.of (T := x.ty) x h1 h2 h3) (.of (T := y.ty) y h4 h5 h6) f = unary x y f (TRef.of (T := x.ty) x h1 h2 h3).dev (TRef.of (T := y.ty) y h4 h5 h6).dev := rfl
theorem binary_of {x z y : Ref sig .tc} (h1 h2 h3 h4 h5 h6 h7 h8 h9) (f : x.ty.Contents (Elt F) → z.ty.Contents (Elt F) → y.ty.Contents (Elt F)) :
    TRef.binary (τ := τ) (.of (T := x.ty) x h1 h2 h3) (.of (T := z.ty) z h4 h5 h6) (.of (T := y.ty) y h7 h8 h9) f = binary x z y f (TRef.of (T := x.ty) x h1 h2 h3).dev (TRef.of (T := z.ty) z h4 h5 h6).dev (TRef.of (T := y.ty) y h7 h8 h9).dev := rfl
theorem ternary_of {w x z y : Ref sig .tc} (h1 h2 h3 h4 h5 h6 h7 h8 h9 h10 h11 h12)
    (f : w.ty.Contents (Elt F) → x.ty.Contents (Elt F) → z.ty.Contents (Elt F) → y.ty.Contents (Elt F)) :
    TRef.ternary (τ := τ) (.of (T := w.ty) w h1 h2 h3) (.of (T := x.ty) x h4 h5 h6) (.of (T := z.ty) z h7 h8 h9) (.of (T := y.ty) y h10 h11 h12) f
      = ternary w x z y f (TRef.of (T := w.ty) w h1 h2 h3).dev (TRef.of (T := x.ty) x h4 h5 h6).dev (TRef.of (T := z.ty) z h7 h8 h9).dev (TRef.of (T := y.ty) y h10 h11 h12).dev := rfl

/-- The program: the operations before the call, the call, the operations after it. -/
theorem main_eq (d : Dev nD) :
    main (F := F) d = (seq headOps >>= fun _ => ((sc (F := F)).run d 0 >>= fun _ => seq tailOps >>= fun u => pure u)) := by
  unfold main fn_take_along_axis.body headOps tailOps
  repeat (first | rw [nullary_of] | rw [unary_of] | rw [binary_of] | rw [ternary_of])
  rfl

/-- They touch the host's own arrays only. -/
theorem headOps_sub : ∀ op ∈ headOps (F := F), op.bufs ⊆ Pipeline.ucRefs τ sig := by
  intro op h
  refine Pipeline.sub_ucRefs op ?_
  revert op
  rw [← List.forall_iff_forall_mem]
  unfold headOps
  exact ⟨by simp [reshape_bufs_sub], by simp [reshape_bufs_sub]⟩

theorem headOps_fresh : ∀ op ∈ headOps (F := F), op.fresh = ∅ := by
  intro _ h; (repeat (cases h with | head => rfl | tail _ h => ?_)); exact nomatch h

theorem tailOps_fresh : ∀ op ∈ tailOps (F := F), op.fresh = ∅ := by
  intro _ h; (repeat (cases h with | head => rfl | tail _ h => ?_)); exact nomatch h

/-- The same element sets for the operations after the call. -/
theorem tailOps_sub : ∀ op ∈ tailOps (F := F), op.bufs ⊆ Pipeline.ucRefs τ sig := by
  intro op h
  refine Pipeline.sub_ucRefs op ?_
  revert op
  rw [← List.forall_iff_forall_mem]
  exact ⟨unary_bufs_sub .., unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub .., binary_bufs_sub ..,
    nullary_bufs_sub .., unary_bufs_sub .., ternary_bufs_sub ..⟩

/-! ## What the arrays hold -/

/-- The 2048 greatest of the slots' values of each image, with the slots they stand in. -/
abbrev best (v : Vec F S4x32768 .f32) : Vec F S4x2048 .f32 × Vec F S4x2048 .i32 :=
  Host.topK S4x2048 1 (FloatOps.cmpfTotal .gt) v sliceFits_S4x32768_S4x2048

/-- The slots as the look-up takes them: a negative one counts from the end. -/
def lookup (idx : Vec F S4x2048 .i32) : Vec F S4x2048x1 .i32 :=
  shapeCast S4x2048x1 (select (cmpi .slt idx (broadcastInDim S4x2048 ![] bcast_S_S4x2048 (constantI S_ 32 0#32)))
    (addi idx (broadcastInDim S4x2048 ![] bcast_S_S4x2048 (constantI S_ 32 32768#32))) idx) shapeCasts_S4x2048_S4x2048x1

/-- Which of the slots name an element. -/
def within (j : Vec F S4x2048x1 .i32) : Vec F S4x2048 .i1 :=
  Host.reduce IntOp.andi
    (andi (cmpi .sge j (broadcastInDim S4x2048x1 ![] bcast_S_S4x2048x1 (constantI S_ 32 0#32)))
      (cmpi .sle j (broadcastInDim S4x2048x1 ![0, 1, 2] bcast_S1x1x1_S4x2048x1_0_1_2 (broadcastInDim S1x1x1 ![2] bcast_S1_S1x1x1_2 (constantI S1 32 32767#32)))))
    (constantI S_ 1 1#1) reducesTo_S4x2048x1_S4x2048_d2 h_S_

/-- The positions at the slots: the program's look-up along the second axis. -/
def takeAlong (p : Vec F S4x32768 .i32) (idx : Vec F S4x2048 .i32) : Vec F S4x2048 .i32 :=
  select (within (F := F) (lookup (F := F) idx)) (Host.gather gather_S4x32768_S4x2048x1_S4x2048_n_1_0_0_1_2_11 p (lookup (F := F) idx))
    (broadcastInDim S4x2048 ![] bcast_S_S4x2048 (constantI S_ 32 2147483648#32))

/-- The pixels flattened image by image. -/
def flat (x : Vec F S4x1x1024x2048 .f32) : Vec F S4x2097152 .f32 :=
  shapeCast S4x2097152 (shapeCast S4x1024x2048 x shapeCasts_S4x1x1024x2048_S4x1024x2048) shapeCasts_S4x1024x2048_S4x2097152

set_option maxHeartbeats 1000000 in
theorem after_head (W : Valuation τ sig (Elt F)) :
    after (headOps (F := F)) W (Proc.devRef .tc main_v1) = flat (W (Proc.devRef .tc main_arg0))
      ∧ after (headOps (F := F)) W (Proc.devRef .tc main_arg0) = W (Proc.devRef .tc main_arg0)
      ∧ after (headOps (F := F)) W (Proc.devRef .tc main_arg1) = W (Proc.devRef .tc main_arg1) := by
  unfold headOps flat
  refine ⟨?_, ?_, ?_⟩
  · after_results_simp
    rfl
  · after_results
  · after_results

set_option maxHeartbeats 4000000 in
set_option maxRecDepth 20000 in
theorem after_tail (W : Valuation τ sig (Elt F)) :
    after (tailOps (F := F)) W (Proc.devRef .tc main_values) = (best (W (Proc.devRef .tc main_v2_0))).1
      ∧ after (tailOps (F := F)) W (Proc.devRef .tc main_v3) = takeAlong (F := F) (W (Proc.devRef .tc main_v2_1)) (best (W (Proc.devRef .tc main_v2_0))).2
      ∧ after (tailOps (F := F)) W (Proc.devRef .tc main_arg0) = W (Proc.devRef .tc main_arg0)
      ∧ after (tailOps (F := F)) W (Proc.devRef .tc main_arg1) = W (Proc.devRef .tc main_arg1) := by
  unfold tailOps
  refine ⟨?_, ?_, ?_, ?_⟩
  · after_results
  · after_results_simp
    rfl
  · after_results
  · after_results

end Cert.Proof

end
-- ==== Proof.Deal.lean ====
/-
  What the call hands each tile and what it gets back: a read share of the pixels, and the tile's own slots of the two results.
-/
module

public import proofs.«01_k».proof.Proof.Host

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.Transfers (shareTok shareDrop pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid coordinates of subcore `s` of SparseCore `c`. -/
def coords (c : Fin 2) (s : Fin 16) : grid0.Coords :=
  fun | 0 => c | 1 => s | ⟨_ + 2, h⟩ => absurd h (Nat.not_lt.2 (Nat.le_add_left _ _))

theorem wid_coords (c : Fin 2) (s : Fin 16) : wid (coords c s) = c.val * 16 + s.val := rfl

/-! ## The slots -/

/-- The slots of a tile, by its number. -/
theorem mem_slots (L : grid0.Coords) (i : S4x32768.Idx) : i ∈ (vSl L).view.set ↔ (i 0).val * 8 + (i 1).val / 4096 = wid L := by
  have hs : (vSl L).view.set = (Rect.unit (s := S4x32768) (k0_off21 L) S1x4096.size (k0_off21_inb L)).set := by
    show (((View.whole main_v2_0_scv).slice (Rect.unit (s := S4x32768) (k0_off21 L) S1x4096.size (k0_off21_inb L))).reshape S4096 _).set = _
    rw [View.set_reshape, View.set_slice_whole]
  have h0 : (i 0).val < 4 := (i 0).isLt
  have h1 : (i 1).val < 32768 := (i 1).isLt
  have o0 := congrFun (slot_off L) 0
  have o1 := congrFun (slot_off L) 1
  have ow : wid L = (L 0).val * 16 + (L 1).val := rfl
  rw [← ow] at o0 o1
  have e0 : k0_off21 L 0 = wid L / 8 := o0
  have e1 : k0_off21 L 1 = wid L % 8 * 4096 := o1
  rw [hs, Rect.mem_set_unit]
  constructor
  · intro h
    have a0 := h 0
    have a1 := h 1
    rw [e0] at a0
    rw [e1] at a1
    have z0 : S1x4096.size 0 = 1 := rfl
    have z1 : S1x4096.size 1 = 4096 := rfl
    rw [z0] at a0
    rw [z1] at a1
    omega
  · intro h a
    match a with
    | 0 =>
      rw [e0]
      show _ ∧ _ < _ + 1
      omega
    | 1 =>
      rw [e1]
      show _ ∧ _ < _ + 4096
      omega

/-- The slots of a SparseCore's tiles together. -/
def coreSlots (c : Fin 2) : Finset S4x32768.Idx := (Finset.univ : Finset (Fin 16)).biUnion fun s => (vSl (coords c s)).view.set

theorem mem_coreSlots (c : Fin 2) (i : S4x32768.Idx) : i ∈ coreSlots c ↔ ((i 0).val * 8 + (i 1).val / 4096) / 16 = c.val := by
  unfold coreSlots
  rw [Finset.mem_biUnion]
  constructor
  · rintro ⟨s, -, h⟩
    rw [mem_slots, wid_coords] at h
    have := s.isLt
    omega
  · intro h
    refine ⟨⟨((i 0).val * 8 + (i 1).val / 4096) % 16, Nat.mod_lt _ (by decide)⟩, Finset.mem_univ _, ?_⟩
    rw [mem_slots, wid_coords, ← h]
    show _ = _ * 16 + _ % 16
    omega

theorem slots_disjoint (c : Fin 2) : ∀ s ∈ (Finset.univ : Finset (Fin 16)), ∀ s' ∈ (Finset.univ : Finset (Fin 16)), s ≠ s' →
    Disjoint (vSl (coords c s)).view.set (vSl (coords c s')).view.set := fun s _ s' _ hne =>
  Finset.disjoint_left.mpr fun i h h' => hne (by
    have h := (mem_slots (coords c s) i).mp h
    have h' := (mem_slots (coords c s') i).mp h'
    rw [wid_coords] at h h'
    apply Fin.ext
    omega)

theorem coreSlots_disjoint : ∀ c ∈ (Finset.univ : Finset (Fin 2)), ∀ c' ∈ (Finset.univ : Finset (Fin 2)), c ≠ c' →
    Disjoint (coreSlots c) (coreSlots c') := fun c _ c' _ hne =>
  Finset.disjoint_left.mpr fun i h h' => hne (by
    rw [mem_coreSlots] at h h'
    apply Fin.ext
    omega)

theorem coreSlots_cover : (Finset.univ : Finset (Fin 2)).biUnion coreSlots = Finset.univ := by
  ext i
  have h0 : (i 0).val < 4 := (i 0).isLt
  have h1 : (i 1).val < 32768 := (i 1).isLt
  simp only [Finset.mem_biUnion, Finset.mem_univ, true_and, iff_true]
  exact ⟨⟨((i 0).val * 8 + (i 1).val / 4096) / 16, by omega⟩, (mem_coreSlots _ i).mpr rfl⟩

/-- The values are the tiles' slots of them; and the positions. -/
theorem vals_slots (d : Dev nD) (f : Buf (Elt F) (vLoc d)) :
    (vLoc d ↦{fullShare} f : sProp 𝕄) = bigSep Finset.univ fun c : Fin 2 => bigSep Finset.univ fun s : Fin 16 => vPts d (coords c s) f := by
  have e : ∀ c : Fin 2, (bigSep Finset.univ fun s : Fin 16 => (vPts d (coords c s) f : sProp 𝕄)) = (vLoc d ↦[coreSlots c]{fullShare} f) := fun c =>
    (pointsTo_biUnion (ℓ := vLoc d) Finset.univ (fun s : Fin 16 => (vSl (coords c s)).view.set) (slots_disjoint c)).symm
  rw [bigSep_congr fun c _ => e c, ← pointsTo_biUnion (ℓ := vLoc d) Finset.univ coreSlots coreSlots_disjoint, coreSlots_cover]
theorem idxs_slots (d : Dev nD) (f : Buf (Elt F) (pLoc d)) :
    (pLoc d ↦{fullShare} f : sProp 𝕄) = bigSep Finset.univ fun c : Fin 2 => bigSep Finset.univ fun s : Fin 16 => pPts d (coords c s) f := by
  have e : ∀ c : Fin 2, (bigSep Finset.univ fun s : Fin 16 => (pPts d (coords c s) f : sProp 𝕄)) = (pLoc d ↦[coreSlots c]{fullShare} f) := fun c =>
    (pointsTo_biUnion (ℓ := pLoc d) Finset.univ (fun s : Fin 16 => (vSl (coords c s)).view.set) (slots_disjoint c)).symm
  rw [bigSep_congr fun c _ => e c, ← pointsTo_biUnion (ℓ := pLoc d) Finset.univ coreSlots coreSlots_disjoint, coreSlots_cover]

/-! ## The pixels, read by all tiles -/

/-- The share of the pixels that a tile reads at. -/
def shareOf (c : Fin 2) (s : Fin 16) : PosShare TreeShare := shareTok (shareTok fullShare 2 c) 16 s

/-- What is left of the pixels when each tile has its share. -/
def spare (d : Dev nD) (f : Buf (Elt F) (xLoc d)) : sProp 𝕄 :=
  iprop((xLoc d ↦{shareDrop fullShare 2} f) ∗ bigSep Finset.univ fun c : Fin 2 => xLoc d ↦{shareDrop (shareTok fullShare 2 c) 16} f)

theorem deal_cores (d : Dev nD) (f : Buf (Elt F) (xLoc d)) :
    (bigSep Finset.univ fun c : Fin 2 => (xLoc d ↦{shareTok fullShare 2 c} f : sProp 𝕄))
      ⊢ bigSep Finset.univ fun c : Fin 2 => iprop((xLoc d ↦{shareDrop (shareTok fullShare 2 c) 16} f) ∗ bigSep Finset.univ fun s : Fin 16 => xLoc d ↦{shareTok (shareTok fullShare 2 c) 16 s} f) :=
  bigSep_mono fun c _ => pointsTo_toks_split (shareTok fullShare 2 c) 16
theorem join_cores (d : Dev nD) (f : Buf (Elt F) (xLoc d)) :
    (bigSep Finset.univ fun c : Fin 2 => iprop((xLoc d ↦{shareDrop (shareTok fullShare 2 c) 16} f) ∗ bigSep Finset.univ fun s : Fin 16 => xLoc d ↦{shareTok (shareTok fullShare 2 c) 16 s} f))
      ⊢ bigSep Finset.univ fun c : Fin 2 => (xLoc d ↦{shareTok fullShare 2 c} f : sProp 𝕄) :=
  bigSep_mono fun c _ => pointsTo_toks_join (shareTok fullShare 2 c) 16

theorem deal_pixels (d : Dev nD) (f : Buf (Elt F) (xLoc d)) :
    (xLoc d ↦{fullShare} f : sProp 𝕄) ⊢ iprop(spare d f ∗ bigSep Finset.univ fun c : Fin 2 => bigSep Finset.univ fun s : Fin 16 => xLoc d ↦{shareOf c s} f) := by
  unfold spare shareOf
  iintro H
  ihave H := (pointsTo_toks_split fullShare 2) $$ H
  icases H with ⟨Hr, H⟩
  ihave H := (deal_cores d f) $$ H
  ihave H := (Entails.of_eq (bigSep_sep' _ _ _)) $$ H
  icases H with ⟨Hq, H⟩
  isplitl [Hr Hq]
  · isplitl [Hr]; · iexact Hr
    iexact Hq
  · iexact H

theorem join_pixels (d : Dev nD) (f : Buf (Elt F) (xLoc d)) :
    iprop(spare d f ∗ bigSep Finset.univ fun c : Fin 2 => bigSep Finset.univ fun s : Fin 16 => xLoc d ↦{shareOf c s} f) ⊢ (xLoc d ↦{fullShare} f : sProp 𝕄) := by
  unfold spare shareOf
  iintro ⟨⟨Hr, Hq⟩, H⟩
  iapply (pointsTo_toks_join fullShare 2)
  isplitl [Hr]; · iexact Hr
  iapply (join_cores d f)
  rw [bigSep_sep']
  isplitl [Hq]; · iexact Hq
  iexact H

/-! ## A tile's task between its resources -/

variable (d : Dev nD)

/-- A tile's four arrays are among its own buffers: they are these, at some contents, and the rest. -/
theorem ownBufs_split (L : grid0.Coords) : ∃ R : sProp 𝕄,
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f) ∗ R) := by
  have ne : ∀ {a b : Ref sig .scVector}, a ≠ b → (Proc.scVector (cV L) (jV L)).devRef a ≠ (Proc.scVector (cV L) (jV L)).devRef b :=
    fun h e => h (Proc.devRef_injective _ e)
  refine ⟨bigSep (((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2)).erase
      ((Proc.scVector (cV L) (jV L)).devRef cc0_scratch3)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

variable [FloatOps F]

/-- A tile's task, from what the launch hands it to what it hands back: the slots at the kept pixels and their positions. -/
theorem tile_task (L : grid0.Coords) {nat : ℕ → F .f32} (he : Exact nat) {x : Vec F S4x2097152 .f32} (hpx : Fits (tilePx x L)) (q : PosShare TreeShare)
    (gv : Vec F S4x32768 .f32) (gp : Vec F S4x32768 .i32)
    (O : CellTallies nD τ sig (HIx 1)) (W : Waits sig (HIx 1)) (hO : ∀ g, O g none = 0) :
    iprop(levAts (K (F := F)).L (K (F := F)).lev ∗ emp ∗ (xPts d L q x ∗ vPts d L gv ∗ pPts d L gp)
        ∗ scopedBufs (tile d L) ∗ scopedSems0 (tile d L) ∗ owes (tile d L) O W)
      ⊢ wp frame (wpE (defs₀ (F := F)) 𝒱₀ (tile d L) none) Set.univ
          (cc0__extract_body L xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17)
          fun _ => iprop((xPts d L q x ∗ vPts d L (outVals x) ∗ pPts d L (outIdxs x)) ∗ scopedBufs (tile d L) ∗ scopedSems0 (tile d L)
            ∗ ∃ W', ⌜∀ p ∈ W', p ∈ W ∨ p.2 = none ∨ p.2 = some (0 : Fin 1)⌝ ∗ owes (tile d L) O W') := by
  obtain ⟨R, hR⟩ := ownBufs_split (F := F) d L
  rw [(K (F := F)).scopedBufs_V facts d (cV L) (jV L), SparseCore.Cfg.scopedSems0_V (Val := Elt F) d (cV L) (jV L), hR]
  iintro ⟨#Hlv, -, ⟨Hx, Hv, Hp⟩, ⟨⟨%fc, Hc⟩, ⟨%fh, Hh⟩, ⟨%fw, Hw⟩, ⟨%fi, Hi⟩, HR⟩, Hs, HO⟩
  ihave Hmw := ((K (F := F)).mayWaits_none (thr := tile d L) hO) $$ Hlv
  ihave H := (body_wp d L (O := O) (W := W) (q := q) (x := x) he hpx (fh := fh) (fw := fw) (fi := fi) (gv := gv) (gp := gp)) $$ [Hmw Hx Hv Hp Hc Hh Hw Hi Hs HO]
  · isplitl [Hmw Hx Hs HO]
    · unfold Still Standing
      isplitl [Hmw HO]
      · isplitl [Hmw]; · iexact Hmw
        iexists W
        isplitr
        · ipureintro; exact fun p hp => .inl hp
        · iexact HO
      · isplitl [Hs]; · iexact Hs
        iexact Hx
    isplitl [Hc]
    · unfold cAny; iexists fc; iexact Hc
    isplitl [Hh]; · iexact Hh
    isplitl [Hw]; · iexact Hw
    isplitl [Hi]; · iexact Hi
    isplitl [Hv]; · iexact Hv
    iexact Hp
  iapply (wp_wand frame _ _) $$ H
  iintro %_ H
  unfold Still Standing cAny
  icases H with ⟨⟨⟨-, %W', %hW', HO⟩, Hs, Hx⟩, ⟨%fc', Hc⟩, ⟨%fh', Hh⟩, ⟨%fw', Hw⟩, ⟨%fi', Hi⟩, Hv, Hp⟩
  isplitl [Hx Hv Hp]
  · isplitl [Hx]; · iexact Hx
    isplitl [Hv]; · iexact Hv
    iexact Hp
  isplitl [Hc Hh Hw Hi HR]
  · isplitl [Hc]; · iexists _; iexact Hc
    isplitl [Hh]; · iexists _; iexact Hh
    isplitl [Hw]; · iexists _; iexact Hw
    isplitl [Hi]; · iexists _; iexact Hi
    iexact HR
  isplitl [Hs]; · iexact Hs
  iexists W'
  isplitr
  · ipureintro; exact fun p hp => (hW' p hp).imp_right Or.inl
  · iexact HO

end Cert.Proof

end
-- ==== Proof.Launch.lean ====
/-
  The whole program: the flattening, the call on all tiles, the 2048 greatest of the slots and their positions. Its run ends
  with the two results at those of the slots' values and positions, and the arguments unchanged.
-/
module

public import proofs.«01_k».proof.Proof.Deal

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.ShloMosaic.StableHlo (held held_sub_split held_congr wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (ρ : Dev nD → PrngReg)

/-- The arrays before the call: the launch's, the pixels flattened. -/
def before (d : Dev nD) : Valuation τ sig (Elt F) := after (headOps (F := F)) fun b => m (d, b)

/-- The flattened pixels. -/
def pixels (d : Dev nD) : Vec F S4x2097152 .f32 := flat (m ((SparseCore.T d).loc main_arg0))

abbrev xRef : DevRef τ sig := Proc.devRef .tc (main_v1 : Ref sig .tc)
abbrev vRef : DevRef τ sig := Proc.devRef .tc (main_v2_0 : Ref sig .tc)
abbrev pRef : DevRef τ sig := Proc.devRef .tc (main_v2_1 : Ref sig .tc)

theorem before_pixels (d : Dev nD) : before m d xRef = pixels m d := (after_head _).1

/-- The arrays after the call: the slots at the kept pixels and their positions. -/
def between (d : Dev nD) : Valuation τ sig (Elt F) :=
  Function.update (Function.update (before m d) vRef (outVals (pixels m d))) pRef (outIdxs (pixels m d))

theorem between_x (d : Dev nD) : between m d xRef = pixels m d := by
  unfold between
  rw [Function.update_of_ne (by decide), Function.update_of_ne (by decide), before_pixels]
theorem between_v (d : Dev nD) : between m d vRef = outVals (pixels m d) := by
  unfold between
  rw [Function.update_of_ne (by decide), Function.update_self]
theorem between_p (d : Dev nD) : between m d pRef = outIdxs (pixels m d) := by
  unfold between
  rw [Function.update_self]
theorem between_of_ne (d : Dev nD) {b : DevRef τ sig} (hv : b ≠ vRef) (hp : b ≠ pRef) : between m d b = before m d b := by
  unfold between
  rw [Function.update_of_ne hp, Function.update_of_ne hv]

/-- What a tile is handed, and what it hands back. -/
abbrev given (d : Dev nD) (c : Fin 2) (s : Fin 16) : sProp 𝕄 :=
  iprop(xPts d (coords c s) (shareOf c s) (pixels m d) ∗ vPts d (coords c s) (before m d vRef) ∗ pPts d (coords c s) (before m d pRef))
abbrev returned (d : Dev nD) (c : Fin 2) (s : Fin 16) : sProp 𝕄 :=
  iprop(xPts d (coords c s) (shareOf c s) (pixels m d) ∗ vPts d (coords c s) (outVals (pixels m d)) ∗ pPts d (coords c s) (outIdxs (pixels m d)))

/-- What the call's handshakes carry. -/
def P : (K (F := F)).Pay (nD := nD) (Val := Elt F) (Name := ℕ) (U := UU) where
  st := fun q d c => match q with | 0 => bigSep Finset.univ fun s : Fin 16 => given m d c s
  dn := fun q d c => match q with | 0 => bigSep Finset.univ fun s : Fin 16 => returned m d c s
  go := fun q d c s => match q with | 0 => given m d c s
  td := fun q d c s => match q with | 0 => returned m d c s
  x := fun _ _ => iprop(emp)

instance P_storable : (P (F := F) m).IsStorable where
  st q d c := by match q with | 0 => unfold P; dsimp only; infer_instance
  dn q d c := by match q with | 0 => unfold P; dsimp only; infer_instance
  go q d c s := by match q with | 0 => unfold P; dsimp only; infer_instance
  td q d c s := by match q with | 0 => unfold P; dsimp only; infer_instance

/-! ## The tiles' obligation -/

theorem defs₀_vector (c : Fin τ.nSC) (s : Fin τ.nSub) :
    defs₀ (F := F) (.scVector c s) 0 ()
      = SparseCore.onTile hcore0 hsub0 (fun c s => cc0__extract_body (coords c s) xM (Memref.isWhole_whole _) vM (Memref.isWhole_whole _) pM (Memref.isWhole_whole _) cM (Memref.isWhole_whole _) hM (Memref.isWhole_whole _) wM (Memref.isWhole_whole _) iM (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17) ⟨⟩ c s := rfl

variable {nat : ℕ → F .f32}

set_option maxRecDepth 2000 in
theorem tileObl (he : Exact nat) (hfit : ∀ d L, Fits (tilePx (pixels m d) L)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task d (coords ⟨_, hc.1⟩ ⟨_, hc.2⟩) he (hfit d _) (shareOf ⟨_, hc.1⟩ ⟨_, hc.2⟩) (before m d vRef) (before m d pRef) O W hO

theorem vecSplit : (K (F := F)).VecSplit' (P m) 0 := by
  intro d c
  show iprop(bigSep Finset.univ fun s : Fin 16 => given m d c s) ⊢ |={Set.univ}=> iprop((bigSep Finset.univ fun s : Fin 16 => given m d c s)
      ∗ ((bigSep Finset.univ fun s : Fin 16 => returned m d c s) -∗ bigSep Finset.univ fun s : Fin 16 => returned m d c s))
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- All tiles' handed resources: the pixels dealt out, the two results cut into slots. -/
theorem deal_all (d : Dev nD) :
    iprop((xLoc d ↦{fullShare} pixels m d) ∗ (vLoc d ↦{fullShare} before m d vRef) ∗ (pLoc d ↦{fullShare} before m d pRef))
      ⊢ (iprop(spare d (pixels m d) ∗ bigSep Finset.univ fun c : Fin 2 => bigSep Finset.univ fun s : Fin 16 => given m d c s) : sProp 𝕄) := by
  iintro ⟨Hx, Hv, Hp⟩
  ihave Hx := (deal_pixels d (pixels m d)) $$ Hx
  icases Hx with ⟨Hr, Hx⟩
  ihave Hv := (Entails.of_eq (vals_slots d (before m d vRef))) $$ Hv
  ihave Hp := (Entails.of_eq (idxs_slots d (before m d pRef))) $$ Hp
  isplitl [Hr]; · iexact Hr
  simp only [bigSep_sep']
  isplitl [Hx]; · iexact Hx
  isplitl [Hv]; · iexact Hv
  iexact Hp

/-- The tiles' returned resources together: the pixels again, the two results written. -/
theorem join_all (d : Dev nD) :
    iprop(spare d (pixels m d) ∗ bigSep Finset.univ fun c : Fin 2 => bigSep Finset.univ fun s : Fin 16 => returned m d c s)
      ⊢ (iprop((xLoc d ↦{fullShare} pixels m d) ∗ (vLoc d ↦{fullShare} outVals (pixels m d)) ∗ (pLoc d ↦{fullShare} outIdxs (pixels m d))) : sProp 𝕄) := by
  simp only [bigSep_sep']
  iintro ⟨Hr, Hx, Hv, Hp⟩
  isplitl [Hr Hx]
  · iapply (join_pixels d (pixels m d))
    isplitl [Hr]; · iexact Hr
    iexact Hx
  isplitl [Hv]
  · iapply (Entails.of_eq (vals_slots d (outVals (pixels m d))).symm); iexact Hv
  · iapply (Entails.of_eq (idxs_slots d (outIdxs (pixels m d))).symm); iexact Hp

/-- The three arrays that the call works on. -/
abbrev callRefs : Finset (DevRef τ sig) := {xRef, vRef, pRef}

theorem callRefs_sub : callRefs ⊆ Pipeline.ucRefs τ sig := by
  intro b hb
  simp only [callRefs, Finset.mem_insert, Finset.mem_singleton] at hb
  refine Finset.mem_filter.mpr ?_
  rcases hb with rfl | rfl | rfl <;> exact ⟨StableHlo.devRef_mem_tcRefs _, by decide⟩

theorem held_callRefs (d : Dev nD) (W : Valuation τ sig (Elt F)) :
    (held (SparseCore.T d) callRefs W : sProp 𝕄) = iprop((xLoc d ↦{fullShare} W xRef) ∗ (vLoc d ↦{fullShare} W vRef) ∗ (pLoc d ↦{fullShare} W pRef)) := by
  unfold held callRefs
  rw [SparseCore.bigSep_insert' (by decide), SparseCore.bigSep_insert' (by decide), bigSep_singleton]

/-- What @main ends with: the TensorCore's arrays, all operations done. -/
def last (d : Dev nD) : Valuation τ sig (Elt F) := after (tailOps (F := F)) (between m d)
abbrev FIN (d : Dev nD) : sProp 𝕄 := held (SparseCore.T d) (Pipeline.ucRefs τ sig) (last m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (fun b => m (d, b)) from
    Pipeline.unscopedBufs_held d (fun b => m (d, b)), main_eq]
  iintro ⟨#Hctx, Hst, ⟨Hb, Hbufs, Hts, -⟩, -⟩
  iapply (wp_seq 𝒱 none Set.univ d (Pipeline.ucRefs τ sig) _ headOps headOps_sub headOps_fresh (fun b => m (d, b))) $$ [Hb Hbufs]
  · isplitl [Hb]; · iexact Hb
    iexact Hbufs
  iintro ⟨Hb, Hheld⟩
  rw [wp_bind]
  ihave Hheld := (Entails.of_eq (show held (d.tc : Thread nD τ) (Pipeline.ucRefs τ sig) (after (headOps (F := F)) fun b => m (d, b))
    = (iprop(held (SparseCore.T d) callRefs (before m d) ∗ held (SparseCore.T d) (Pipeline.ucRefs τ sig \ callRefs) (before m d)) : sProp 𝕄) from
    held_sub_split (SparseCore.T d) callRefs_sub (before m d))) $$ Hheld
  icases Hheld with ⟨Hcall, Hrest⟩
  ihave Hcall := (Entails.of_eq (held_callRefs d (before m d))) $$ Hcall
  rw [before_pixels]
  ihave Hcall := (deal_all m d) $$ Hcall
  icases Hcall with ⟨Hspare, Hgo⟩
  iapply ((K (F := F)).wp_run (D (F := F)) 𝒱 (EH := EH) (P := P m) κ d 0) $$ [Hst Hgo Hb Hts Hspare Hrest]
  isplitr; · iexact Hctx
  isplitl [Hst]; · iexact Hst
  isplitl [Hgo]; · iexact Hgo
  iintro ⟨Hst, Hdn⟩
  ihave Hcall := (join_all m d) $$ [Hspare Hdn]
  · isplitl [Hspare]; · iexact Hspare
    iexact Hdn
  ihave Hheld : held (SparseCore.T d) (Pipeline.ucRefs τ sig) (between m d) $$ [Hcall Hrest]
  · rw [held_sub_split _ callRefs_sub (between m d), held_callRefs, between_x, between_v, between_p]
    isplitl [Hcall]; · iexact Hcall
    rw [held_congr _ (V := between m d) (V' := before m d) fun b hb => between_of_ne m d
      (fun e => (Finset.mem_sdiff.mp hb).2 (by rw [e]; simp [callRefs])) (fun e => (Finset.mem_sdiff.mp hb).2 (by rw [e]; simp [callRefs]))]
    iexact Hrest
  iapply (wp_seq 𝒱 none Set.univ d (Pipeline.ucRefs τ sig) _ tailOps tailOps_sub tailOps_fresh (between m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-- What the memory holds at the end, array by array. -/
def fq (d : Dev nD) (s' : Phys nD τ sig (Elt F)) : Prop := ∀ b ∈ Pipeline.ucRefs τ sig, s'.mem.mem (d, b) = last m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The run's end: the results, the arguments unchanged, the counters at zero. -/
def Ends (r : PUnit × MemSt nD τ sig (Elt F)) : Prop :=
  (∀ d : Dev nD, r.2.mem ((SparseCore.T d).loc main_values) = (best (outVals (pixels m d))).1
    ∧ r.2.mem ((SparseCore.T d).loc main_v3) = takeAlong (F := F) (outIdxs (pixels m d)) (best (outVals (pixels m d))).2
    ∧ r.2.mem ((SparseCore.T d).loc main_arg0) = m ((SparseCore.T d).loc main_arg0)
    ∧ r.2.mem ((SparseCore.T d).loc main_arg1) = m ((SparseCore.T d).loc main_arg1)) ∧ r.2.sem = fun _ => 0

theorem ends_of (s' : Phys nD τ sig (Elt F)) (h : ∀ d, fq m d s') (hz : s'.mem.sem = fun _ => 0) : Ends m (⟨⟩, s'.mem) := by
  refine ⟨fun d => ?_, hz⟩
  have hm : ∀ b : Ref sig .tc, (Proc.devRef (τ := τ) .tc b).isScoped = false → Proc.devRef (τ := τ) .tc b ∈ Pipeline.ucRefs τ sig := fun b hb =>
    Finset.mem_filter.mpr ⟨StableHlo.devRef_mem_tcRefs b, by rw [hb]; exact Bool.false_ne_true⟩
  have hT := after_tail (F := F) (between m d)
  have hH := after_head (F := F) fun b => m (d, b)
  rw [between_v, between_p, between_of_ne m d (by decide) (by decide), between_of_ne m d (by decide) (by decide)] at hT
  refine ⟨(h d _ (hm main_values rfl)).trans hT.1, (h d _ (hm main_v3 rfl)).trans hT.2.1,
    ((h d _ (hm main_arg0 rfl)).trans hT.2.2.1).trans hH.2.1, ((h d _ (hm main_arg1 rfl)).trans hT.2.2.2).trans hH.2.2⟩

/-- The whole program's run, over any float values at which the counts are exact and on pixels that fit. -/
theorem run_main [∀ e, Nonempty (Elt F e)] (he : Exact nat) (hfit : ∀ d L, Fits (tilePx (pixels m d) L)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m he hfit)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (ends_of m)

end Cert.Proof

end
-- ==== Proof.Pre.lean ====
/-
  What the preconditions say of one shard: every bin is below 4096, and fewer than 4096 pixels pass the threshold
  that the scan finds. The stronger one also says that no pixel is negative and that the mask is one everywhere.
-/
module

public import proofs.«01_k».proof.Proof.Host
public import proofs.«01_k».proof.Proof.Gen.Pre_fits
public import proofs.«01_k».proof.Proof.Gen.Pre_fits_unmasked
public import Idealize.ShloMosaic.Lib.ReduceAll
public import Idealize.ShloMosaic.Lib.IndicatorCount
public import Idealize.ShloMosaic.Lib.WordCmp
public import Idealize.ShloMosaic.Lib.WordArith
public import Idealize.ShloMosaic.Lib.ValueIdx

@[expose] public section

noncomputable section

namespace Cert.Proof

open Cert.KernelIdeal
open Idealize.ShloMosaic

/-! ## Counting along an axis -/

/-- Summing a widened mask along its third axis counts the places where it is set. -/
theorem count_along {A B N C : ℕ} (msk : IVec ⟨4, ![A, B, N, C]⟩ 1) (hw : 1 < 32)
    (h : (⟨4, ![A, B, N, C]⟩ : Shape).ReducesTo [2] ⟨3, ![A, B, C]⟩) {u : Shape} (hu : 0 < u.numel)
    (a : Fin A) (b : Fin B) (c : Fin C) (Q : ℕ → Prop) [DecidablePred Q] (hQ : ∀ n : Fin N, msk (ix4 a b n c) = 1#1 ↔ Q n.val) :
    Host.reduce IntOp.addi (extui 32 msk hw) (constantI u 32 0#32) h hu (ix3 a b c) = BitVec.ofNat 32 (Nat.count Q N) := by
  classical
  rw [Host.reduce_eq_fold]
  refine (IndicatorCount.fold_addi_setWidth_eq_card msk _).trans (congrArg (BitVec.ofNat 32) ?_)
  rw [Nat.count_eq_card_filter_range]
  have hd : ∀ i : (⟨4, ![A, B, N, C]⟩ : Shape).Idx, h.drop i = ix3 a b c ↔ i = ix4 a b (i 2) c := by
    intro i
    have h0 : (h.drop i 0 : ℕ) = i 0 := Shape.ReducesTo.drop_apply_val h i 0
    have h1 : (h.drop i 1 : ℕ) = i 1 := Shape.ReducesTo.drop_apply_val h i 1
    have h2 : (h.drop i 2 : ℕ) = i 3 := Shape.ReducesTo.drop_apply_val h i 2
    constructor
    · intro e
      rw [e] at h0 h1 h2
      funext k
      match k with
      | ⟨0, _⟩ => exact Fin.ext h0.symm
      | ⟨1, _⟩ => exact Fin.ext h1.symm
      | ⟨2, _⟩ => rfl
      | ⟨3, _⟩ => exact Fin.ext h2.symm
    · intro e
      funext k
      match k with
      | ⟨0, _⟩ => exact Fin.ext (h0.trans (congrArg Fin.val (congrFun e 0)))
      | ⟨1, _⟩ => exact Fin.ext (h1.trans (congrArg Fin.val (congrFun e 1)))
      | ⟨2, _⟩ => exact Fin.ext (h2.trans (congrArg Fin.val (congrFun e 3)))
  refine Finset.card_bij (fun i _ => (i 2).val) ?_ ?_ ?_
  · intro i hi
    obtain ⟨hi, hm⟩ := Finset.mem_filter.1 hi
    have e := (hd i).1 (Finset.mem_filter.1 hi).2
    rw [e] at hm
    exact Finset.mem_filter.2 ⟨Finset.mem_range.2 (i 2).isLt, (hQ (i 2)).1 hm⟩
  · intro i hi j hj e
    have ei := (hd i).1 (Finset.mem_filter.1 (Finset.mem_filter.1 hi).1).2
    have ej := (hd j).1 (Finset.mem_filter.1 (Finset.mem_filter.1 hj).1).2
    rw [ei, ej, show i 2 = j 2 from Fin.ext e]
  · intro n hn
    obtain ⟨hn, hq⟩ := Finset.mem_filter.1 hn
    have hn := Finset.mem_range.1 hn
    exact ⟨ix4 a b ⟨n, hn⟩ c, Finset.mem_filter.2 ⟨Finset.mem_filter.2 ⟨Finset.mem_univ _, (hd _).2 rfl⟩, (hQ ⟨n, hn⟩).2 hq⟩, rfl⟩

variable {F : FTy → Type} [FloatOps F]

/-- The kept pixels of the first `N`, counted. -/
theorem length_kept_count (px : ℕ → F .f32) (t : BitVec 32) (N : ℕ) :
    (kept px t N).length = Nat.count (fun n => keepBit t (px n) = 1#1) N := by
  induction N with
  | zero => rfl
  | succ N ih =>
    rw [Nat.count_succ, ← ih]
    unfold kept
    rw [List.range_succ, List.filter_append, List.length_append]
    by_cases h : keepBit t (px N) = 1#1 <;> simp [h]

/-! ## Reading the precondition -/

/-- The pixels of a shard, as the precondition lays them out. -/
theorem pixel_flat (x : Vec F S4x1x1024x2048 .f32) (h : S4x1x1024x2048.ShapeCasts Cert.Pre_fits.S4x8x262144x1)
    (b : Fin 4) (w : Fin 8) (n : Fin 262144) :
    pixel (flat x) b w.val n.val = shapeCast Cert.Pre_fits.S4x8x262144x1 x h (ix4 b w n 0) := by
  have hw := w.isLt
  have hn := n.isLt
  have e : ∀ i j, (S4x2097152.rowMajor i).val = (Cert.Pre_fits.S4x8x262144x1.rowMajor j).val →
      flat x i = shapeCast Cert.Pre_fits.S4x8x262144x1 x h j := by
    intro i j hij
    unfold flat
    rw [shapeCast_comp]
    unfold shapeCast
    refine congrArg x ?_
    refine Shape.reshapeEquiv_eq_of_rowMajor _ ?_
    rw [hij]
    exact Shape.rowMajor_reshapeEquiv _ _
  refine e _ _ ?_
  rw [Shape.rowMajor_val_two, Shape.rowMajor_val_four]
  show b.val * 2097152 + (w.val * shardSize + n.val) % 2097152 = ((b.val * 8 + w.val) * 262144 + n.val) * 1 + 0
  simp only [shardSize]
  omega

theorem bin_lt_of_nonneg {v : F .f32} (h : IntOp.cmpi .sge (binWord v) 0#32 = 1#1) : (binWord v).toNat < 4096 := by
  have hi : (binWord v).toInt ≤ 4095 := by
    unfold binWord IntOp.minsi
    split
    · rename_i hs
      simp only [BitVec.slt, BitVec.sle, decide_eq_true_eq] at hs
      have : (4095#32 : BitVec 32).toInt = 4095 := by decide
      omega
    · decide
  rw [WordCmp.cmpi_sge_zero, WordCmp.ofBool_decide_eq_one_iff] at h
  have := BitVec.toInt_eq_toNat_of_lt (x := binWord v) (by omega)
  omega

/-- A column of a shard's values spread over the thresholds is the column at each of them. -/
theorem spread_column {α : Type} (y : Cert.Pre_fits.S4x8x262144x1.Idx → α) (b : Fin 4) (w : Fin 8) (n : Fin 262144) (g : Fin 257) :
    broadcastInDim Cert.Pre_fits.S4x8x262144x257 ![0, 1, 2, 3]
      Cert.Pre_fits.Facts.bcast_S4x8x262144x1_S4x8x262144x257_0_1_2_3 y (ix4 b w n g) = y (ix4 b w n 0) := by
  refine broadcastInDim_apply _ _ y _ _ fun e => ?_
  match e with
  | ⟨0, _⟩ => rfl
  | ⟨1, _⟩ => rfl
  | ⟨2, _⟩ => rfl
  | ⟨3, _⟩ => rfl

/-- The thresholds spread over the pixels are the thresholds at each of them. -/
theorem spread_row {α : Type} (y : Cert.Pre_fits.S1x1x1x257.Idx → α) (b : Fin 4) (w : Fin 8) (n : Fin 262144) (g : Fin 257) :
    broadcastInDim Cert.Pre_fits.S4x8x262144x257 ![0, 1, 2, 3]
      Cert.Pre_fits.Facts.bcast_S1x1x1x257_S4x8x262144x257_0_1_2_3 y (ix4 b w n g) = y (ix4 0 0 0 g) := by
  refine broadcastInDim_apply _ _ y _ _ fun e => ?_
  match e with
  | ⟨0, _⟩ => rfl
  | ⟨1, _⟩ => rfl
  | ⟨2, _⟩ => rfl
  | ⟨3, _⟩ => rfl

/-- Sixteen times a threshold's number, as a word. -/
theorem threshold_word (g : ℕ) : BitVec.ofNat 32 g * 16#32 = BitVec.ofNat 32 (16 * g) := by
  rw [BitVec.ofNat_mul, BitVec.mul_comm]

/-- The counts from the second threshold on. -/
theorem slice_next {α : Type} (y : Cert.Pre_fits.S4x8x257.Idx → α) (b : Fin 4) (w : Fin 8) (g : Fin 256) :
    extractStridedSlice Cert.Pre_fits.S4x8x256 ![0, 0, 1] y Cert.Pre_fits.Facts.slices_S4x8x257_S4x8x256_0_0_1 (ix3 b w g)
      = y (ix3 b w ⟨g.val + 1, Nat.succ_lt_succ g.isLt⟩) := by
  refine congrArg y (funext fun e => ?_)
  match e with
  | ⟨0, _⟩ => exact Fin.ext (Nat.zero_add _)
  | ⟨1, _⟩ => exact Fin.ext (Nat.zero_add _)
  | ⟨2, _⟩ => exact Fin.ext (Nat.add_comm 1 _)

/-- The counts of all thresholds but the last. -/
theorem slice_same {α : Type} (y : Cert.Pre_fits.S4x8x257.Idx → α) (b : Fin 4) (w : Fin 8) (g : Fin 256) :
    extractStridedSlice Cert.Pre_fits.S4x8x256 ![0, 0, 0] y Cert.Pre_fits.Facts.slices_S4x8x257_S4x8x256_0_0_0 (ix3 b w g)
      = y (ix3 b w ⟨g.val, Nat.lt_succ_of_lt g.isLt⟩) := by
  refine congrArg y (funext fun e => ?_)
  match e with
  | ⟨0, _⟩ => exact Fin.ext (Nat.zero_add _)
  | ⟨1, _⟩ => exact Fin.ext (Nat.zero_add _)
  | ⟨2, _⟩ => exact Fin.ext (Nat.zero_add _)

/-- Whether a pixel's bin reaches a threshold, for every pixel and threshold. -/
abbrev reaches (x : Vec F S4x1x1024x2048 .f32) : IVec Cert.Pre_fits.S4x8x262144x257 1 :=
  cmpi .sge
    (broadcastInDim Cert.Pre_fits.S4x8x262144x257 ![0, 1, 2, 3] Cert.Pre_fits.Facts.bcast_S4x8x262144x1_S4x8x262144x257_0_1_2_3
      fun i => binWord (shapeCast Cert.Pre_fits.S4x8x262144x1 x Cert.Pre_fits.Facts.shapeCasts_S4x1x1024x2048_S4x8x262144x1 i))
    (broadcastInDim Cert.Pre_fits.S4x8x262144x257 ![0, 1, 2, 3] Cert.Pre_fits.Facts.bcast_S1x1x1x257_S4x8x262144x257_0_1_2_3
      fun i : Cert.Pre_fits.S1x1x1x257.Idx => BitVec.ofNat 32 (i 3).val * 16#32)

/-- Whether a pixel passes a threshold, for every pixel and threshold. -/
abbrev passes (x : Vec F S4x1x1024x2048 .f32) : IVec Cert.Pre_fits.S4x8x262144x257 1 :=
  cmpf .oge
    (broadcastInDim Cert.Pre_fits.S4x8x262144x257 ![0, 1, 2, 3] Cert.Pre_fits.Facts.bcast_S4x8x262144x1_S4x8x262144x257_0_1_2_3
      fun i => scaled (shapeCast Cert.Pre_fits.S4x8x262144x1 x Cert.Pre_fits.Facts.shapeCasts_S4x1x1024x2048_S4x8x262144x1 i))
    (broadcastInDim Cert.Pre_fits.S4x8x262144x257 ![0, 1, 2, 3] Cert.Pre_fits.Facts.bcast_S1x1x1x257_S4x8x262144x257_0_1_2_3
      (sitofp .f32 fun i : Cert.Pre_fits.S1x1x1x257.Idx => BitVec.ofNat 32 (i 3).val * 16#32))

/-- A mask's counts along the pixels of each shard. -/
abbrev tally (msk : IVec Cert.Pre_fits.S4x8x262144x257 1) : IVec Cert.Pre_fits.S4x8x257 32 :=
  Host.reduce IntOp.addi (extui 32 msk Cert.Pre_fits.Facts.natLt_1_32) (constantI Cert.Pre_fits.S_ 32 0#32)
    Cert.Pre_fits.Facts.reducesTo_S4x8x262144x257_S4x8x257_d2 Cert.Pre_fits.Facts.h_S_

/-- A shard fits where the precondition holds, for floats whose two conversions of words, one word at a time and many,
    agree. -/
theorem fits_of_pre (hs' : ∀ t : BitVec 32, (FloatOps.sitofp .f32 t : F .f32) = Scalar.sitofp .f32 t)
    {x mask : Vec F S4x1x1024x2048 .f32} (h : Cert.Pre_fits.fn (F := F) x mask = fun _ => 1#1) (L : grid0.Coords) :
    Fits (tilePx (flat x) L) := by
  have h0 := congrFun h (fun a => a.elim0)
  unfold Cert.Pre_fits.fn Cert.Pre_fits.fn_part1 at h0
  obtain ⟨h1, h2⟩ := IntOp.andi_eq_one.1 h0
  have hs : shard L < 8 := Nat.mod_lt _ (by decide)
  generalize hp : tilePx (flat x) L = p
  have px : ∀ n : Fin 262144, p n.val
      = shapeCast Cert.Pre_fits.S4x8x262144x1 x Cert.Pre_fits.Facts.shapeCasts_S4x1x1024x2048_S4x8x262144x1 (ix4 (image L) ⟨shard L, hs⟩ n 0) :=
    fun n => by rw [← hp]; exact pixel_flat x _ (image L) ⟨shard L, hs⟩ n
  have bins : ∀ n < shardSize, bin p n < 4096 := by
    intro n hn
    have := Host.reduce_andi_all _ _ _ _ _ h1 (ix4 (image L) ⟨shard L, hs⟩ ⟨n, hn⟩ 0)
    refine bin_lt_of_nonneg (v := p n) ?_
    rw [px ⟨n, hn⟩]
    exact this
  refine ⟨bins, ?_⟩
  have hl := level_le p
  have hlt := above_level_succ p bins
  generalize level p = g at hl hlt ⊢
  have hg := Host.reduce_andi_all _ _ _ _ _ h2 (ix3 (image L) ⟨shard L, hs⟩ ⟨g, by omega⟩)
  clear h h0 h1 h2
  rcases IntOp.ori_eq_one.1 hg with hc | hc
  · have e : tally (reaches x) (ix3 (image L) ⟨shard L, hs⟩ ⟨g + 1, by omega⟩) = BitVec.ofNat 32 (above p (g + 1)) := by
      refine count_along (reaches x) _ _ _ _ _ _ (fun n => 16 * (g + 1) ≤ bin p n) fun n => ?_
      show IntOp.cmpi .sge (broadcastInDim _ _ _ _ _) (broadcastInDim _ _ _ _ _) = 1#1 ↔ _
      rw [spread_column, spread_row, ← px n]
      have hb := bins n.val n.isLt
      have hw : binWord (p n.val) = BitVec.ofNat 32 (bin p n.val) := by
        unfold bin; simp
      show IntOp.cmpi .sge _ (BitVec.ofNat 32 _ * 16#32) = 1#1 ↔ _
      rw [threshold_word, hw]
      exact WordCmp.cmpi_sge_ofNat_eq_one_iff (by omega) (by show 16 * (g + 1) < 2 ^ (32 - 1); omega)
    change IntOp.cmpi .sge (extractStridedSlice Cert.Pre_fits.S4x8x256 ![0, 0, 1] (tally (reaches x)) _ (ix3 _ _ _)) (BitVec.ofNat 32 2048) = 1#1 at hc
    generalize tally (reaches x) = y at e hc
    rw [slice_next] at hc
    have hc' := (congrArg (fun z => IntOp.cmpi .sge z (BitVec.ofNat 32 2048)) e).symm.trans hc
    have := (WordCmp.cmpi_sge_ofNat_eq_one_iff (by omega) (by omega)).1 hc'
    omega
  · have e : tally (passes x) (ix3 (image L) ⟨shard L, hs⟩ ⟨g, by omega⟩)
        = BitVec.ofNat 32 (kept p (BitVec.ofNat 32 (16 * g)) shardSize).length := by
      rw [length_kept_count]
      refine count_along (passes x) _ _ _ _ _ _ _ fun n => ?_
      show FloatOps.cmpf .oge (broadcastInDim _ _ _ _ _) (broadcastInDim _ _ _ _ _) = 1#1 ↔ _
      rw [spread_column, spread_row, ← px n, ← threshold_word]
      have e1 := hs' (BitVec.ofNat 32 g * 16#32)
      exact Iff.of_eq (congrArg (fun z => FloatOps.cmpf .oge (scaled (p n.val)) z = 1#1) e1)
    have hle := length_kept_le p (BitVec.ofNat 32 (16 * g)) shardSize
    change IntOp.cmpi .slt (extractStridedSlice Cert.Pre_fits.S4x8x256 ![0, 0, 0] (tally (passes x)) _ (ix3 _ _ _)) (BitVec.ofNat 32 4096) = 1#1 at hc
    generalize tally (passes x) = y at e hc
    rw [slice_same] at hc
    have hc' := (congrArg (fun z => IntOp.cmpi .slt z (BitVec.ofNat 32 4096)) e).symm.trans hc
    have hsm : (kept p (BitVec.ofNat 32 (16 * g)) shardSize).length < 2 ^ (32 - 1) := lt_of_le_of_lt hle (by decide)
    generalize (kept p (BitVec.ofNat 32 (16 * g)) shardSize).length = k at hc' hsm ⊢
    exact (WordCmp.cmpi_slt_ofNat_eq_one_iff hsm (by decide)).1 hc'

/-! ## The stronger precondition -/

/-- It holds only where the weaker one does. -/
theorem pre_of_unmasked {x mask : Vec F S4x1x1024x2048 .f32} (h : Cert.Pre_fits_unmasked.fn (F := F) x mask = fun _ => 1#1) :
    Cert.Pre_fits.fn (F := F) x mask = fun _ => 1#1 := by
  funext j
  have h0 := congrFun h j
  unfold Cert.Pre_fits_unmasked.fn Cert.Pre_fits_unmasked.fn_part1 Cert.Pre_fits_unmasked.fn_part2 at h0
  exact (IntOp.andi_eq_one.1 (IntOp.andi_eq_one.1 h0).1).1

/-- No pixel is below zero. -/
theorem nonneg_of_unmasked {x mask : Vec F S4x1x1024x2048 .f32} (h : Cert.Pre_fits_unmasked.fn (F := F) x mask = fun _ => 1#1)
    (i : S4x1x1024x2048.Idx) : FloatOps.cmpf .oge (x i) (Scalar.ofBits .f32 0x00000000#32) = 1#1 := by
  have h0 := congrFun h (fun a => a.elim0)
  unfold Cert.Pre_fits_unmasked.fn Cert.Pre_fits_unmasked.fn_part1 Cert.Pre_fits_unmasked.fn_part2 at h0
  exact Host.reduce_andi_all _ _ _ _ _ (IntOp.andi_eq_one.1 (IntOp.andi_eq_one.1 h0).1).2 i

/-- The mask is one. -/
theorem mask_of_unmasked {x mask : Vec F S4x1x1024x2048 .f32} (h : Cert.Pre_fits_unmasked.fn (F := F) x mask = fun _ => 1#1)
    (i : S4x1x1024x2048.Idx) : FloatOps.cmpf .oeq (mask i) (Scalar.ofBits .f32 0x3F800000#32) = 1#1 := by
  have h0 := congrFun h (fun a => a.elim0)
  unfold Cert.Pre_fits_unmasked.fn Cert.Pre_fits_unmasked.fn_part1 Cert.Pre_fits_unmasked.fn_part2 at h0
  exact Host.reduce_andi_all _ _ _ _ _ (IntOp.andi_eq_one.1 h0).2 i

end Cert.Proof
-- ==== Proof.Counts.lean ====
/-
  Counting by adding one is exact, up to the size of a shard, in binary32 words and in the extended reals.
-/
module

public import proofs.«01_k».proof.Proof.Shard
public import Idealize.ShloMosaic.Lib.NatWords
public import Idealize.ShloMosaic.Lib.IdealHost

@[expose] public section

noncomputable section

namespace Cert.Proof

open Idealize.ShloMosaic

/-- In binary32 words. -/
theorem exact_bits : Exact (F := Bits) Bits.f32OfNat where
  zero := Bits.f32OfNat_zero
  succ n hn := by
    have one : (Scalar.ofBits .f32 0x3F800000#32 : Bits .f32) = Bits.f32OfNat 1 := by
      rw [Bits.f32OfNat_eq 1 (by decide)]
      decide +kernel
    rw [one]
    exact Bits.addf32_nat n 1 (by simp only [shardSize] at hn; omega)
  word n hn := Bits.fptosi32_nat n (by simp only [shardSize] at hn; omega)

/-- In the extended reals. -/
theorem exact_ideal : Exact (F := Ideal) fun n => (((n : ℕ) : ℝ) : EReal) where
  zero := by
    show _ = Ideal.ofBits .f32 0x00000000#32
    rw [Ideal.ofBits_zero_f32]
    simp
  succ n hn := by
    show (((n : ℕ) : ℝ) : EReal) + Ideal.ofBits .f32 0x3F800000#32 = _
    rw [Ideal.ofBits_one_f32]
    push_cast
    rfl
  word n hn := by
    show Ideal.fptosi 32 (((n : ℕ) : ℝ) : EReal) = _
    simp only [shardSize] at hn
    unfold Ideal.fptosi
    rw [Ideal.toIntClamped_coe, if_pos (Nat.cast_nonneg n), Int.floor_natCast]
    rw [show max (-((2 ^ (32 - 1) : ℕ) : ℤ)) (min (((2 ^ (32 - 1) : ℕ) : ℤ) - 1) (n : ℤ)) = (n : ℤ) by push_cast; omega]
    exact BitVec.ofInt_natCast 32 n

end Cert.Proof

end
-- ==== Proof.Frames.lean ====
/-
  The frames: from arguments that the precondition admits each program terminates, leaves its arguments unchanged and every
  semaphore counter at zero. The kernel and its ideal program have the same text, so both frames come from the one run.
-/
module

public import proofs.«01_k».proof.Defs
public import proofs.«01_k».proof.Proof.Launch
public import proofs.«01_k».proof.Proof.Pre
public import proofs.«01_k».proof.Proof.Counts
public import proofs.«01_k».proof.Proof.Gen.Kernel
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel's run in float words. -/
theorem run_bits (m : (ℓ : Loc Cert.KernelIdeal.nD Cert.KernelIdeal.τ Cert.KernelIdeal.sig) → Buf (Elt Bits) ℓ)
    (ρ : Dev Cert.KernelIdeal.nD → PrngReg)
    (h : ∀ c : Dev Cert.KernelIdeal.nD, Cert.Pre_fits.fn (F := Bits)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run (Cert.KernelIdeal.defs (F := Bits)) (Cert.KernelIdeal.threads (F := Bits)) ⟨m, fun _ => 0, ρ⟩ (Ends m) :=
  run_main m ρ exact_bits fun d L => fits_of_pre (fun _ => rfl) (h d) L

/-- The kernel's run in the extended reals. -/
theorem run_ideal (m : (ℓ : Loc Cert.KernelIdeal.nD Cert.KernelIdeal.τ Cert.KernelIdeal.sig) → Buf (Elt Ideal) ℓ)
    (ρ : Dev Cert.KernelIdeal.nD → PrngReg)
    (h : ∀ c : Dev Cert.KernelIdeal.nD, Cert.Pre_fits.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run (Cert.KernelIdeal.defs (F := Ideal)) (Cert.KernelIdeal.threads (F := Ideal)) ⟨m, fun _ => 0, ρ⟩ (Ends m) :=
  run_main m ρ exact_ideal fun d L => fits_of_pre (fun _ => rfl) (h d) L

/-- The kernel's frame. -/
theorem frame_kernel : Cert.quiescent_Kernel := fun m ρ h =>
  (θ_run Cert.KernelIdeal.defs _ _).mono (fun _ hr => ⟨fun c => (hr.1 c).2.2, hr.2⟩) (run_bits m ρ h)

/-- The ideal program's frame. -/
theorem frame_ideal : Cert.quiescent_KernelIdeal := fun m ρ h =>
  (θ_run Cert.KernelIdeal.defs _ _).mono (fun _ hr => ⟨fun c => (hr.1 c).2.2, hr.2⟩) (run_ideal m ρ h)

/-- The ideal program's frame, under the stronger precondition. -/
theorem frame_ideal_unmasked : Cert.quiescent_KernelIdeal_pre_fits_unmasked := fun m ρ h =>
  (θ_run Cert.KernelIdeal.defs _ _).mono (fun _ hr => ⟨fun c => (hr.1 c).2.2, hr.2⟩)
    (run_ideal m ρ fun c => pre_of_unmasked (h c))

/-- The reference's frame: it is a list of host operations and has no semaphore. -/
theorem frame_reference : Cert.quiescent_ReferenceIdeal := fun m ρ _ =>
  (θ_run Cert.ReferenceIdeal.defs _ _).mono
    (fun r hr => ⟨fun c => (hr c).2.2, sem_eq_zero_of_no_sems (by decide) r.2⟩) (Cert.ReferenceIdeal.Value.run (F := Ideal) m ρ)

/-- The reference's frame, under the stronger precondition. -/
theorem frame_reference_unmasked : Cert.quiescent_ReferenceIdeal_pre_fits_unmasked := fun m ρ _ => frame_reference m ρ trivial

end Cert.Proof
-- ==== Proof.Select.lean ====
/-
  The greatest of a sequence may be taken from a shorter one: slots that hold some of its elements in their order, and
  fillers below all of them, give the same `k` first in the stable order by descending value, if of each element that no
  slot holds there are `k` greater ones in the slots.
-/
module

public import Idealize.ShloMosaic.Lib.SortPrefix
public import Mathlib.Data.Fintype.Card
public import Mathlib.Order.Defs.LinearOrder

@[expose] public section

namespace Cert.Proof

open Idealize.ShloMosaic

variable {α : Type} [LinearOrder α]

/-- Position `a` comes before position `b`: its value is greater, or the same and `a` is the lower position. -/
def ahead {n : ℕ} (v : Fin n → α) (a b : Fin n) : Bool :=
  decide (v b < v a) || (decide (v a = v b) && decide (a < b))

theorem ahead_total {n : ℕ} (v : Fin n → α) : StrictTotalBefore (ahead v) :=
  StrictTotalBefore.of_key_then_position (fun a b : α => decide (b < a)) v (by simp)
    (by simp only [decide_eq_true_eq]; exact fun a b c h h' => h'.trans h)
    (by
      simp only [decide_eq_true_eq]
      intro a b
      rcases lt_trichotomy a b with h | h | h
      · exact Or.inr (Or.inr h)
      · exact Or.inr (Or.inl h)
      · exact Or.inl h)

theorem mem_stableSort {ι : Type} (R : ι → ι → Bool) (l : List ι) (b : ι) : b ∈ stableSort R l ↔ b ∈ l :=
  (perm_stableSort R l).mem_iff

/-- On positions in order the stable sort by value alone is the sort by value and then position. -/
theorem stableSort_value {n : ℕ} (v : Fin n → α) (l : List (Fin n)) (hl : l.Pairwise (· < ·)) :
    stableSort (fun a b => decide (v b < v a)) l = stableSort (ahead v) l := by
  induction l with
  | nil => rfl
  | cons a l ih =>
    rw [List.pairwise_cons] at hl
    unfold stableSort
    rw [ih hl.2]
    refine insertBefore_congr _ _ a _ fun b hb => ?_
    have hab := hl.1 b ((mem_stableSort _ _ b).1 hb)
    simp [ahead, not_lt.2 hab.le]

/-- The same, for the positions that the sort takes its elements from. -/
theorem sortedFrom_value {n : ℕ} (v : Fin n → α) (k : Fin n) :
    sortedFrom (fun a b => decide (v b < v a)) k = sortedFrom (ahead v) k := by
  have h : sortPositions n (fun a b => decide (v b < v a)) = sortPositions n (ahead v) :=
    stableSort_value v _ (List.pairwise_lt_finRange n)
  unfold sortedFrom
  rw [List.get_of_eq h]
  rfl

/-- Of two sorted places the later one's position does not come before the earlier one's. -/
theorem sorted_order {n : ℕ} (v : Fin n → α) {i j : Fin n} (h : i < j) : ahead v (sortedFrom (ahead v) j) (sortedFrom (ahead v) i) = false :=
  sortedFrom_noInversion (ahead v) (ahead v) (fun a b => (ahead_total v).asymm a b) (fun _ _ h => h) (ahead_total v).negTrans i j h

/-- Fewer than `k` places lie before place `i < k`, so of `k` positions one is not sorted before place `i`. -/
theorem exists_not_before {m k : ℕ} (u : Fin m → α) (f : Fin k → Fin m) (hf : Function.Injective f) (i : Fin m) (hi : i.val < k) :
    ∃ r j, f r = sortedFrom (ahead u) j ∧ i ≤ j := by
  by_contra hc
  push Not at hc
  choose g hg using fun r => sortedFrom_surjective (ahead u) (f r)
  have hlt : ∀ r, g r < i := fun r => hc r (g r) (hg r).symm
  have hinj : Function.Injective fun r : Fin k => (⟨(g r).val, hlt r⟩ : Fin i.val) := by
    intro r r' e
    have : g r = g r' := Fin.ext (congrArg (fun z : Fin i.val => z.val) e)
    apply hf
    rw [← hg r, ← hg r', this]
  have := Fintype.card_le_of_injective _ hinj
  simp only [Fintype.card_fin] at this
  omega

/-- Slots `u` that hold elements of `v` in their order, by `src`, and fillers below all of `v`. -/
structure Holds {n m : ℕ} (v : Fin n → α) (u : Fin m → α) (src : Fin m → Option (Fin n)) : Prop where
  value : ∀ q i, src q = some i → u q = v i
  order : ∀ q q' i i', src q = some i → src q' = some i' → q < q' → i < i'
  filler : ∀ q i, src q = none → u q < v i

/-- The first `k` positions of the sorted elements are those of the sorted slots' elements. -/
theorem sortedFrom_slots {n m k : ℕ} {v : Fin n → α} {u : Fin m → α} {src : Fin m → Option (Fin n)} (h : Holds v u src)
    (hn : k ≤ n) (hm : k ≤ m) (full : ∃ f : Fin k → Fin m, Function.Injective f ∧ ∀ r, src (f r) ≠ none)
    (dom : ∀ i, (∀ q, src q ≠ some i) → ∃ f : Fin k → Fin m, Function.Injective f ∧ ∀ r, src (f r) ≠ none ∧ v i < u (f r))
    (r : Fin k) : src (sortedFrom (ahead u) (r.castLE hm)) = some (sortedFrom (ahead v) (r.castLE hn)) := by
  have real : ∀ r : Fin k, ∃ i, src (sortedFrom (ahead u) (r.castLE hm)) = some i := by
    intro r
    by_contra hc
    have hnone : src (sortedFrom (ahead u) (r.castLE hm)) = none := by
      cases e : src (sortedFrom (ahead u) (r.castLE hm)) with
      | none => rfl
      | some i => exact absurd ⟨i, e⟩ hc
    obtain ⟨f, hf, hr⟩ := full
    obtain ⟨r', j, e, hj⟩ := exists_not_before u f hf (r.castLE hm) r.isLt
    obtain ⟨i, hi⟩ := Option.ne_none_iff_exists'.1 (hr r')
    rcases hj.lt_or_eq with hlt | heq
    · have := sorted_order u hlt
      rw [← e] at this
      have hv := h.filler _ i hnone
      rw [← h.value _ i hi] at hv
      simp [ahead, hv] at this
    · rw [heq, ← e] at hnone
      exact hr r' hnone
  choose σ hσ using real
  have same : ∀ q q' i i', src q = some i → src q' = some i' → ahead v i i' = ahead u q q' := by
    intro q q' i i' hq hq'
    unfold ahead
    rw [h.value q i hq, h.value q' i' hq']
    have : (i < i') ↔ (q < q') := by
      constructor
      · intro hlt
        rcases lt_trichotomy q q' with h1 | h1 | h1
        · exact h1
        · subst h1
          rw [hq] at hq'
          exact absurd hlt (by rw [Option.some.inj hq']; exact lt_irrefl _)
        · exact absurd (h.order q' q i' i hq' hq h1) (not_lt.2 hlt.le)
      · exact h.order q q' i i' hq hq'
    simp only [this]
  have src_inj : ∀ q q' i, src q = some i → src q' = some i → q = q' := by
    intro q q' i hq hq'
    rcases lt_trichotomy q q' with h1 | h1 | h1
    · exact absurd (h.order q q' i i hq hq' h1) (lt_irrefl _)
    · exact h1
    · exact absurd (h.order q' q i i hq' hq h1) (lt_irrefl _)
  rw [hσ r, (ahead_total v).sortedFrom_eq_of_prefix hn σ]
  · intro a b e
    have := src_inj _ _ _ (hσ a) (by rw [e]; exact hσ b)
    have := sortedFrom_injective _ this
    exact Fin.ext (congrArg (fun z : Fin m => z.val) this)
  · intro i j hij
    rw [same _ _ _ _ (hσ j) (hσ i)]
    exact sorted_order u (by rw [Fin.lt_def]; exact hij)
  · intro i p hp
    by_cases hq : ∃ q, src q = some p
    · obtain ⟨q, hq⟩ := hq
      obtain ⟨j, rfl⟩ := sortedFrom_surjective (ahead u) q
      rw [same _ _ _ _ hq (hσ i)]
      by_cases hj : j.val < k
      · exact absurd (Option.some.inj ((hσ ⟨j.val, hj⟩).symm.trans hq)) (hp ⟨j.val, hj⟩)
      · have hi := i.isLt
        exact sorted_order u (by rw [Fin.lt_def]; show i.val < j.val; omega)
    · obtain ⟨f, hf, hr⟩ := dom p (fun q e => hq ⟨q, e⟩)
      obtain ⟨r', j, e, hj⟩ := exists_not_before u f hf (i.castLE hm) i.isLt
      have hv := (hr r').2
      have hle : u (f r') ≤ v (σ i) := by
        rcases hj.lt_or_eq with hlt | heq
        · have := sorted_order u hlt
          rw [← e] at this
          rw [← h.value _ _ (hσ i)]
          by_contra hc
          simp [ahead, not_le.1 hc] at this
        · rw [← h.value _ _ (hσ i), heq, ← e]
      have hlt := hv.trans_le hle
      simp [ahead, not_lt.2 hlt.le, hlt.ne]

end Cert.Proof
-- ==== Proof.Slots.lean ====
/-
  The slots of one image hold its greatest pixels: eight shards of 262144 pixels, of each the kept pixels in order in
  4096 slots. Where every kept pixel of a shard is greater than every other one of it, and at least 2048 are kept, the
  2048 greatest slots hold the 2048 greatest pixels, in the same order.
-/
module

public import proofs.«01_k».proof.Proof.Select

@[expose] public section

namespace Cert.Proof

open Idealize.ShloMosaic

variable {α : Type} [LinearOrder α]

/-- The place in the image of pixel `n` of shard `w`. -/
def place (w n : ℕ) : Fin 2097152 := ⟨(w * 262144 + n) % 2097152, Nat.mod_lt _ (by decide)⟩

/-- The pixel that slot `q` holds, if it holds one, for kept lists `K`. -/
def held (K : ℕ → List ℕ) (q : Fin 32768) : Option (Fin 2097152) :=
  ((K (q.val / 4096))[q.val % 4096]?).map (place (q.val / 4096))

theorem place_val {w n : ℕ} (hw : w < 8) (hn : n < 262144) : (place w n).val = w * 262144 + n :=
  Nat.mod_eq_of_lt (by omega)

theorem place_split (i : Fin 2097152) : place (i.val / 262144) (i.val % 262144) = i := by
  have := i.isLt
  refine Fin.ext ?_
  rw [place_val (by omega) (by omega)]
  omega

/-- Slot `r` of shard `w`. -/
def slot (w : Fin 8) (r : Fin 2048) : Fin 32768 := ⟨w.val * 4096 + r.val, by have := w.isLt; have := r.isLt; omega⟩

theorem slot_injective (w : Fin 8) : Function.Injective (slot w) := by
  intro r r' h
  have := congrArg Fin.val h
  simp only [slot] at this
  exact Fin.ext (by omega)

/-- What the kept lists of an image are, for the values `v` of its pixels: `P w` says which values shard `w` keeps. -/
structure Keeps (v : Fin 2097152 → α) (P : ℕ → α → Prop) (K : ℕ → List ℕ) : Prop where
  upper : ∀ w a b, ¬ P w a → P w b → a < b
  sorted : ∀ w, (K w).Pairwise (· < ·)
  mem : ∀ w n, n ∈ K w ↔ n < 262144 ∧ P w (v (place w n))
  many : ∀ w, w < 8 → 2048 ≤ (K w).length
  room : ∀ w, w < 8 → (K w).length < 4096

variable {v : Fin 2097152 → α} {P : ℕ → α → Prop} {K : ℕ → List ℕ}

theorem held_slot (h : Keeps v P K) (w : Fin 8) (r : Fin 2048) :
    ∃ n, n ∈ K w.val ∧ held K (slot w r) = some (place w.val n) := by
  have hr : r.val < (K w.val).length := lt_of_lt_of_le r.isLt (h.many w.val w.isLt)
  have e1 : (slot w r).val / 4096 = w.val := by have := r.isLt; simp only [slot]; omega
  have e2 : (slot w r).val % 4096 = r.val := by have := r.isLt; simp only [slot]; omega
  refine ⟨(K w.val)[r.val], List.getElem_mem hr, ?_⟩
  unfold held
  rw [e1, e2, List.getElem?_eq_getElem hr]
  rfl

/-- The slots hold pixels of the image, in order, and fillers below all of them. -/
theorem holds (h : Keeps v P K) {z : α} (hz : ∀ i, z < v i) (u : Fin 32768 → α)
    (hu : ∀ q, u q = ((K (q.val / 4096))[q.val % 4096]?).elim z fun n => v (place (q.val / 4096) n)) : Holds v u (held K) where
  value q i hq := by
    unfold held at hq
    rw [hu]
    cases hk : (K (q.val / 4096))[q.val % 4096]? with
    | none => rw [hk] at hq; cases hq
    | some n => rw [hk] at hq; cases hq; rfl
  filler q i hq := by
    unfold held at hq
    rw [hu]
    cases hk : (K (q.val / 4096))[q.val % 4096]? with
    | none => exact hz i
    | some n => rw [hk] at hq; cases hq
  order q q' i i' hq hq' hlt := by
    unfold held at hq hq'
    cases hk : (K (q.val / 4096))[q.val % 4096]? with
    | none => rw [hk] at hq; cases hq
    | some n =>
      cases hk' : (K (q'.val / 4096))[q'.val % 4096]? with
      | none => rw [hk'] at hq'; cases hq'
      | some n' =>
        rw [hk] at hq
        rw [hk'] at hq'
        cases hq
        cases hq'
        obtain ⟨l1, g1⟩ := List.getElem?_eq_some_iff.1 hk
        obtain ⟨l2, g2⟩ := List.getElem?_eq_some_iff.1 hk'
        have m1 := ((h.mem _ _).1 (g1 ▸ List.getElem_mem l1)).1
        have m2 := ((h.mem _ _).1 (g2 ▸ List.getElem_mem l2)).1
        have b1 := q.isLt
        have b2 := q'.isLt
        have hlt' : q.val < q'.val := hlt
        show (place (q.val / 4096) n).val < (place (q'.val / 4096) n').val
        rw [place_val (by omega) m1, place_val (by omega) m2]
        by_cases hw : q.val / 4096 = q'.val / 4096
        · have hn : n < n' := by
            have l1' : q.val % 4096 < (K (q'.val / 4096)).length := hw ▸ l1
            have g1' : (K (q'.val / 4096))[q.val % 4096] = n := by rw [← g1]; simp only [hw]
            rw [← g1', ← g2]
            exact List.pairwise_iff_getElem.1 (h.sorted _) _ _ l1' l2 (by omega)
          omega
        · omega

/-- A pixel that no slot holds is not kept by its shard. -/
theorem not_kept (h : Keeps v P K) (i : Fin 2097152) (hi : ∀ q, held K q ≠ some i) : ¬ P (i.val / 262144) (v i) := by
  intro hp
  have hb := i.isLt
  have hm : i.val % 262144 ∈ K (i.val / 262144) := (h.mem _ _).2 ⟨by omega, by rw [place_split]; exact hp⟩
  obtain ⟨p, hpl, hpe⟩ := List.getElem_of_mem hm
  have hroom := h.room (i.val / 262144) (by omega)
  refine hi ⟨i.val / 262144 * 4096 + p, by omega⟩ ?_
  unfold held
  have e1 : (i.val / 262144 * 4096 + p) / 4096 = i.val / 262144 := by omega
  have e2 : (i.val / 262144 * 4096 + p) % 4096 = p := by omega
  simp only [e1, e2, List.getElem?_eq_getElem hpl, hpe, Option.map_some, place_split]

/-- The greatest slots hold the greatest pixels, in the same order. -/
theorem greatest (h : Keeps v P K) {z : α} (hz : ∀ i, z < v i) (u : Fin 32768 → α)
    (hu : ∀ q, u q = ((K (q.val / 4096))[q.val % 4096]?).elim z fun n => v (place (q.val / 4096) n)) (r : Fin 2048) :
    held K (sortedFrom (ahead u) (r.castLE (by decide))) = some (sortedFrom (ahead v) (r.castLE (by decide))) := by
  have hH := holds h hz u hu
  refine sortedFrom_slots hH (by decide) (by decide) ⟨slot 0, slot_injective 0, fun r => ?_⟩ (fun i hi => ?_) r
  · obtain ⟨n, -, e⟩ := held_slot h 0 r
    rw [e]
    exact Option.some_ne_none _
  · have hb := i.isLt
    refine ⟨slot ⟨i.val / 262144, by omega⟩, slot_injective _, fun r => ?_⟩
    obtain ⟨n, hn, e⟩ := held_slot h ⟨i.val / 262144, by omega⟩ r
    refine ⟨by rw [e]; exact Option.some_ne_none _, ?_⟩
    rw [hH.value _ _ e]
    exact h.upper _ _ _ (not_kept h i hi) ((h.mem _ _).1 hn).2

end Cert.Proof
-- ==== Proof.Order.lean ====
/-
  The kernel's threshold over the extended reals: a kept pixel is greater than one that is not kept, and a pixel whose
  bin is at least the threshold is kept.
-/
module

public import proofs.«01_k».proof.Proof.Shard
public import Idealize.ShloMosaic.Lib.WordCmp
public import Idealize.ShloMosaic.Lib.Pointwise.Select
public import Idealize.ShloMosaic.Lib.IdealHost

@[expose] public section

noncomputable section

namespace Cert.Proof

open Idealize.ShloMosaic

theorem word_4096 : (Scalar.ofBits .f32 0x45800000#32 : Ideal .f32) = ((4096 : ℝ) : EReal) := by
  show Ideal.ofBits .f32 0x45800000#32 = _
  simp [Ideal.ofBits, Ideal.ieee, -EReal.coe_mul]
  norm_num

theorem word_neg_one : (Scalar.ofBits .f32 0xBF800000#32 : Ideal .f32) = ((-1 : ℝ) : EReal) := by
  show Ideal.ofBits .f32 0xBF800000#32 = _
  simp [Ideal.ofBits, Ideal.ieee, -EReal.coe_mul]
  norm_num

theorem scaled_eq (v : Ideal .f32) : scaled v = v * ((4096 : ℝ) : EReal) := by
  unfold scaled
  rw [word_4096]
  rfl

theorem scaled_mono {v u : Ideal .f32} (h : (v : EReal) ≤ u) : (scaled v : EReal) ≤ scaled u := by
  rw [scaled_eq, scaled_eq]
  exact mul_le_mul_of_nonneg_right h (EReal.coe_nonneg.2 (by norm_num))

/-- A pixel is kept where 4096 times it is at least the threshold. -/
theorem keep_iff (t : BitVec 32) (v : Ideal .f32) : keepBit t v = 1#1 ↔ ((t.toInt : ℝ) : EReal) ≤ scaled v :=
  Ideal.cmp_oge_eq_one _ _

/-- A kept pixel is greater than one that is not. -/
theorem lt_of_kept (t : BitVec 32) {v u : Ideal .f32} (hv : ¬ keepBit t v = 1#1) (hu : keepBit t u = 1#1) : (v : EReal) < u := by
  rw [keep_iff] at hv hu
  by_contra h
  exact hv (hu.trans (scaled_mono (not_lt.1 h)))

/-- A pixel of bin `t` or above is kept under the threshold `t`. -/
theorem keep_of_bin {v : Ideal .f32} (hv : (0 : EReal) ≤ v) {t : ℕ} (ht : t < 4096) (h : t ≤ (binWord v).toNat) :
    keepBit (BitVec.ofNat 32 t) v = 1#1 := by
  rw [keep_iff, WordCmp.toInt_ofNat_of_lt (by omega)]
  have h0 : (0 : EReal) ≤ scaled v := by
    rw [scaled_eq]
    exact mul_nonneg hv (EReal.coe_nonneg.2 (by norm_num))
  unfold binWord at h
  generalize scaled v = y at h h0 ⊢
  change EReal at y
  induction y using EReal.rec with
  | bot => exact absurd h0 (by simp)
  | top => exact le_top
  | coe r =>
    have hr : (0 : ℝ) ≤ r := EReal.coe_nonneg.1 h0
    have hf : (0 : ℤ) ≤ ⌊r⌋ := Int.floor_nonneg.2 hr
    have hw : FloatOps.fptosi (F := Ideal) (φ := .f32) 32 ((r : ℝ) : EReal) = BitVec.ofInt 32 (min (2147483647 : ℤ) ⌊r⌋) := by
      show BitVec.ofInt 32 (Ideal.toIntClamped _ _ _) = _
      rw [Ideal.toIntClamped_coe, if_pos hr]
      congr 1
      norm_num
      omega
    rw [hw] at h
    have hT : (t : ℤ) ≤ ⌊r⌋ := by
      have hi : (BitVec.ofInt 32 (min (2147483647 : ℤ) ⌊r⌋)).toInt = min (2147483647 : ℤ) ⌊r⌋ := by
        rw [BitVec.toInt_ofInt, Int.bmod_eq_of_le] <;> omega
      unfold IntOp.minsi at h
      split at h
      · have hn := BitVec.toInt_eq_toNat_cond (BitVec.ofInt 32 (min (2147483647 : ℤ) ⌊r⌋))
        split at hn <;> omega
      · rename_i hs
        simp only [BitVec.slt, BitVec.sle, decide_eq_true_eq] at hs
        have h4 : (4095#32 : BitVec 32).toInt = 4095 := by decide
        rw [hi, h4] at hs
        omega
    refine EReal.coe_le_coe_iff.2 ?_
    calc ((t : ℤ) : ℝ) ≤ ((⌊r⌋ : ℤ) : ℝ) := by exact_mod_cast hT
      _ ≤ r := Int.floor_le r

end Cert.Proof
-- ==== Proof.Take.lean ====
/-
  The program's two host operations on the slots, read at one place: the greatest values with their slots, and the
  positions at given slots.
-/
module

public import proofs.«01_k».proof.Proof.Host
public import proofs.«01_k».proof.Proof.Select
public import Idealize.ShloMosaic.Lib.ReduceAll
public import Idealize.ShloMosaic.Lib.WordCmp
public import Idealize.ShloMosaic.Lib.ValueIdx

@[expose] public section

noncomputable section

namespace Cert.Proof

open Cert.KernelIdeal Cert.KernelIdeal.Gen
open Idealize.ShloMosaic

/-- Where the look-up along the second axis reads for a start index `k` in range: the same image, place `k`. -/
theorem gather_place {F : FTy → Type} [FloatOps F] (p : Vec F S4x32768 .i32) (idx : Vec F S4x2048x1 .i32) (b : Fin 4) (r : Fin 2048) (k : Fin 32768)
    (h : idx (ix3 b r 0) = BitVec.ofNat 32 k.val) :
    Host.gather gather_S4x32768_S4x2048x1_S4x2048_n_1_0_0_1_2_11 p idx (ix2 b r) = p (ix2 b k) := by
  unfold Host.gather
  refine congrArg p (funext fun a => ?_)
  match a with
  | ⟨0, _⟩ =>
    refine Fin.ext ?_
    show gather_S4x32768_S4x2048x1_S4x2048_n_1_0_0_1_2_11.start _ idx 0 + gather_S4x32768_S4x2048x1_S4x2048_n_1_0_0_1_2_11.batchCoord _ 0
      + gather_S4x32768_S4x2048x1_S4x2048_n_1_0_0_1_2_11.offCoord _ 0 = b.val
    rw [GatherDims.start_batching _ _ _ _ (List.mem_singleton.2 rfl),
      GatherDims.offCoord_eq_zero _ _ _ (fun h => ((GatherDims.mem_sKept _ _).1 h).2 (List.mem_singleton.2 rfl))]
    have h0 : (0 : Fin S4x32768.rank) ∈ gather_S4x32768_S4x2048x1_S4x2048_n_1_0_0_1_2_11.operandBatchingDims := List.mem_singleton.2 rfl
    unfold GatherDims.batchCoord
    rw [dif_pos h0, Nat.zero_add, Nat.add_zero]
    rfl
  | ⟨1, _⟩ =>
    refine Fin.ext ?_
    show gather_S4x32768_S4x2048x1_S4x2048_n_1_0_0_1_2_11.start _ idx 1 + gather_S4x32768_S4x2048x1_S4x2048_n_1_0_0_1_2_11.batchCoord _ 1
      + gather_S4x32768_S4x2048x1_S4x2048_n_1_0_0_1_2_11.offCoord _ 1 = k.val
    have hc : (1 : Fin S4x32768.rank) ∈ gather_S4x32768_S4x2048x1_S4x2048_n_1_0_0_1_2_11.collapsedSliceDims := List.mem_singleton.2 rfl
    have hb : (1 : Fin S4x32768.rank) ∉ gather_S4x32768_S4x2048x1_S4x2048_n_1_0_0_1_2_11.operandBatchingDims := fun h =>
      absurd (List.mem_singleton.1 h) (by decide)
    rw [GatherDims.batchCoord_eq_zero _ _ _ hb, GatherDims.offCoord_eq_zero _ _ _ (fun h => ((GatherDims.mem_sKept _ _).1 h).1 hc)]
    have h1 : (1 : Fin S4x32768.rank) ∈ gather_S4x32768_S4x2048x1_S4x2048_n_1_0_0_1_2_11.startIndexMap := List.mem_singleton.2 rfl
    unfold GatherDims.start
    rw [dif_pos h1]
    have e : ∀ c, gather_S4x32768_S4x2048x1_S4x2048_n_1_0_0_1_2_11.siIdx (ix2 b r) c = ix3 b r 0 := by
      intro c
      funext e
      match e with
      | ⟨0, _⟩ => rfl
      | ⟨1, _⟩ => rfl
      | ⟨2, _⟩ => exact Subsingleton.elim (α := Fin 1) _ _
    rw [e, h]
    have hk := k.isLt
    show min (BitVec.ofNat 32 k.val).toInt.toNat (32768 - 1) = k.val
    rw [WordCmp.toInt_ofNat_of_lt (by omega)]
    omega

/-- The look-up, where every slot is in range, is the position in the slot. -/
theorem takeAlong_apply {F : FTy → Type} [FloatOps F] (p : Vec F S4x32768 .i32) (idx : Vec F S4x2048 .i32) (k : Fin 4 → Fin 2048 → Fin 32768)
    (h : ∀ b r, idx (ix2 b r) = BitVec.ofNat 32 (k b r).val) (b : Fin 4) (r : Fin 2048) :
    takeAlong (F := F) p idx (ix2 b r) = p (ix2 b (k b r)) := by
  have hl : ∀ b r, lookup (F := F) idx (ix3 b r 0) = BitVec.ofNat 32 (k b r).val := by
    intro b r
    have hk := (k b r).isLt
    unfold lookup
    rw [shapeCast_apply _ _ _ (ix2 b r) (by
      rw [Shape.rowMajor_val_two, Shape.rowMajor_val_three]
      show b.val * 2048 + r.val = (b.val * 2048 + r.val) * 1 + 0
      omega)]
    show (if IntOp.cmpi .slt (idx (ix2 b r)) (BitVec.ofNat 32 0) = 1#1 then _ else idx (ix2 b r)) = _
    rw [h, if_neg]
    rw [WordCmp.cmpi_slt_ofNat_eq_one_iff (by omega) (by omega)]
    omega
  have hw : within (F := F) (lookup (F := F) idx) (ix2 b r) = 1#1 := by
    unfold within
    refine Host.reduce_andi_one _ _ _ _ _ rfl fun i => ?_
    obtain ⟨b', r', rfl⟩ : ∃ b' r', i = ix3 b' r' 0 := ⟨i 0, i 1, by
      rw [eq_ix3 i]
      refine congrArg (ix3 (i 0) (i 1)) (Subsingleton.elim (α := Fin 1) _ _)⟩
    have hk := (k b' r').isLt
    refine IntOp.andi_eq_one.2 ⟨?_, ?_⟩
    · show IntOp.cmpi .sge (lookup (F := F) idx (ix3 b' r' 0)) (BitVec.ofNat 32 0) = 1#1
      rw [hl, WordCmp.cmpi_sge_ofNat_eq_one_iff (by omega) (by omega)]
      omega
    · show IntOp.cmpi .sle (lookup (F := F) idx (ix3 b' r' 0)) (BitVec.ofNat 32 32767) = 1#1
      rw [hl, WordCmp.cmpi_sle_ofNat_eq_one_iff (by omega) (by omega)]
      omega
  unfold takeAlong select Scalar.select
  rw [if_pos (show _ = (1 : BitVec 1) from hw)]
  exact gather_place p _ b r (k b r) (hl b r)

theorem along_row {n : ℕ} (b : Fin 4) (c k : Fin n) : Shape.Idx.along (s := ⟨2, ![4, n]⟩) (ix2 b c) 1 k = ix2 b k := by
  funext a
  match a with
  | ⟨0, _⟩ => rfl
  | ⟨1, _⟩ => rfl

/-- Two arrays sorted together along their rows, read at one place. -/
theorem sort2_row {α β : Type} {n : ℕ} (cmp : α × β → α × β → BitVec 1) (x : (⟨2, ![4, n]⟩ : Shape).Idx → α) (y : (⟨2, ![4, n]⟩ : Shape).Idx → β)
    (b : Fin 4) (c : Fin n) (R : Fin n → Fin n → Bool) (hR : ∀ k k', (cmp (x (ix2 b k), y (ix2 b k)) (x (ix2 b k'), y (ix2 b k')) == 1#1) = R k k') :
    (Host.sort2 ⟨2, ![4, n]⟩ 1 cmp x y).1 (ix2 b c) = x (ix2 b (sortedFrom R c))
      ∧ (Host.sort2 ⟨2, ![4, n]⟩ 1 cmp x y).2 (ix2 b c) = y (ix2 b (sortedFrom R c)) := by
  have e : (fun k k' : Fin n => cmp (x (Shape.Idx.along (s := ⟨2, ![4, n]⟩) (ix2 b c) 1 k), y (Shape.Idx.along (s := ⟨2, ![4, n]⟩) (ix2 b c) 1 k))
      (x (Shape.Idx.along (s := ⟨2, ![4, n]⟩) (ix2 b c) 1 k'), y (Shape.Idx.along (s := ⟨2, ![4, n]⟩) (ix2 b c) 1 k')) == 1#1) = R := by
    funext k k'
    rw [along_row, along_row]
    exact hR k k'
  have hs : Host.sort2 ⟨2, ![4, n]⟩ 1 cmp x y = (fun j => x (j.along 1 (sortedFrom (fun k k' => cmp (x (j.along 1 k), y (j.along 1 k)) (x (j.along 1 k'), y (j.along 1 k')) == 1#1) (j 1))),
      fun j => y (j.along 1 (sortedFrom (fun k k' => cmp (x (j.along 1 k), y (j.along 1 k)) (x (j.along 1 k'), y (j.along 1 k')) == 1#1) (j 1)))) := rfl
  rw [hs]
  constructor
  · exact (congrArg (fun R' : Fin n → Fin n → Bool => x (Shape.Idx.along (s := ⟨2, ![4, n]⟩) (ix2 b c) 1 (sortedFrom R' c))) e).trans
      (congrArg x (along_row b c _))
  · exact (congrArg (fun R' : Fin n → Fin n → Bool => y (Shape.Idx.along (s := ⟨2, ![4, n]⟩) (ix2 b c) 1 (sortedFrom R' c))) e).trans
      (congrArg y (along_row b c _))

/-- The `m` greatest values of each image, and where they stand, from the stable order by descending value. -/
theorem topK_first {m n : ℕ} (x : (⟨2, ![4, n]⟩ : Shape).Idx → EReal) (h : (⟨2, ![4, n]⟩ : Shape).Slices (fun _ => 0) ⟨2, ![4, m]⟩) (hn : m ≤ n)
    (b : Fin 4) (r : Fin m) :
    (Host.topK ⟨2, ![4, m]⟩ 1 (FloatOps.cmpfTotal (F := Ideal) (φ := .f32) .gt) x h).1 (ix2 b r) = x (ix2 b (sortedFrom (ahead fun k => x (ix2 b k)) (r.castLE hn)))
      ∧ (Host.topK ⟨2, ![4, m]⟩ 1 (FloatOps.cmpfTotal (F := Ideal) (φ := .f32) .gt) x h).2 (ix2 b r)
        = BitVec.ofNat 32 (sortedFrom (ahead fun k => x (ix2 b k)) (r.castLE hn)).val := by
  have hR : ∀ k k' : Fin n, (FloatOps.cmpfTotal (F := Ideal) (φ := .f32) .gt (x (ix2 b k)) (x (ix2 b k')) == 1#1) = decide (x (ix2 b k') < x (ix2 b k)) := by
    intro k k'
    show (Ideal.cmp .ogt (x (ix2 b k)) (x (ix2 b k')) == 1#1) = _
    unfold Ideal.cmp
    by_cases hlt : x (ix2 b k') < x (ix2 b k) <;> simp [hlt]
  have hs := sort2_row (fun l r => FloatOps.cmpfTotal (F := Ideal) (φ := .f32) .gt l.1 r.1) x
    (fun i : (⟨2, ![4, n]⟩ : Shape).Idx => if hd : 1 < (⟨2, ![4, n]⟩ : Shape).rank then iotaInDim ⟨2, ![4, n]⟩ 32 ⟨1, hd⟩ i else 0#32)
    b (r.castLE hn) _ hR
  have hi : (fun a => ⟨0 + ((ix2 b r : (⟨2, ![4, m]⟩ : Shape).Idx) (Fin.cast h.1.symm a)).val, Nat.lt_of_lt_of_le (Nat.add_lt_add_left (Fin.isLt _) _) (h.2 a)⟩ : (⟨2, ![4, n]⟩ : Shape).Idx)
      = ix2 b (r.castLE hn) := by
    funext a
    match a with
    | ⟨0, _⟩ => exact Fin.ext (Nat.zero_add _)
    | ⟨1, _⟩ => exact Fin.ext (Nat.zero_add _)
  rw [← sortedFrom_value]
  constructor
  · exact (congrArg (Host.sort2 ⟨2, ![4, n]⟩ 1 _ x _).1 hi).trans hs.1
  · exact (congrArg (Host.sort2 ⟨2, ![4, n]⟩ 1 _ x _).2 hi).trans hs.2

/-- The same for the 2048 greatest values. -/
theorem topK_apply {n : ℕ} (x : (⟨2, ![4, n]⟩ : Shape).Idx → EReal) (h : (⟨2, ![4, n]⟩ : Shape).Slices (fun _ => 0) S4x2048) (hn : 2048 ≤ n)
    (b : Fin 4) (r : Fin 2048) :
    (Host.topK S4x2048 1 (FloatOps.cmpfTotal (F := Ideal) (φ := .f32) .gt) x h).1 (ix2 b r) = x (ix2 b (sortedFrom (ahead fun k => x (ix2 b k)) (r.castLE hn)))
      ∧ (Host.topK S4x2048 1 (FloatOps.cmpfTotal (F := Ideal) (φ := .f32) .gt) x h).2 (ix2 b r)
        = BitVec.ofNat 32 (sortedFrom (ahead fun k => x (ix2 b k)) (r.castLE hn)).val :=
  topK_first x h hn b r

end Cert.Proof
-- ==== Proof.Algebraic.lean ====
/-
  The value of the kernel over the extended reals: its two results are the 2048 greatest pixels of each image and their
  positions, as the reference takes them from the whole image.
-/
module

public import proofs.«01_k».proof.Proof.Frames
public import proofs.«01_k».proof.Proof.Slots
public import proofs.«01_k».proof.Proof.Order
public import proofs.«01_k».proof.Proof.Take

@[expose] public section

noncomputable section

namespace Cert.Proof

open Cert.KernelIdeal Cert.KernelIdeal.Gen
open Idealize.ShloMosaic Idealize.SL.Sem

/-- The pixels of image `b` in order. -/
def pixelsOf (x : Vec Ideal S4x2097152 .f32) (b : Fin 4) (k : Fin 2097152) : EReal := x (ix2 b k)

theorem pixel_place (x : Vec Ideal S4x2097152 .f32) (b : Fin 4) (w n : ℕ) : pixel x b w n = pixelsOf x b (place w n) := by
  unfold pixel pixelsOf
  refine congrArg x (funext fun a => ?_)
  match a with
  | ⟨0, _⟩ => rfl
  | ⟨1, _⟩ => rfl

/-- The threshold of shard `w` of image `b`. -/
def bound (x : Vec Ideal S4x2097152 .f32) (b : Fin 4) (w : ℕ) : BitVec 32 := levelWord (pixel x b w)

/-- The kept pixels of shard `w` of image `b`. -/
def keptOf (x : Vec Ideal S4x2097152 .f32) (b : Fin 4) (w : ℕ) : List ℕ := kept (pixel x b w) (bound x b w) shardSize

theorem outVals_held (x : Vec Ideal S4x2097152 .f32) (b : Fin 4) (q : Fin 32768) :
    outVals x (ix2 b q) = ((keptOf x b (q.val / 4096))[q.val % 4096]?).elim ((-1 : ℝ) : EReal) fun n => pixelsOf x b (place (q.val / 4096) n) := by
  have e : outVals x (ix2 b q) = ((keptOf x b (q.val / 4096))[q.val % 4096]?).elim (Scalar.ofBits .f32 0xBF800000#32) (pixel x b (q.val / 4096)) := rfl
  have hp : pixel x b (q.val / 4096) = fun n => pixelsOf x b (place (q.val / 4096) n) := funext fun n => pixel_place x b _ n
  rw [e, word_neg_one, hp]

/-- The position in slot `q`, where it holds a pixel. -/
theorem outIdxs_held (x : Vec Ideal S4x2097152 .f32) (b : Fin 4) (q : Fin 32768) (i : Fin 2097152) (h : held (keptOf x b) q = some i) :
    outIdxs x (ix2 b q) = BitVec.ofNat 32 i.val := by
  have e : outIdxs x (ix2 b q) = ((keptOf x b (q.val / 4096))[q.val % 4096]?).elim 0#32 fun n => BitVec.ofNat 32 (q.val / 4096 * shardSize + n) := rfl
  rw [e]
  unfold held at h
  cases hk : (keptOf x b (q.val / 4096))[q.val % 4096]? with
  | none => rw [hk] at h; cases h
  | some n =>
    rw [hk] at h
    cases h
    obtain ⟨hl, hn⟩ := List.getElem?_eq_some_iff.1 hk
    have hm : n ∈ kept (pixel x b (q.val / 4096)) (bound x b (q.val / 4096)) shardSize := hn ▸ List.getElem_mem hl
    unfold kept at hm
    have hlt : n < 262144 := List.mem_range.1 (List.mem_filter.1 hm).1
    have hq := q.isLt
    show BitVec.ofNat 32 (q.val / 4096 * shardSize + n) = BitVec.ofNat 32 (place (q.val / 4096) n).val
    rw [place_val (by omega) hlt]

/-- A shard of pixels that are at least zero keeps at least 2048. -/
theorem many_kept (px : ℕ → Ideal .f32) (h0 : ∀ n, (0 : EReal) ≤ px n) : 2048 ≤ (kept px (levelWord px) shardSize).length := by
  rw [length_kept_count]
  have h1 := above_level px
  have h2 := level_le px
  unfold levelWord
  unfold above at h1
  generalize level px = g at h1 h2 ⊢
  refine h1.trans (Nat.count_mono_left fun n _ hn => ?_)
  exact keep_of_bin (t := 16 * g) (h0 n) (by omega) hn

/-- The grid coordinates of the tile for shard `w` of image `b`. -/
theorem tilePx_of (x : Vec Ideal S4x2097152 .f32) (b : Fin 4) (w : ℕ) (hw : w < 8) : ∃ L : grid0.Coords, tilePx x L = pixel x b w := by
  have hb := b.isLt
  have e := wid_coords ⟨(b.val * 8 + w) / 16, by omega⟩ ⟨(b.val * 8 + w) % 16, by omega⟩
  refine ⟨coords ⟨(b.val * 8 + w) / 16, by omega⟩ ⟨(b.val * 8 + w) % 16, by omega⟩, ?_⟩
  generalize coords ⟨(b.val * 8 + w) / 16, by omega⟩ ⟨(b.val * 8 + w) % 16, by omega⟩ = L at e ⊢
  simp only at e
  have e1 : image L = b := Fin.ext (by show wid L / 8 = b.val; omega)
  have e2 : shard L = w := by show wid L % 8 = w; omega
  funext n
  unfold tilePx
  rw [e1, e2]

theorem mem_keptOf (x : Vec Ideal S4x2097152 .f32) (b : Fin 4) (w n : ℕ) :
    n ∈ keptOf x b w ↔ n < 262144 ∧ keepBit (F := Ideal) (bound x b w) (pixelsOf x b (place w n)) = 1#1 := by
  rw [← pixel_place]
  unfold keptOf
  generalize bound x b w = t
  unfold kept
  rw [List.mem_filter, List.mem_range, decide_eq_true_eq]

theorem keptOf_sorted (x : Vec Ideal S4x2097152 .f32) (b : Fin 4) (w : ℕ) : (keptOf x b w).Pairwise (· < ·) := by
  unfold keptOf
  generalize bound x b w = t
  unfold kept
  exact List.pairwise_lt_range.filter _

theorem keptOf_many (x : Vec Ideal S4x2097152 .f32) (h0 : ∀ i, (0 : EReal) ≤ x i) (b : Fin 4) (w : ℕ) : 2048 ≤ (keptOf x b w).length := by
  unfold keptOf bound
  exact many_kept _ fun n => h0 _

theorem keptOf_room (x : Vec Ideal S4x2097152 .f32) (hf : ∀ L : grid0.Coords, Fits (tilePx x L)) (b : Fin 4) (w : ℕ) (hw : w < 8) :
    (keptOf x b w).length < 4096 := by
  obtain ⟨L, hL⟩ := tilePx_of x b w hw
  have := (hf L).room
  rw [hL] at this
  unfold keptOf bound levelWord
  exact this

/-- What the kept lists of an image are. -/
theorem keeps (x : Vec Ideal S4x2097152 .f32) (h0 : ∀ i, (0 : EReal) ≤ x i) (hf : ∀ L : grid0.Coords, Fits (tilePx x L)) (b : Fin 4) :
    Keeps (pixelsOf x b) (fun w a => keepBit (F := Ideal) (bound x b w) a = 1#1) (keptOf x b) where
  upper w a c ha hc := lt_of_kept _ ha hc
  sorted w := keptOf_sorted x b w
  mem w n := mem_keptOf x b w n
  many w _ := keptOf_many x h0 b w
  room w hw := keptOf_room x hf b w hw

/-- Where the `r`-th greatest pixel of image `b` lies, and in which slot the kernel has it. -/
def pixelRank (x : Vec Ideal S4x2097152 .f32) (b : Fin 4) (r : Fin 2048) : Fin 2097152 :=
  sortedFrom (ahead (pixelsOf x b)) (r.castLE (by decide))
def slotRank (x : Vec Ideal S4x2097152 .f32) (b : Fin 4) (r : Fin 2048) : Fin 32768 :=
  sortedFrom (ahead fun q => (outVals x (ix2 b q) : EReal)) (r.castLE (by decide))

theorem held_rank (x : Vec Ideal S4x2097152 .f32) (h0 : ∀ i, (0 : EReal) ≤ x i) (hf : ∀ L : grid0.Coords, Fits (tilePx x L)) (b : Fin 4) (r : Fin 2048) :
    held (keptOf x b) (slotRank x b r) = some (pixelRank x b r) :=
  greatest (keeps x h0 hf b) (fun _ => lt_of_lt_of_le (EReal.coe_lt_coe_iff.2 (by norm_num)) (h0 _)) _ (outVals_held x b) r

theorem value_rank (x : Vec Ideal S4x2097152 .f32) (h0 : ∀ i, (0 : EReal) ≤ x i) (hf : ∀ L : grid0.Coords, Fits (tilePx x L)) (b : Fin 4) (r : Fin 2048) :
    (outVals x (ix2 b (slotRank x b r)) : EReal) = x (ix2 b (pixelRank x b r)) :=
  (holds (keeps x h0 hf b) (fun _ => lt_of_lt_of_le (EReal.coe_lt_coe_iff.2 (by norm_num)) (h0 _)) _ (outVals_held x b)).value _ _
    (held_rank x h0 hf b r)

theorem best_apply (x : Vec Ideal S4x2097152 .f32) (b : Fin 4) (r : Fin 2048) :
    (best (outVals x)).1 (ix2 b r) = outVals x (ix2 b (slotRank x b r))
      ∧ (best (outVals x)).2 (ix2 b r) = BitVec.ofNat 32 (slotRank x b r).val :=
  topK_apply (outVals x) sliceFits_S4x32768_S4x2048 (by decide) b r

theorem whole_apply (x : Vec Ideal S4x2097152 .f32) (h : S4x2097152.Slices (fun _ => 0) S4x2048) (b : Fin 4) (r : Fin 2048) :
    (Host.topK S4x2048 1 (FloatOps.cmpfTotal (F := Ideal) (φ := .f32) .gt) x h).1 (ix2 b r) = x (ix2 b (pixelRank x b r))
      ∧ (Host.topK S4x2048 1 (FloatOps.cmpfTotal (F := Ideal) (φ := .f32) .gt) x h).2 (ix2 b r) = BitVec.ofNat 32 (pixelRank x b r).val :=
  topK_apply x h (by decide) b r

theorem ix2_eta (j : S4x2048.Idx) : ∃ (b : Fin 4) (r : Fin 2048), j = ix2 b r := by
  refine ⟨j 0, j 1, funext fun a => ?_⟩
  match a with
  | ⟨0, _⟩ => rfl
  | ⟨1, _⟩ => rfl

/-- The greatest slots of the kernel and the greatest pixels of the image are the same, in values and in positions. -/
theorem best_eq (x : Vec Ideal S4x2097152 .f32) (h0 : ∀ i, (0 : EReal) ≤ x i) (hf : ∀ L : grid0.Coords, Fits (tilePx x L))
    (h : S4x2097152.Slices (fun _ => 0) S4x2048) :
    (best (outVals x)).1 = (Host.topK S4x2048 1 (FloatOps.cmpfTotal (F := Ideal) (φ := .f32) .gt) x h).1
      ∧ takeAlong (F := Ideal) (outIdxs x) (best (outVals x)).2 = (Host.topK S4x2048 1 (FloatOps.cmpfTotal (F := Ideal) (φ := .f32) .gt) x h).2 := by
  constructor
  · funext j
    obtain ⟨b, r, rfl⟩ := ix2_eta j
    rw [(best_apply x b r).1, (whole_apply x h b r).1]
    exact value_rank x h0 hf _ _
  · funext j
    obtain ⟨b, r, rfl⟩ := ix2_eta j
    rw [(whole_apply x h b r).2,
      takeAlong_apply (F := Ideal) (outIdxs x) _ (slotRank x) (fun b r => (best_apply x b r).2)]
    exact outIdxs_held x _ _ _ (held_rank x h0 hf _ _)

/-- The reference's product of the pixels and a mask of ones is the pixels. -/
theorem masked_eq {x mask : Vec Ideal S4x1x1024x2048 .f32} (h : Cert.Pre_fits_unmasked.fn (F := Ideal) x mask = fun _ => 1#1)
    (h1 : S4x1x1024x2048.ShapeCasts S4x1024x2048) (h2 : S4x1024x2048.ShapeCasts S4x2097152) :
    (shapeCast S4x2097152 (mulf (F := Ideal) (φ := .f32) (shapeCast S4x1024x2048 x h1) (shapeCast S4x1024x2048 mask h1)) h2 : Vec Ideal S4x2097152 .f32) = flat x := by
  have e : mask = fun _ => (1 : EReal) := by
    funext i
    have := (Ideal.cmp_oeq_eq_one _ _).1 (mask_of_unmasked h i)
    exact this.trans Ideal.ofBits_one_f32
  subst e
  funext i
  exact mul_one _

/-- The kernel and the reference compute the same values and positions. -/
theorem algebraic : Cert.algebraic_KernelIdeal_ReferenceIdeal_pre_fits_unmasked := by
  intro m g m' g' hpre hargs
  refine ⟨fun c => (best (outVals (pixels m c))).1, fun c => takeAlong (F := Ideal) (outIdxs (pixels m c)) (best (outVals (pixels m c))).2, ?_, ?_⟩
  · exact (θ_run Cert.KernelIdeal.defs _ _).mono (fun _ hr c => hr.1 c) (run_ideal m g fun c => pre_of_unmasked (hpre c))
  · refine (θ_run Cert.ReferenceIdeal.defs _ _).mono (fun r hr c => ?_) (Cert.ReferenceIdeal.Value.run (F := Ideal) m' g')
    obtain ⟨r1, r2, r3, r4⟩ := hr c
    have hf : ∀ L : grid0.Coords, Fits (tilePx (pixels m c) L) := fun L => fits_of_pre (fun _ => rfl) (pre_of_unmasked (hpre c)) L
    have h0 : ∀ i, (0 : EReal) ≤ pixels m c i := fun i => by
      have := (Ideal.cmp_oge_eq_one _ _).1 (nonneg_of_unmasked (hpre c) (Shape.reshapeEquiv shapeCasts_S4x1x1024x2048_S4x1024x2048 (Shape.reshapeEquiv shapeCasts_S4x1024x2048_S4x2097152 i)))
      exact Ideal.ofBits_zero_f32.symm.le.trans this
    have e := masked_eq (hpre c) shapeCasts_S4x1x1024x2048_S4x1024x2048 shapeCasts_S4x1024x2048_S4x2097152
    rw [(hargs c).1, (hargs c).2] at r1 r2
    have hb := best_eq (pixels m c) h0 hf
    exact ⟨r1.trans ((congrArg (fun y => (Host.topK S4x2048 1 (FloatOps.cmpfTotal (F := Ideal) (φ := .f32) .gt) y _).1) e).trans (hb _).1.symm),
      r2.trans ((congrArg (fun y => (Host.topK S4x2048 1 (FloatOps.cmpfTotal (F := Ideal) (φ := .f32) .gt) y _).2) e).trans (hb _).2.symm), r3, r4⟩

end Cert.Proof
-- ==== Proof.Nms.Greedy.lean ====
/-
  Greedy suppression over places in order: a place is kept when it is a candidate and no kept place before it is near it.
  Two ways to it — the pass over the places one after another, and rounds that settle many places at once — and that both
  end at the same set.
-/
module

public import Mathlib.Data.Fintype.Card
public import Mathlib.Data.Finset.Max
public import Mathlib.Data.Fintype.Sets

@[expose] public section

namespace Cert.Proof.Nms

variable {n : ℕ}

/-- The set `G` is the greedy choice among the candidates `valid`, `near i j` saying that a kept `i` suppresses a later `j`. -/
def Greedy (valid : Fin n → Prop) (near : Fin n → Fin n → Prop) (G : Fin n → Prop) : Prop :=
  ∀ j, G j ↔ valid j ∧ ∀ i, i < j → ¬ (G i ∧ near i j)

/-- There is one greedy choice. -/
theorem Greedy.unique {valid : Fin n → Prop} {near : Fin n → Fin n → Prop} {G G' : Fin n → Prop} (h : Greedy valid near G)
    (h' : Greedy valid near G') (j : Fin n) : G j ↔ G' j := by
  induction hj : j.val using Nat.strong_induction_on generalizing j with
  | _ k ih =>
    subst hj
    rw [h j, h' j]
    refine and_congr_right fun _ => forall_congr' fun i => ?_
    refine ⟨fun f hi => ?_, fun f hi => ?_⟩
    · rw [← ih i.val hi i rfl]; exact f hi
    · rw [ih i.val hi i rfl]; exact f hi

/-! ### The pass -/

/-- The pass: before the first place every candidate stands; place `i`, if it still stands, drops the later ones near it. -/
def pass (valid : Fin n → Prop) (near : Fin n → Fin n → Prop) : ℕ → Fin n → Prop
  | 0, j => valid j
  | k + 1, j => pass valid near k j ∧ ∀ i : Fin n, i.val = k → ¬ (pass valid near k i ∧ near i j ∧ i < j)

/-- Whether place `i` stands does not change once its own turn has come. -/
theorem pass_settled (valid : Fin n → Prop) (near : Fin n → Fin n → Prop) (i : Fin n) :
    ∀ k, i.val ≤ k → (pass valid near k i ↔ pass valid near i.val i) := by
  intro k hk
  induction k, hk using Nat.le_induction with
  | base => exact Iff.rfl
  | succ k hk ih =>
    rw [← ih]
    refine ⟨fun h => h.1, fun h => ⟨h, fun i' hi' ⟨_, _, hlt⟩ => ?_⟩⟩
    have := Fin.lt_def.1 hlt
    omega

/-- What stands before turn `k`: the candidates that no settled place below `k` drops. -/
theorem pass_iff (valid : Fin n → Prop) (near : Fin n → Fin n → Prop) (k : ℕ) (j : Fin n) :
    pass valid near k j ↔ valid j ∧ ∀ i : Fin n, i.val < k → i < j → ¬ (pass valid near i.val i ∧ near i j) := by
  induction k with
  | zero => exact ⟨fun h => ⟨h, fun i hi => absurd hi (Nat.not_lt_zero _)⟩, fun h => h.1⟩
  | succ k ih =>
    show (pass valid near k j ∧ _) ↔ _
    rw [ih]
    constructor
    · rintro ⟨⟨hv, h⟩, h'⟩
      refine ⟨hv, fun i hi hij ⟨hp, hn⟩ => ?_⟩
      rcases Nat.lt_succ_iff_lt_or_eq.1 hi with hlt | heq
      · exact h i hlt hij ⟨hp, hn⟩
      · exact h' i heq ⟨heq ▸ hp, hn, hij⟩
    · rintro ⟨hv, h⟩
      refine ⟨⟨hv, fun i hi => h i (by omega)⟩, fun i hi ⟨hp, hn, hij⟩ => h i (by omega) hij ⟨?_, hn⟩⟩
      rw [hi]; exact hp

/-- The whole pass ends at the greedy choice. -/
theorem pass_greedy (valid : Fin n → Prop) (near : Fin n → Fin n → Prop) : Greedy valid near (pass valid near n) := by
  intro j
  rw [pass_iff]
  refine and_congr_right fun _ => forall_congr' fun i => ?_
  rw [pass_settled valid near i n (le_of_lt i.isLt)]
  exact ⟨fun h => h i.isLt, fun h _ => h⟩

/-! ### The rounds -/

/-- What a round keeps: the open places with no place before them, kept or open, that is near. -/
def freshly (near : Fin n → Fin n → Prop) (K U : Fin n → Prop) (j : Fin n) : Prop :=
  U j ∧ ¬ ∃ i, (K i ∨ U i) ∧ near i j ∧ i < j

/-- What a round drops: the open places with a kept place before them that is near. -/
def dropped (near : Fin n → Fin n → Prop) (K U : Fin n → Prop) (j : Fin n) : Prop :=
  U j ∧ ∃ i, K i ∧ near i j ∧ i < j

/-- One round on the kept and the open places. -/
def turn (near : Fin n → Fin n → Prop) (s : (Fin n → Prop) × (Fin n → Prop)) : (Fin n → Prop) × (Fin n → Prop) :=
  (fun j => s.1 j ∨ freshly near s.1 s.2 j, fun j => s.2 j ∧ ¬ freshly near s.1 s.2 j ∧ ¬ dropped near s.1 s.2 j)

/-- What the rounds maintain: kept and open places are apart, kept places are chosen, and every chosen place is kept or open. -/
structure Between (valid : Fin n → Prop) (near : Fin n → Fin n → Prop) (G K U : Fin n → Prop) : Prop where
  /-- No place is both. -/
  apart : ∀ j, ¬ (K j ∧ U j)
  /-- Only candidates. -/
  candidate : ∀ j, U j → valid j
  /-- Kept places are in the choice. -/
  chosen : ∀ j, K j → G j
  /-- The choice is among the kept and the open places. -/
  among : ∀ j, G j → K j ∨ U j

variable {valid : Fin n → Prop} {near : Fin n → Fin n → Prop} {G K U : Fin n → Prop}

theorem freshly_chosen (hG : Greedy valid near G) (h : Between valid near G K U) {j : Fin n} (hj : freshly near K U j) : G j :=
  (hG j).2 ⟨h.candidate j hj.1, fun i hi ⟨hgi, hn⟩ => hj.2 ⟨i, h.among i hgi, hn, hi⟩⟩

theorem dropped_not_chosen (hG : Greedy valid near G) (h : Between valid near G K U) {j : Fin n} (hj : dropped near K U j) : ¬ G j := by
  obtain ⟨_, i, hk, hn, hi⟩ := hj
  exact fun hg => ((hG j).1 hg).2 i hi ⟨h.chosen i hk, hn⟩

/-- A round keeps the invariant. -/
theorem Between.turn (hG : Greedy valid near G) (h : Between valid near G K U) :
    Between valid near G (turn near (K, U)).1 (turn near (K, U)).2 where
  apart j := fun ⟨hk, hu, hf, _⟩ => hk.elim (fun hk => h.apart j ⟨hk, hu⟩) hf
  candidate j hu := h.candidate j hu.1
  chosen j hk := hk.elim (h.chosen j) (freshly_chosen hG h)
  among j hg := by
    by_cases hf : freshly near K U j
    · exact Or.inl (Or.inr hf)
    · exact (h.among j hg).elim (fun hk => Or.inl (Or.inl hk)) fun hu => Or.inr ⟨hu, hf, fun hd => dropped_not_chosen hG h hd hg⟩

/-- A round settles the first open place. -/
theorem exists_settled (K U : Fin n → Prop) {j₀ : Fin n} (h₀ : U j₀) : ∃ j, U j ∧ ¬ (turn near (K, U)).2 j := by
  classical
  have hne : (Finset.univ.filter U).Nonempty := ⟨j₀, by simpa using h₀⟩
  obtain ⟨j, hj⟩ : ∃ j, j = (Finset.univ.filter U).min' hne := ⟨_, rfl⟩
  have hu : U j := by
    have := Finset.min'_mem _ hne
    rw [← hj] at this
    simpa using this
  have hmin : ∀ i ∈ Finset.univ.filter U, j ≤ i := fun i hi => hj ▸ Finset.min'_le _ i hi
  refine ⟨j, hu, fun ⟨_, hf, hd⟩ => ?_⟩
  refine hf ⟨hu, fun ⟨i, hi, hn, hlt⟩ => ?_⟩
  rcases hi with hk | hu'
  · exact hd ⟨hu, i, hk, hn, hlt⟩
  · exact absurd (hmin i (by simpa using hu')) (not_le_of_gt hlt)

open Classical in
/-- The number of open places. -/
noncomputable def openCount (U : Fin n → Prop) : ℕ := (Finset.univ.filter U).card

/-- A round with open places leaves fewer. -/
theorem openCount_turn (K U : Fin n → Prop) {j₀ : Fin n} (h₀ : U j₀) : openCount (turn near (K, U)).2 < openCount U := by
  classical
  obtain ⟨j, hj, hn⟩ := exists_settled (near := near) K U h₀
  refine Finset.card_lt_card ((Finset.ssubset_iff_of_subset fun i hi => ?_).2 ⟨j, by simpa using hj, by simpa using hn⟩)
  simp only [Finset.mem_filter, Finset.mem_univ, true_and] at hi ⊢
  exact hi.1

/-- With nothing open the kept places are the choice. -/
theorem Between.done (h : Between valid near G K U) (hU : ∀ j, ¬ U j) (j : Fin n) : K j ↔ G j :=
  ⟨h.chosen j, fun hg => (h.among j hg).resolve_right (hU j)⟩

/-- The start: nothing kept, every candidate open. -/
theorem Between.start (hG : Greedy valid near G) : Between valid near G (fun _ => False) valid where
  apart _ h := h.1
  candidate _ h := h
  chosen _ h := h.elim
  among j hg := Or.inr ((hG j).1 hg).1

/-- From the start, enough rounds leave nothing open and the choice kept. -/
theorem rounds_end (hG : Greedy valid near G) :
    ∃ t, (∀ j, ¬ ((turn near)^[t] (fun _ => False, valid)).2 j) ∧ (∀ j, ((turn near)^[t] (fun _ => False, valid)).1 j ↔ G j)
      ∧ ∀ s < t, ∃ j, ((turn near)^[s] (fun _ => False, valid)).2 j := by
  have key : ∀ m (K U : Fin n → Prop), openCount U = m → Between valid near G K U →
      ∃ t, (∀ j, ¬ ((turn near)^[t] (K, U)).2 j) ∧ (∀ j, ((turn near)^[t] (K, U)).1 j ↔ G j)
        ∧ ∀ s < t, ∃ j, ((turn near)^[s] (K, U)).2 j := by
    intro m
    induction m using Nat.strong_induction_on with
    | _ m ih =>
      intro K U hm hb
      by_cases hU : ∃ j, U j
      · obtain ⟨j, hj⟩ := hU
        obtain ⟨t, h1, h2, h3⟩ := ih _ (hm ▸ openCount_turn (near := near) K U hj) _ _ rfl (hb.turn hG)
        refine ⟨t + 1, h1, h2, fun s hs => ?_⟩
        cases s with
        | zero => exact ⟨j, hj⟩
        | succ s => exact h3 s (by omega)
      · have hU' : ∀ j, ¬ U j := fun j hj => hU ⟨j, hj⟩
        exact ⟨0, hU', hb.done hU', fun s hs => absurd hs (Nat.not_lt_zero _)⟩
  exact key _ _ _ rfl (Between.start hG)

end Cert.Proof.Nms
-- ==== Proof.Nms.Rounds.lean ====
/-
  The loop of the suppression kernel over the extended reals. It carries two rows, one at the kept places and one at the
  open places, each 1 there and 0 elsewhere, and multiplies them with the matrix that is 1 where a place is near a later
  one. One turn of the loop is one round of the greedy choice.
-/
module

public import proofs.«01_k».proof.Proof.Gen.SelectIdeal.Skeleton
public import proofs.«01_k».proof.Proof.Nms.Greedy
public import Idealize.ShloMosaic.Lib.Pointwise

@[expose] public section

noncomputable section

namespace Cert.Proof.Nms

open Cert.SelectIdeal Cert.SelectIdeal.Gen
open Idealize.ShloMosaic

open Classical in
/-- 1 where `P` holds, 0 elsewhere. -/
def ind (P : Prop) : EReal := if P then 1 else 0

theorem ind_true {P : Prop} (h : P) : ind P = 1 := if_pos h
theorem ind_false {P : Prop} (h : ¬ P) : ind P = 0 := if_neg h
theorem ind_nonneg (P : Prop) : 0 ≤ ind P := by unfold ind; split <;> simp
theorem ind_pos {P : Prop} : 0 < ind P ↔ P := by
  unfold ind; split <;> simp_all
theorem ind_congr {P Q : Prop} (h : P ↔ Q) : ind P = ind Q := congrArg ind (propext h)

theorem one_sub_one : (1 : EReal) - 1 = 0 := EReal.sub_self (by decide) (by decide)

/-- A product of two such numbers. -/
theorem ind_mul (P Q : Prop) : ind P * ind Q = ind (P ∧ Q) := by
  by_cases hp : P <;> by_cases hq : Q <;> simp [ind, hp, hq]

/-- A choice between 1 and 0 is such a number. -/
theorem ite_ind (P : Prop) [Decidable P] : (if P then (1 : EReal) else 0) = ind P := by
  by_cases h : P <;> simp [ind, h]

/-- A sum of such numbers is positive exactly when one of them is. -/
theorem sum_ind_pos {n : ℕ} (P : Fin n → Prop) : 0 < ∑ x, ind (P x) ↔ ∃ x, P x := by
  constructor
  · intro h
    by_contra hn
    have : ∑ x, ind (P x) = 0 := Finset.sum_eq_zero fun x _ => ind_false fun hx => hn ⟨x, hx⟩
    rw [this] at h
    exact lt_irrefl _ h
  · rintro ⟨x, hx⟩
    exact lt_of_lt_of_le (ind_pos.2 hx) (Finset.single_le_sum (f := fun x => ind (P x)) (fun y _ => ind_nonneg _) (Finset.mem_univ x))

theorem sum_ind_eq_zero {n : ℕ} (P : Fin n → Prop) : ∑ x, ind (P x) = 0 ↔ ¬ ∃ x, P x := by
  rw [← sum_ind_pos]
  exact ⟨fun h => by rw [h]; exact lt_irrefl _, fun h => le_antisymm (not_lt.1 h) (Finset.sum_nonneg fun x _ => ind_nonneg _)⟩

/-- The row that is 1 at the places of a set. -/
def row (P : Fin 2048 → Prop) : FVec Ideal S1x2048 .f32 := fun j => ind (P (j 1))

/-- The matrix that is 1 where a relation holds. -/
def mat (A : Fin 2048 → Fin 2048 → Prop) : FVec Ideal S2048x2048 .f32 := fun j => ind (A (j 0) (j 1))

/-- A row is known by its places. -/
theorem row_eq {f : FVec Ideal S1x2048 .f32} {P : Fin 2048 → Prop} (h : ∀ j : Fin 2048, f (ix2 0 j) = ind (P j)) : f = row P := by
  funext j
  obtain ⟨a, b, rfl⟩ : ∃ (a : Fin 1) (b : Fin 2048), j = ix2 a b := ⟨j 0, j 1, ValueIdx.eq_ix2 j⟩
  obtain rfl : a = 0 := Subsingleton.elim _ _
  exact h b

/-- A matrix is known by its entries. -/
theorem mat_eq {f : FVec Ideal S2048x2048 .f32} {A : Fin 2048 → Fin 2048 → Prop} (h : ∀ i j : Fin 2048, f (ix2 i j) = ind (A i j)) : f = mat A := by
  funext j
  obtain ⟨a, b, rfl⟩ : ∃ (a : Fin 2048) (b : Fin 2048), j = ix2 a b := ⟨j 0, j 1, ValueIdx.eq_ix2 j⟩
  exact h a b

theorem row_apply (P : Fin 2048 → Prop) (j : Fin 2048) : row P (ix2 0 j) = ind (P j) := rfl
theorem mat_apply (A : Fin 2048 → Fin 2048 → Prop) (i j : Fin 2048) : mat A (ix2 i j) = ind (A i j) := rfl

variable [Cert.SelectIdeal.Facts]

/-- `near i j` for an earlier `i`: what the matrix holds. -/
def before (near : Fin 2048 → Fin 2048 → Prop) (i j : Fin 2048) : Prop := near i j ∧ i < j

/-- The loop goes on exactly while a place is open. -/
theorem live_iff (U : Fin 2048 → Prop) :
    Scalar.cmpf (F := Ideal) .ogt (k0_pay3 (F := Ideal) (row U)) (Scalar.ofBits .f32 0x00000000#32) = 1#1 ↔ ∃ j, U j := by
  have e : k0_pay3 (F := Ideal) (row U) = ∑ x, ind (U x) := by
    pointwise [k0_pay3, row_apply]
    exact Fin.sum_univ_one _
  rw [e]
  show Ideal.cmp .ogt (∑ x, ind (U x)) (Ideal.ofBits .f32 0x00000000#32) = (1 : BitVec 1) ↔ _
  rw [Ideal.cmp_ogt_eq_one, Ideal.ofBits_zero_f32]
  exact sum_ind_pos U

variable {near : Fin 2048 → Fin 2048 → Prop} {K U : Fin 2048 → Prop}

theorem ind_add (h : ∀ j, ¬ (K j ∧ U j)) (j : Fin 2048) : ind (K j) + ind (U j) = ind (K j ∨ U j) := by
  have := h j
  by_cases hk : K j <;> by_cases hu : U j <;> simp_all [ind]

/-- What one turn adds to the kept row. -/
theorem pay5_row (h : ∀ j, ¬ (K j ∧ U j)) :
    k0_pay5 (F := Ideal) (mat (before near)) (row K) (row U) = row (freshly near K U) := by
  refine row_eq fun j => ?_
  pointwise [k0_pay5, k0_pay4, row_apply, mat_apply]
  have e : ∑ x, (ind (K x) + ind (U x)) * ind (before near x j) = ∑ x, ind ((K x ∨ U x) ∧ near x j ∧ x < j) :=
    Finset.sum_congr rfl fun x _ => by rw [ind_add h, ind_mul]; rfl
  rw [e, ite_ind, ind_mul]
  exact ind_congr (and_congr_right fun _ => sum_ind_eq_zero _)

/-- The kept row after one turn. -/
theorem pay6_row (h : ∀ j, ¬ (K j ∧ U j)) :
    k0_pay6 (F := Ideal) (mat (before near)) (row K) (row U) = row (turn near (K, U)).1 := by
  refine row_eq fun j => ?_
  have e := pay5_row (near := near) h
  pointwise [k0_pay6, e, row_apply]
  have := h j
  show _ = ind (K j ∨ freshly near K U j)
  by_cases hk : K j
  · have hf : ¬ freshly near K U j := fun hf => this ⟨hk, hf.1⟩
    simp [ind, hk, hf]
  · have e2 : ind (K j ∨ freshly near K U j) = ind (freshly near K U j) := ind_congr (by simp [hk])
    rw [e2, ind_false hk, zero_add]

/-- The open row after one turn. -/
theorem pay7_row (h : ∀ j, ¬ (K j ∧ U j)) :
    k0_pay7 (F := Ideal) (mat (before near)) (row K) (row U) = row (turn near (K, U)).2 := by
  refine row_eq fun j => ?_
  have e := pay5_row (near := near) h
  pointwise [k0_pay7, k0_pay4, e, row_apply, mat_apply]
  have e' : ∑ x, ind (K x) * ind (before near x j) = ∑ x, ind (K x ∧ near x j ∧ x < j) :=
    Finset.sum_congr rfl fun x _ => by rw [ind_mul]; rfl
  rw [e', ite_ind, ind_mul]
  have e'' : (U j ∧ 0 < ∑ x, ind (K x ∧ near x j ∧ x < j)) ↔ dropped near K U j := and_congr_right fun _ => sum_ind_pos _
  rw [ind_congr e'']
  show _ = ind (U j ∧ ¬ freshly near K U j ∧ ¬ dropped near K U j)
  by_cases hu : U j
  · by_cases hf : freshly near K U j
    · have hd : ¬ dropped near K U j := fun ⟨_, i, hk, hn⟩ => hf.2 ⟨i, Or.inl hk, hn⟩
      simp [ind, hu, hf, hd, one_sub_one]
    · by_cases hd : dropped near K U j <;> simp [ind, hu, hf, hd, one_sub_one]
  · have hf : ¬ freshly near K U j := fun hf => hu hf.1
    have hd : ¬ dropped near K U j := fun hd => hu hd.1
    simp [ind, hu, hf, hd, one_sub_one]

/-- A turn keeps the two sets apart. -/
theorem turn_apart (h : ∀ j, ¬ (K j ∧ U j)) (j : Fin 2048) : ¬ ((turn near (K, U)).1 j ∧ (turn near (K, U)).2 j) := by
  rintro ⟨hk | hf, hu, hn, -⟩
  · exact h j ⟨hk, hu⟩
  · exact hn hf

/-- Two places are near when the entry of the matrix of squared distances is below 9. -/
def closer (d : FVec Ideal S2048x2048 .f32) (i j : Fin 2048) : Prop := d (ix2 i j) < Ideal.ofBits .f32 1091567616#32

/-- A place takes part when its value is above the threshold. -/
def bright (v : FVec Ideal S1x2048 .f32) (j : Fin 2048) : Prop := Ideal.ofBits .f32 1036831949#32 < v (ix2 0 j)

theorem slt_small (i j : Fin 2048) : (BitVec.ofNat 32 i).slt (BitVec.ofNat 32 j) = decide (i < j) := by
  rw [BitVec.slt_eq_decide, BitVec.toInt_eq_toNat_cond, BitVec.toInt_eq_toNat_cond, BitVec.toNat_ofNat, BitVec.toNat_ofNat]
  have hi := i.isLt
  have hj := j.isLt
  rw [Nat.mod_eq_of_lt (by omega), Nat.mod_eq_of_lt (by omega), if_pos (by omega), if_pos (by omega)]
  exact decide_eq_decide.2 (by rw [Fin.lt_def]; omega)

/-- The matrix the loop reads. -/
theorem pay13_mat (d : FVec Ideal S2048x2048 .f32) :
    k0_pay13 (F := Ideal) d (iota .tc S2048x1 32 [0] iota_S2048x1_d0_w32) = mat (before (closer d)) := by
  refine mat_eq fun i j => ?_
  pointwise [k0_pay13]
  show Scalar.select (IntOp.andi (BitVec.ofBool (decide (d (ix2 i j) < Ideal.ofBits .f32 1091567616#32)))
    (BitVec.ofBool ((BitVec.ofNat 32 i).slt (BitVec.ofNat 32 j)))) 1 0 = ind (d (ix2 i j) < Ideal.ofBits .f32 1091567616#32 ∧ i < j)
  rw [slt_small]
  by_cases h1 : d (ix2 i j) < Ideal.ofBits .f32 1091567616#32 <;> by_cases h2 : i < j <;> simp [h1, h2, ind, Scalar.select, IntOp.andi]

/-- The row the loop starts open. -/
theorem pay14_row (v : FVec Ideal S1x2048 .f32) : k0_pay14 (F := Ideal) v = row (bright v) := by
  refine row_eq fun j => ?_
  pointwise [k0_pay14]
  exact ite_ind _

/-- The row the loop starts with kept: nothing. -/
theorem pay15_row : k0_pay15 (F := Ideal) = row fun _ => False := by
  refine row_eq fun j => ?_
  pointwise [k0_pay15]
  exact (ind_false id).symm

end Cert.Proof.Nms
-- ==== Proof.Nms.Pick.lean ====
/-
  The two ways of listing the kept places, in plain mathematics. One sorts the values with 0 put where a place is not
  kept; the other counts, for each kept place, the kept places up to it. Where the values never rise and the kept ones
  are positive, both list the kept places in the same order.
-/
module

public import proofs.«01_k».proof.Proof.Select
public import proofs.«01_k».proof.Proof.Nms.Rounds

@[expose] public section

noncomputable section

namespace Cert.Proof.Nms

open Idealize.ShloMosaic

/-- As many places come before sorted place `s` as its number says. -/
theorem count_ahead {n : ℕ} (w : Fin n → EReal) (s : Fin n) :
    (Finset.univ.filter fun y => ahead w y (sortedFrom (ahead w) s) = true).card = s.val := by
  have e : (Finset.univ.filter fun y => ahead w y (sortedFrom (ahead w) s) = true) = (Finset.Iio s).image (sortedFrom (ahead w)) := by
    ext y
    simp only [Finset.mem_filter, Finset.mem_univ, true_and, Finset.mem_image, Finset.mem_Iio]
    constructor
    · intro h
      obtain ⟨i, rfl⟩ := sortedFrom_surjective (ahead w) y
      refine ⟨i, ?_, rfl⟩
      rcases lt_trichotomy i s with hi | hi | hi
      · exact hi
      · subst hi
        have := (ahead_total w).asymm _ _ h
        rw [h] at this
        exact absurd this (by decide)
      · rw [sorted_order w hi] at h
        exact absurd h (by decide)
    · rintro ⟨i, hi, rfl⟩
      have hn := sorted_order w hi
      have hne : sortedFrom (ahead w) i ≠ sortedFrom (ahead w) s := fun h => absurd (sortedFrom_injective (ahead w) h) (ne_of_lt hi)
      revert hn hne
      generalize sortedFrom (ahead w) i = a
      generalize sortedFrom (ahead w) s = b
      intro hn hne
      simp only [ahead, Bool.or_eq_false_iff, decide_eq_false_iff_not, Bool.and_eq_false_iff, Bool.or_eq_true, decide_eq_true_eq, Bool.and_eq_true] at hn ⊢
      rcases lt_trichotomy (w a) (w b) with h | h | h
      · exact absurd h hn.1
      · refine Or.inr ⟨h, ?_⟩
        rcases hn.2 with h' | h'
        · exact absurd h.symm h'
        · exact lt_of_le_of_ne (not_lt.1 h') hne
      · exact Or.inl h
  rw [e, Finset.card_image_of_injective _ (sortedFrom_injective (ahead w)), Fin.card_Iio]

variable {n : ℕ} (K : Fin n → Prop) (v : Fin n → EReal)

open Classical in
/-- The values, with 0 where a place is not kept. -/
def zeroed : Fin n → EReal := fun j => if K j then v j else 0

open Classical in
/-- How many places up to `x` are kept. -/
def rank (x : Fin n) : ℕ := (Finset.univ.filter fun y => K y ∧ y ≤ x).card

variable {K v}

theorem zeroed_pos (hp : ∀ j, K j → 0 < v j) (j : Fin n) : 0 < zeroed K v j ↔ K j := by
  unfold zeroed
  by_cases h : K j
  · simp [h, hp j h]
  · simp [h]

theorem zeroed_kept {j : Fin n} (h : K j) : zeroed K v j = v j := by simp [zeroed, h]

/-- Before a kept place come the earlier kept ones, and no others. -/
theorem ahead_kept (hv : Antitone v) (hp : ∀ j, K j → 0 < v j) {x : Fin n} (hx : K x) (y : Fin n) :
    ahead (zeroed K v) y x = true ↔ K y ∧ y < x := by
  simp only [ahead, Bool.or_eq_true, decide_eq_true_eq, Bool.and_eq_true, zeroed_kept hx]
  have hx0 := hp x hx
  by_cases hy : K y
  · rw [zeroed_kept hy]
    constructor
    · rintro (h | h)
      · exact ⟨hy, lt_of_not_ge fun hxy => absurd (hv hxy) (not_le.2 h)⟩
      · exact ⟨hy, h.2⟩
    · rintro ⟨_, h⟩
      rcases lt_or_eq_of_le (hv h.le) with h' | h'
      · exact Or.inl h'
      · exact Or.inr ⟨h'.symm, h⟩
  · have e : zeroed K v y = 0 := by simp [zeroed, hy]
    rw [e]
    constructor
    · rintro (h | h)
      · exact absurd h (not_lt.2 hx0.le)
      · exact absurd h.1 (ne_of_lt hx0)
    · rintro ⟨h, _⟩
      exact absurd h hy

/-- A kept place's rank is one more than the number of places before it. -/
theorem rank_eq (hv : Antitone v) (hp : ∀ j, K j → 0 < v j) {x : Fin n} (hx : K x) :
    rank K x = (Finset.univ.filter fun y => ahead (zeroed K v) y x = true).card + 1 := by
  classical
  have e : (Finset.univ.filter fun y => K y ∧ y ≤ x) = insert x (Finset.univ.filter fun y => ahead (zeroed K v) y x = true) := by
    ext y
    simp only [Finset.mem_filter, Finset.mem_univ, true_and, Finset.mem_insert, ahead_kept hv hp hx]
    constructor
    · rintro ⟨h, h'⟩
      rcases lt_or_eq_of_le h' with h'' | h''
      · exact Or.inr ⟨h, h''⟩
      · exact Or.inl h''
    · rintro (rfl | ⟨h, h'⟩)
      · exact ⟨hx, le_refl _⟩
      · exact ⟨h, h'.le⟩
  have hn : x ∉ Finset.univ.filter fun y => ahead (zeroed K v) y x = true := by
    simp only [Finset.mem_filter, Finset.mem_univ, true_and, ahead_kept hv hp hx]
    exact fun h => lt_irrefl _ h.2
  unfold rank
  rw [← Finset.card_insert_of_notMem hn, ← e]

/-- The kept place of rank `s + 1` is sorted place `s`. -/
theorem rank_iff (hv : Antitone v) (hp : ∀ j, K j → 0 < v j) {x : Fin n} (hx : K x) (s : Fin n) :
    rank K x = s.val + 1 ↔ x = sortedFrom (ahead (zeroed K v)) s := by
  obtain ⟨i, rfl⟩ := sortedFrom_surjective (ahead (zeroed K v)) x
  rw [rank_eq hv hp hx, count_ahead]
  constructor
  · intro h
    rw [show i = s from Fin.ext (by omega)]
  · intro h
    rw [sortedFrom_injective _ h]

open Classical in
/-- What the places of rank `s + 1` hold together, if they are kept: what sorted place `s` holds, if it is kept. -/
theorem sum_rank (hv : Antitone v) (hp : ∀ j, K j → 0 < v j) (col : Fin n → EReal) (s : Fin n) :
    (∑ x, if rank K x = s.val + 1 ∧ K x then col x else 0)
      = if K (sortedFrom (ahead (zeroed K v)) s) then col (sortedFrom (ahead (zeroed K v)) s) else 0 := by
  by_cases hk : K (sortedFrom (ahead (zeroed K v)) s)
  · rw [if_pos hk, Finset.sum_eq_single (sortedFrom (ahead (zeroed K v)) s)]
    · exact if_pos ⟨(rank_iff hv hp hk s).2 rfl, hk⟩
    · intro x _ hne
      exact if_neg fun h => hne ((rank_iff hv hp h.2 s).1 h.1)
    · exact fun h => absurd (Finset.mem_univ _) h
  · rw [if_neg hk]
    refine Finset.sum_eq_zero fun x _ => if_neg fun h => hk ?_
    rw [← (rank_iff hv hp h.2 s).1 h.1]
    exact h.2

/-- The sum of a row of such numbers up to `x` is the rank. -/
theorem sum_ind_rank (K : Fin n → Prop) (x : Fin n) : ∑ y, ind (K y ∧ y ≤ x) = ((rank K x : ℝ) : EReal) := by
  classical
  have e : ∀ y, ind (K y ∧ y ≤ x) = (((if K y ∧ y ≤ x then 1 else 0 : ℝ)) : EReal) := by
    intro y
    by_cases h : K y ∧ y ≤ x <;> simp [ind, h]
  have hc : ∀ f : Fin n → ℝ, ∑ y, ((f y : ℝ) : EReal) = ((∑ y, f y : ℝ) : EReal) := fun f =>
    (map_sum (⟨⟨fun r : ℝ => (r : EReal), rfl⟩, fun a b => EReal.coe_add a b⟩ : ℝ →+ EReal) f Finset.univ).symm
  simp only [e]
  rw [hc, Finset.sum_boole]
  unfold rank
  congr! 3

/-- The rank less one is `s`: the rank is `s + 1`. -/
theorem rank_sub_one (r s : ℕ) : (((r : ℝ) : EReal) - 1 = ((s : ℝ) : EReal)) ↔ r = s + 1 := by
  rw [← EReal.coe_one, ← EReal.coe_sub, EReal.coe_eq_coe_iff]
  constructor
  · intro h
    have : (r : ℝ) = ((s + 1 : ℕ) : ℝ) := by push_cast; linarith
    exact_mod_cast this
  · intro h
    subst h
    push_cast
    ring

end Cert.Proof.Nms
-- ==== Proof.Nms.Keep.lean ====
/-
  The plain suppression loop: after `k` trips every image's mask of kept candidates is the pass after `k` places.
-/
module

public import proofs.«01_k».proof.Proof.Nms.Greedy
public import proofs.«01_k».proof.Proof.Gen.SelectReferenceIdeal.Run
public import Idealize.ShloMosaic.Lib.Pointwise

@[expose] public section

noncomputable section

namespace Cert.Proof.Nms

open Cert.SelectReferenceIdeal Cert.SelectReferenceIdeal.Gen Cert.SelectReferenceIdeal.Value
open Idealize.ShloMosaic
open Idealize.ShloMosaic.TcCoe Idealize.ShloMosaic.Tactic

variable [Cert.SelectReferenceIdeal.Facts]

/-- One trip's mask, from the distances, the places, the trip's number and the mask before it; the row and the column that
    it reads start at `s2` and `s3`. -/
def trip (d : FVec Ideal S4x2048x2048 .f32) (p : IVec S2048 32) (n : IVec S_ 32) (K : IVec S4x2048 1) (s2 : Fin 2 → ℤ) (s3 : Fin 3 → ℤ) : IVec S4x2048 1 :=
  andi K (noti (andi (andi (broadcastInDim S4x2048 ![0, 1] bcast_S4x1_S4x2048_0_1 (Host.dynamicSlice S4x1 K s2 sliceFits_S4x2048_S4x1))
      (cmpf .olt (shapeCast S4x2048 (Host.dynamicSlice S4x1x2048 d s3 sliceFits_S4x2048x2048_S4x1x2048) shapeCasts_S4x1x2048_S4x2048)
        (broadcastInDim S4x2048 ![] bcast_S_S4x2048 (constant S_ .f32 0x41100000#32))))
    (broadcastInDim S4x2048 ![0, 1] bcast_S1x2048_S4x2048_0_1 (broadcastInDim S1x2048 ![1] bcast_S2048_S1x2048_1 (cmpi .sgt p (broadcastInDim S2048 ![] bcast_S_S2048 n))))))

/-- Where a trip reads: the place of its number, counted from the end where it is negative. -/
def turnOf (n : IVec S_ 32) : IVec S_ 32 := select (cmpi .slt n (constantI S_ 32 0#32)) (addi n (constantI S_ 32 2048#32)) n

theorem step_trip (V : Valuation τ sig (Elt Ideal)) : step_main_v21_4 V
    = trip (V (Proc.devRef .tc main_v21_0)) (V (Proc.devRef .tc main_v21_1)) (V (Proc.devRef .tc main_v21_3)) (V (Proc.devRef .tc main_v21_4))
      (fun k => ((![constantI S_ 32 0#32, turnOf (V (Proc.devRef .tc main_v21_3))] : Fin 2 → IVec S_ 32) k (Shape.Idx.first h_S_)).toInt)
      (fun k => ((![constantI S_ 32 0#32, turnOf (V (Proc.devRef .tc main_v21_3)), constantI S_ 32 0#32] : Fin 3 → IVec S_ 32) k (Shape.Idx.first h_S_)).toInt) := rfl

theorem start_two (k : Fin 2048) : (Host.clampedStart S4x2048 S4x1 rfl ![0, (k.val : ℤ)] 0 = 0)
    ∧ Host.clampedStart S4x2048 S4x1 rfl ![0, (k.val : ℤ)] 1 = k.val := by
  unfold Host.clampedStart
  have hk := k.isLt
  constructor
  · show (min (max (0 : ℤ) 0) ((0 : ℕ) : ℤ)).toNat = 0
    simp
  · show (min (max (k.val : ℤ) 0) ((2047 : ℕ) : ℤ)).toNat = k.val
    omega

theorem start_three (k : Fin 2048) : (Host.clampedStart S4x2048x2048 S4x1x2048 rfl ![0, (k.val : ℤ), 0] 0 = 0)
    ∧ Host.clampedStart S4x2048x2048 S4x1x2048 rfl ![0, (k.val : ℤ), 0] 1 = k.val
    ∧ Host.clampedStart S4x2048x2048 S4x1x2048 rfl ![0, (k.val : ℤ), 0] 2 = 0 := by
  unfold Host.clampedStart
  have hk := k.isLt
  refine ⟨?_, ?_, ?_⟩
  · show (min (max (0 : ℤ) 0) ((0 : ℕ) : ℤ)).toNat = 0
    simp
  · show (min (max (k.val : ℤ) 0) ((2047 : ℕ) : ℤ)).toNat = k.val
    omega
  · show (min (max (0 : ℤ) 0) ((0 : ℕ) : ℤ)).toNat = 0
    simp

open Classical in
/-- The bit of a statement. -/
def flag (P : Prop) : BitVec 1 := BitVec.ofBool (decide P)

theorem flag_decide (P : Prop) [Decidable P] : BitVec.ofBool (decide P) = flag P := by
  unfold flag; congr

theorem flag_congr {P Q : Prop} (h : P ↔ Q) : flag P = flag Q := by rw [propext h]

theorem flag_drop (A B C D : Prop) : IntOp.andi (flag A) (~~~IntOp.andi (IntOp.andi (flag B) (flag C)) (flag D)) = flag (A ∧ ¬ (B ∧ C ∧ D)) := by
  unfold flag IntOp.andi
  by_cases A <;> by_cases B <;> by_cases C <;> by_cases D <;> simp [*]

theorem flag_eq_one (P : Prop) : flag P = (1 : BitVec 1) ↔ P := by
  unfold flag; by_cases P <;> simp [*]

/-- A word's order of small numbers. -/
theorem sgt_small (i j : Fin 2048) : IntOp.cmpi .sgt (BitVec.ofNat 32 j.val) (BitVec.ofNat 32 i.val) = flag (i < j) := by
  have hi := i.isLt
  have hj := j.isLt
  rw [← flag_decide]
  show BitVec.ofBool (BitVec.slt (BitVec.ofNat 32 i.val) (BitVec.ofNat 32 j.val)) = _
  rw [BitVec.slt_eq_decide, BitVec.toInt_eq_toNat_cond, BitVec.toInt_eq_toNat_cond, BitVec.toNat_ofNat, BitVec.toNat_ofNat]
  rw [Nat.mod_eq_of_lt (by omega), Nat.mod_eq_of_lt (by omega), if_pos (by omega), if_pos (by omega)]
  exact congrArg BitVec.ofBool (decide_eq_decide.2 (by rw [Fin.lt_def]; omega))

/-- A number of a place reads from its own place. -/
theorem turnOf_small (k : Fin 2048) : turnOf (fun _ => BitVec.ofNat 32 k.val) = fun _ => BitVec.ofNat 32 k.val := by
  have hk := k.isLt
  funext x
  show Scalar.select (BitVec.ofBool (BitVec.slt (BitVec.ofNat 32 k.val) 0#32)) _ _ = _
  have h : BitVec.slt (BitVec.ofNat 32 k.val) 0#32 = false := by
    rw [BitVec.slt_eq_decide, BitVec.toInt_eq_toNat_cond, BitVec.toNat_ofNat, Nat.mod_eq_of_lt (by omega), if_pos (by omega)]
    exact decide_eq_false (by simp)
  rw [h]
  rfl

theorem toInt_small (k : Fin 2048) : (BitVec.ofNat 32 k.val).toInt = k.val := by
  have hk := k.isLt
  rw [BitVec.toInt_eq_toNat_cond, BitVec.toNat_ofNat, Nat.mod_eq_of_lt (by omega), if_pos (by omega)]

theorem starts_two (k : Fin 2048) : (fun a => ((![constantI S_ 32 0#32, fun _ => BitVec.ofNat 32 k.val] : Fin 2 → IVec S_ 32) a (Shape.Idx.first h_S_)).toInt)
    = ![0, (k.val : ℤ)] := by
  funext a
  match a with
  | ⟨0, _⟩ => rfl
  | ⟨1, _⟩ => exact toInt_small k

theorem starts_three (k : Fin 2048) : (fun a => ((![constantI S_ 32 0#32, fun _ => BitVec.ofNat 32 k.val, constantI S_ 32 0#32] : Fin 3 → IVec S_ 32) a (Shape.Idx.first h_S_)).toInt)
    = ![0, (k.val : ℤ), 0] := by
  funext a
  match a with
  | ⟨0, _⟩ => rfl
  | ⟨1, _⟩ => exact toInt_small k
  | ⟨2, _⟩ => rfl

/-- Two candidates of an image are near: their squared distance is below 9. -/
def nearOf (d : FVec Ideal S4x2048x2048 .f32) (b : Fin 4) (i j : Fin 2048) : Prop := d (ValueIdx.ix3 b i j) < Ideal.ofBits .f32 1091567616#32

theorem trip_apply (d : FVec Ideal S4x2048x2048 .f32) (k : Fin 2048) (K : IVec S4x2048 1) (b : Fin 4) (j : Fin 2048) :
    trip d (iotaInDim S2048 32 0) (fun _ => BitVec.ofNat 32 k.val) K ![0, (k.val : ℤ)] ![0, (k.val : ℤ), 0] (ValueIdx.ix2 b j)
      = IntOp.andi (K (ValueIdx.ix2 b j)) (~~~IntOp.andi (IntOp.andi (K (ValueIdx.ix2 b k)) (flag (d (ValueIdx.ix3 b k j) < Ideal.ofBits .f32 1091567616#32))) (flag (k < j))) := by
  unfold trip
  pointwise []
  obtain ⟨e0, e1⟩ := start_two k
  obtain ⟨f0, f1, f2⟩ := start_three k
  rw [flag_decide]
  refine congrArg₂ IntOp.andi rfl (congrArg (~~~ ·) (congrArg₂ IntOp.andi (congrArg₂ IntOp.andi (congrArg K ?_) (congrArg (fun i => flag (d i < Ideal.ofBits .f32 1091567616#32)) ?_)) (sgt_small k j)))
  · refine congrArg₂ ValueIdx.ix2 (Fin.ext ?_) (Fin.ext ?_)
    · show _ + b.val = b.val; omega
    · exact e1
  · have g0 : ∀ h, (⟨Host.clampedStart S4x2048x2048 S4x1x2048 rfl ![0, (k.val : ℤ), 0] 0 + b.val, h⟩ : Fin 4) = b :=
      fun h => Fin.ext (by show _ + b.val = b.val; omega)
    have g1 : ∀ h, (⟨Host.clampedStart S4x2048x2048 S4x1x2048 rfl ![0, (k.val : ℤ), 0] 1, h⟩ : Fin 2048) = k :=
      fun h => Fin.ext f1
    have g2 : ∀ h, (⟨Host.clampedStart S4x2048x2048 S4x1x2048 rfl ![0, (k.val : ℤ), 0] 2 + j.val, h⟩ : Fin 2048) = j :=
      fun h => Fin.ext (by show _ + j.val = j.val; omega)
    funext a
    match a with
    | ⟨0, _⟩ => exact g0 _
    | ⟨1, _⟩ => exact g1 _
    | ⟨2, _⟩ => exact g2 _

variable (V : Valuation τ sig (Elt Ideal))

/-- After `k` trips: the distances and the places are as they were, the trip's number is `k`, and every image's mask is the
    pass after `k` places. -/
theorem after_trips (valid : Fin 4 → Fin 2048 → Prop) (h1 : V (Proc.devRef .tc main_v21_1) = iotaInDim S2048 32 0)
    (h3 : V (Proc.devRef .tc main_v21_3) = (fun _ => 0#32 : IVec S_ 32))
    (h4 : ∀ b j, (V (Proc.devRef .tc main_v21_4) : IVec S4x2048 1) (ValueIdx.ix2 b j) = flag (valid b j)) :
    ∀ k, k ≤ 2048 → (STEP^[k] V (Proc.devRef .tc main_v21_0) = V (Proc.devRef .tc main_v21_0))
      ∧ (STEP^[k] V (Proc.devRef .tc main_v21_1) = iotaInDim S2048 32 0)
      ∧ (STEP^[k] V (Proc.devRef .tc main_v21_3) = (fun _ => BitVec.ofNat 32 k : IVec S_ 32))
      ∧ ∀ b j, (STEP^[k] V (Proc.devRef .tc main_v21_4) : IVec S4x2048 1) (ValueIdx.ix2 b j)
        = flag (pass (valid b) (nearOf (V (Proc.devRef .tc main_v21_0)) b) k j) := by
  intro k
  induction k with
  | zero => exact fun _ => ⟨rfl, h1, h3, h4⟩
  | succ k ih =>
    intro hk
    obtain ⟨i0, i1, i3, i4⟩ := ih (by omega)
    rw [Function.iterate_succ_apply']
    refine ⟨?_, ?_, ?_, fun b j => ?_⟩
    · rw [STEP_main_v21_0, i0]
    · rw [STEP_main_v21_1, i1]
    · rw [STEP_main_v21_3]
      unfold step_main_v21_3
      rw [i3]
      funext x
      show BitVec.ofNat 32 k + 1#32 = BitVec.ofNat 32 (k + 1)
      rw [BitVec.ofNat_add]
    · rw [STEP_main_v21_4, step_trip, i0, i1, i3]
      rw [show (fun _ => BitVec.ofNat 32 k : IVec S_ 32) = fun _ => BitVec.ofNat 32 (⟨k, hk⟩ : Fin 2048).val from rfl, turnOf_small, starts_two, starts_three]
      refine (trip_apply _ _ _ b j).trans ?_
      rw [i4 b j, i4 b ⟨k, hk⟩, flag_drop]
      refine flag_congr ?_
      show _ ↔ pass _ _ k j ∧ ∀ i : Fin 2048, i.val = k → ¬ _
      refine and_congr_right fun _ => ⟨fun h i hi => ?_, fun h => h ⟨k, hk⟩ rfl⟩
      obtain rfl : i = ⟨k, hk⟩ := Fin.ext hi
      exact h

end Cert.Proof.Nms
-- ==== Proof.Nms.Loop.lean ====
/-
  The suppression kernel's while loop, run. The loop touches no buffer: with `t` turns to go (some place open before each
  of them and none open after the last) the loop's function returns the two rows of the state that `t` turns lead to.
-/
module

public import proofs.«01_k».proof.Proof.Gen.SelectIdeal.Points
public import proofs.«01_k».proof.Proof.Nms.Rounds
public import Idealize.ShloMosaic.Lib.Tactic

@[expose] public section

noncomputable section

namespace Cert.Proof.Nms

open Cert.SelectIdeal Cert.SelectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.SelectIdeal.Facts]

local notation "𝕄" => MT nD τ sig Unit (Elt Ideal) ℕ (UR sig nD τ) ℕ

/-- The loop's function may be entered with any number of turns to go. -/
abbrev 𝒱₀ : Variants := Variants.nat

/-- What the loop's function does with its caller: it returns `r`. -/
def back (r : FVec Ideal S1x2048 .f32 × FVec Ideal S1x2048 .f32) : sWPT 𝕄 (FVec Ideal S1x2048 .f32 × FVec Ideal S1x2048 .f32) := pure r

theorem back_apply (r : FVec Ideal S1x2048 .f32 × FVec Ideal S1x2048 .f32) (Q : FVec Ideal S1x2048 .f32 × FVec Ideal S1x2048 .f32 → sProp 𝕄) :
    back r Q = Q r := rfl

/-- The two rows of a state. -/
def rows (s : (Fin 2048 → Prop) × (Fin 2048 → Prop)) : FVec Ideal S1x2048 .f32 × FVec Ideal S1x2048 .f32 := (row s.1, row s.2)

variable {near : Fin 2048 → Fin 2048 → Prop}

/-- With `t` turns to go the loop returns the state that they lead to. -/
theorem loop_back (c : Dev nD) (i : grid0.Coords) (E : Set ℕ) :
    ∀ (t : ℕ) (s : (Fin 2048 → Prop) × (Fin 2048 → Prop)), (∀ j, ¬ (s.1 j ∧ s.2 j)) →
      (∀ r < t, ∃ j, ((turn near)^[r] s).2 j) → (∀ j, ¬ ((turn near)^[t] s).2 j) →
      ∀ Q, back (rows ((turn near)^[t] s)) Q
        ⊢ wp frame (wpE (defs₀ (F := Ideal)) 𝒱₀ (c : Thread nD τ) (some t)) E
          (defs₀ (F := Ideal) .tc 1 ⟨i, mat (before near), row s.1, row s.2⟩) Q := by
  intro t
  induction t with
  | zero =>
    intro s _ _ hend Q
    rw [back_apply]
    show Q (row s.1, row s.2) ⊢ wp frame (wpE (defs₀ (F := Ideal)) 𝒱₀ (c : Thread nD τ) (some 0)) E (cc0_while1 i (mat (before near)) (row s.1) (row s.2)) Q
    simp only [cc0_while1_eq_skeleton]; unfold cc0_while1_skel
    have htest : ¬ Scalar.cmpf (F := Ideal) .ogt (k0_pay3 (F := Ideal) (row s.2)) (Scalar.ofBits .f32 0x00000000#32) = 1#1 :=
      fun h => by obtain ⟨j, hj⟩ := (live_iff _).1 h; exact hend j hj
    simp only [htest, ↓reduceIte, Prog.pure_eq_ret]
    iintro H
    rw [wp_ret]; imodintro
    iexact H
  | succ t ih =>
    intro s hs hlive hend Q
    rw [back_apply, Function.iterate_succ_apply]
    show _ ⊢ wp frame (wpE (defs₀ (F := Ideal)) 𝒱₀ (c : Thread nD τ) (some (t + 1))) E (cc0_while1 i (mat (before near)) (row s.1) (row s.2)) Q
    simp only [cc0_while1_eq_skeleton]; unfold cc0_while1_skel
    have htest : Scalar.cmpf (F := Ideal) .ogt (k0_pay3 (F := Ideal) (row s.2)) (Scalar.ofBits .f32 0x00000000#32) = 1#1 :=
      (live_iff _).2 (hlive 0 (Nat.succ_pos t))
    have e6 : k0_pay6 (F := Ideal) (mat (before near)) (row s.1) (row s.2) = row (turn near s).1 := pay6_row hs
    have e7 : k0_pay7 (F := Ideal) (mat (before near)) (row s.1) (row s.2) = row (turn near s).2 := pay7_row hs
    simp only [htest, ↓reduceIte, Prog.lift, Prog.bind_op, Prog.bind_ret, Prog.pure_eq_ret]
    rw [e6, e7]
    iintro H
    iapply (wp_call_spec 𝒱₀ (c : Thread nD τ) (some (t + 1)) E (back (rows ((turn near)^[t] (turn near s)))) t
      (fun u hu => by cases hu; exact Nat.lt_succ_self t)
      (ih (turn near s) (turn_apart hs) (fun r hr => hlive (r + 1) (by omega)) hend))
    rw [back_apply, wp_ret]; imodintro
    iexact H

/-- Memref `M`'s buffer on core `c`: the type of its contents, and it held whole at `f`. -/
abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦{fullShare} f

/-- The loop, called by the body: it returns the row of the greedy choice (and some row beside it). -/
theorem loop_call (c : Dev nD) (i : grid0.Coords) (E : Set ℕ) (valid : Fin 2048 → Prop)
    (k : FVec Ideal S1x2048 .f32 × FVec Ideal S1x2048 .f32 → Prog (TpuEff nD τ sig (Elt Ideal) (Λ₀ Ideal) .tc) PUnit) (Q : PUnit → sProp 𝕄) :
    iprop(∀ u : FVec Ideal S1x2048 .f32, wp frame (wpE (defs₀ (F := Ideal)) 𝒱₀ (c : Thread nD τ) none) E (k (row (pass valid near 2048), u)) Q)
      ⊢ wp frame (wpE (defs₀ (F := Ideal)) 𝒱₀ (c : Thread nD τ) none) E
          (Prog.op (.call (1 : (Λ₀ Ideal).Label) ⟨i, mat (before near), row fun _ => False, row valid⟩) k) Q := by
  obtain ⟨t, hend, hG, hlive⟩ := rounds_end (pass_greedy valid near)
  have eG : ((turn near)^[t] (fun _ => False, valid)).1 = pass valid near 2048 := funext fun j => propext (hG j)
  iintro H
  iapply (wp_call_spec 𝒱₀ (c : Thread nD τ) none E (back (rows ((turn near)^[t] (fun _ => False, valid)))) t
    (fun u hu => nomatch hu) (loop_back c i E t (fun _ => False, valid) (fun j h => h.1) hlive hend))
  rw [back_apply]
  unfold rows
  rw [eG]
  iapply H

end Cert.Proof.Nms
-- ==== Proof.Nms.Body.lean ====
/-
  The suppression kernel's body at one image, run from the eight staging buffers held whole: it returns the six inputs as
  they were, and the two outputs at the picked rows of the greedy choice.
-/
module

public import proofs.«01_k».proof.Proof.Nms.Loop
public import Idealize.ShloMosaic.Lib.VecWindow

@[expose] public section

noncomputable section

namespace Cert.Proof.Nms

open Cert.SelectIdeal Cert.SelectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.SelectIdeal.Facts]

local notation "𝕄" => MT nD τ sig Unit (Elt Ideal) ℕ (UR sig nD τ) ℕ

/-- The greedy choice among the places of one image: from the values' row and the four blocks of coordinates. -/
def choice (f1 : FVec Ideal S1x1x2048 .f32) (f3 f4 : FVec Ideal S1x2048x1 .f32) (f5 f6 : FVec Ideal S1x1x2048 .f32) : Fin 2048 → Prop :=
  pass (bright (k0_pay8 f1)) (closer (k0_pay12 f3 f4 f5 f6)) 2048

/-- Every number of a row of indices is its place. -/
abbrev places : IVec S2048x1 32 := iota .tc S2048x1 32 [0] iota_S2048x1_d0_w32

/-- The picked positions of one image. -/
def outPos (f1 : FVec Ideal S1x1x2048 .f32) (f2 f3 f4 : FVec Ideal S1x2048x1 .f32) (f5 f6 : FVec Ideal S1x1x2048 .f32) : FVec Ideal S1x512x2 .f32 :=
  k0_pay2 (k0_pay16 (k0_pay9 f2) (k0_pay10 f3) (k0_pay11 f4) places (row (choice f1 f3 f4 f5 f6)))

/-- The picked values of one image. -/
def outVal (f1 : FVec Ideal S1x1x2048 .f32) (f2 f3 f4 : FVec Ideal S1x2048x1 .f32) (f5 f6 : FVec Ideal S1x1x2048 .f32) : FVec Ideal S1x512x1 .f32 :=
  k0_pay1 (k0_pay17 (k0_pay9 f2) (k0_pay10 f3) (k0_pay11 f4) places (row (choice f1 f3 f4 f5 f6)))

/-- A load of a whole block is the block's contents. -/
theorem load_whole {s : Shape} {e : EltTy} {κ : Kind} {sp : Space} (v : View sig κ sp s e) {off : Fin s.rank → ℕ} (inb : ∀ a, off a + s.size a ≤ s.size a)
    (f : v.ty.Contents (Elt Ideal)) :
    v.readAt (Elt Ideal) (Rect.unit off s.size inb).toLoadRect f = v.read (Elt Ideal) f :=
  View.readAt_full v f inb

/-- A store of a whole block leaves what was stored. -/
theorem store_whole {s : Shape} {e : EltTy} {κ : Kind} {sp : Space} (v : View sig κ sp s e) {off : Fin s.rank → ℕ} (inb : ∀ a, off a + s.size a ≤ s.size a)
    (f : v.ty.Contents (Elt Ideal)) (w : s.Idx → Elt Ideal e) :
    v.read (Elt Ideal) ((v.slice (Rect.unit off s.size inb)).write (Elt Ideal) f w Finset.univ) = w := by
  rw [← View.readAt_full v _ inb]
  exact View.read_write_univ _ _

/-- The body, run. -/
theorem body_run (c : Dev nD) (i : grid0.Coords)
    (M1 : Memref sig .tc .vmem S1x1x2048 .f32) (h1 : M1.IsWhole) (M2 : Memref sig .tc .vmem S1x2048x1 .f32) (h2 : M2.IsWhole)
    (M3 : Memref sig .tc .vmem S1x2048x1 .f32) (h3 : M3.IsWhole) (M4 : Memref sig .tc .vmem S1x2048x1 .f32) (h4 : M4.IsWhole)
    (M5 : Memref sig .tc .vmem S1x1x2048 .f32) (h5 : M5.IsWhole) (M6 : Memref sig .tc .vmem S1x1x2048 .f32) (h6 : M6.IsWhole)
    (M7 : Memref sig .tc .vmem S1x512x2 .f32) (h7 : M7.IsWhole) (M8 : Memref sig .tc .vmem S1x512x1 .f32) (h8 : M8.IsWhole)
    (f1 : Bf c M1) (f2 : Bf c M2) (f3 : Bf c M3) (f4 : Bf c M4) (f5 : Bf c M5) (f6 : Bf c M6) (f7 : Bf c M7) (f8 : Bf c M8)
    (Q : PUnit → sProp 𝕄) :
    iprop((pt c M1 f1 ∗ pt c M2 f2 ∗ pt c M3 f3 ∗ pt c M4 f4 ∗ pt c M5 f5 ∗ pt c M6 f6 ∗ pt c M7 f7 ∗ pt c M8 f8)
        ∗ ((pt c M1 f1 ∗ pt c M2 f2 ∗ pt c M3 f3 ∗ pt c M4 f4 ∗ pt c M5 f5 ∗ pt c M6 f6
          ∗ (∃ g7 : Bf c M7, ⌜M7.view.read (Elt Ideal) g7 = outPos (M1.view.read (Elt Ideal) f1) (M2.view.read (Elt Ideal) f2) (M3.view.read (Elt Ideal) f3) (M4.view.read (Elt Ideal) f4) (M5.view.read (Elt Ideal) f5) (M6.view.read (Elt Ideal) f6)⌝ ∗ pt c M7 g7)
          ∗ (∃ g8 : Bf c M8, ⌜M8.view.read (Elt Ideal) g8 = outVal (M1.view.read (Elt Ideal) f1) (M2.view.read (Elt Ideal) f2) (M3.view.read (Elt Ideal) f3) (M4.view.read (Elt Ideal) f4) (M5.view.read (Elt Ideal) f5) (M6.view.read (Elt Ideal) f6)⌝ ∗ pt c M8 g8)) -∗ Q ⟨⟩))
      ⊢ wp frame (wpE (defs₀ (F := Ideal)) 𝒱₀ (c : Thread nD τ) none) Set.univ (cc0__nms_body i M1 h1 M2 h2 M3 h3 M4 h4 M5 h5 M6 h6 M7 h7 M8 h8) Q := by
  simp only [cc0__nms_body_eq_skeleton]; unfold cc0__nms_body_skel
  simp only [k0_part1_eq_skeleton, k0_part2_eq_skeleton]; unfold k0_part1_skel k0_part2_skel
  simp only [Prog.lift, Prog.bind_op, Prog.bind_ret, Prog.pure_eq_ret]
  iintro ⟨⟨H1, H2, H3, H4, H5, H6, H7, H8⟩, Hk⟩
  iapply (wp_load 𝒱₀ (c : Thread nD τ) none Set.univ (m := M1) (Finset.subset_univ _)) $$ H1; iintro H1
  iapply (wp_load 𝒱₀ (c : Thread nD τ) none Set.univ (m := M2) (Finset.subset_univ _)) $$ H2; iintro H2
  iapply (wp_load 𝒱₀ (c : Thread nD τ) none Set.univ (m := M3) (Finset.subset_univ _)) $$ H3; iintro H3
  iapply (wp_load 𝒱₀ (c : Thread nD τ) none Set.univ (m := M4) (Finset.subset_univ _)) $$ H4; iintro H4
  iapply (wp_load 𝒱₀ (c : Thread nD τ) none Set.univ (m := M5) (Finset.subset_univ _)) $$ H5; iintro H5
  iapply (wp_load 𝒱₀ (c : Thread nD τ) none Set.univ (m := M6) (Finset.subset_univ _)) $$ H6; iintro H6
  rw [load_whole M1.view, load_whole M2.view, load_whole M3.view, load_whole M4.view, load_whole M5.view, load_whole M6.view]
  rw [pay13_mat, pay14_row, pay15_row]
  iapply (loop_call c i Set.univ)
  iintro %u
  iapply (wp_load 𝒱₀ (c : Thread nD τ) none Set.univ (m := M8) (Finset.subset_univ _)) $$ H8; iintro H8
  iapply (wp_store 𝒱₀ (c : Thread nD τ) none Set.univ (m := M8) (r := Rect.unit (s := S1x512x1) ![0, 0, 0] S1x512x1.size inb_S1x512x1_S1x512x1_0_0_0) (Mk := Finset.univ) (Finset.subset_univ _)) $$ H8; iintro H8
  iapply (wp_load 𝒱₀ (c : Thread nD τ) none Set.univ (m := M7) (Finset.subset_univ _)) $$ H7; iintro H7
  iapply (wp_store 𝒱₀ (c : Thread nD τ) none Set.univ (m := M7) (r := Rect.unit (s := S1x512x2) ![0, 0, 0] S1x512x2.size inb_S1x512x2_S1x512x2_0_0_0) (Mk := Finset.univ) (Finset.subset_univ _)) $$ H7; iintro H7
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7); ipureintro; exact store_whole M7.view _ _ _
  · iexists _; isplitr; swap; (· iexact H8); ipureintro; exact store_whole M8.view _ _ _

end Cert.Proof.Nms
-- ==== Proof.Nms.Region.lean ====
/-
  The suppression call's proof data: what each staging buffer holds at each of the four images, and the obligation of its
  body there.
-/
module

public import proofs.«01_k».proof.Proof.Nms.Body
public import proofs.«01_k».proof.Proof.Gen.SelectIdeal.Launch
public import Idealize.ShloMosaic.Lib.Pipeline.FrameSuffix

@[expose] public section

noncomputable section

namespace Cert.Proof.Nms

open Cert.SelectIdeal Cert.SelectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.SelectIdeal.Facts]

local notation "𝕄" => MT nD τ sig Unit (Elt Ideal) ℕ (UR sig nD τ) ℕ

variable (V : Dev nD → Valuation τ sig (Elt Ideal))

/-- Image `t`'s block of an input array. -/
abbrev blk (c : Dev nD) (w : Fin 8) (t : Fin (cfg0 (F := Ideal)).N) :
    (((cfg0 (F := Ideal)).win w).xblock ((cfg0 (F := Ideal)).grid.coords t)).Idx → Elt Ideal ((cfg0 (F := Ideal)).win w).elt :=
  (((cfg0 (F := Ideal)).win w).blk t).view.read (Elt Ideal) (V c (Proc.devRef .tc (Pipeline.arrRef spec0 w)))

/-- The call's proof data. -/
def dat (c : Dev nD) : Dat τ (Elt Ideal) Unit ℕ (UR sig nD τ) ℕ (cfg0 (F := Ideal)) c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outPos (blk V c 0 t) (blk V c 1 t) (blk V c 2 t) (blk V c 3 t) (blk V c 4 t) (blk V c 5 t)
    | ⟨7, _⟩ => outVal (blk V c 0 t) (blk V c 1 t) (blk V c 2 t) (blk V c 3 t) (blk V c 4 t) (blk V c 5 t)
  Φ _ := Pipeline.ΦA spec0 c
  q _ := fullShare
  owed _ := 0

/-- Owning a whole staging buffer is holding it at contents that read so. -/
theorem owns_pt (c : Dev nD) {sp : Space} {S : Shape} {e : EltTy} (M : Memref sig .tc sp S e) (h : M.IsWhole) (X : S.Idx → Elt Ideal e) :
    (owns (c : Thread nD τ) M fullShare X : sProp 𝕄) = iprop(∃ f : Bf c M, ⌜M.view.read (Elt Ideal) f = X⌝ ∗ pt c M f) := by
  unfold owns
  rw [Memref.IsWhole.set_eq_univ h]

theorem before_0 (c : Dev nD) (t : Fin (cfg0 (F := Ideal)).N) (d) : (dat V c).before (0 : Fin 8) t d = blk V c 0 t := by
  rw [Dat.before_fetched _ _ _ (fetch0_0 t)]; rfl
theorem before_1 (c : Dev nD) (t : Fin (cfg0 (F := Ideal)).N) (d) : (dat V c).before (1 : Fin 8) t d = blk V c 1 t := by
  rw [Dat.before_fetched _ _ _ (fetch0_1 t)]; rfl
theorem before_2 (c : Dev nD) (t : Fin (cfg0 (F := Ideal)).N) (d) : (dat V c).before (2 : Fin 8) t d = blk V c 2 t := by
  rw [Dat.before_fetched _ _ _ (fetch0_2 t)]; rfl
theorem before_3 (c : Dev nD) (t : Fin (cfg0 (F := Ideal)).N) (d) : (dat V c).before (3 : Fin 8) t d = blk V c 3 t := by
  rw [Dat.before_fetched _ _ _ (fetch0_3 t)]; rfl
theorem before_4 (c : Dev nD) (t : Fin (cfg0 (F := Ideal)).N) (d) : (dat V c).before (4 : Fin 8) t d = blk V c 4 t := by
  rw [Dat.before_fetched _ _ _ (fetch0_4 t)]; rfl
theorem before_5 (c : Dev nD) (t : Fin (cfg0 (F := Ideal)).N) (d) : (dat V c).before (5 : Fin 8) t d = blk V c 5 t := by
  rw [Dat.before_fetched _ _ _ (fetch0_5 t)]; rfl

/-- The staging buffers are whole. -/
theorem whole (t : Fin (cfg0 (F := Ideal)).N) (w : Fin 8) : (((cfg0 (F := Ideal)).win w).stage ((cfg0 (F := Ideal)).slots t w)).IsWhole :=
  stage_whole0 w _

set_option maxHeartbeats 1600000 in
/-- The body's obligation. -/
theorem body_obligation (c : Dev nD) : BodyObligation (dat V c) (defs₀ (F := Ideal)) 𝒱₀ () Set.univ := fun t => by
  rw [bigSep_W0, bigSep_W0]
  show iprop((dat V c).Φ t.castSucc ∗ (dat V c).owesAt () t.castSucc ∗ (∃ d, owns (c : Thread nD τ) (st0_0 t) fullShare ((dat V c).before (0 : Fin 8) t d))
    ∗ (∃ d, owns (c : Thread nD τ) (st0_1 t) fullShare ((dat V c).before (1 : Fin 8) t d)) ∗ (∃ d, owns (c : Thread nD τ) (st0_2 t) fullShare ((dat V c).before (2 : Fin 8) t d))
    ∗ (∃ d, owns (c : Thread nD τ) (st0_3 t) fullShare ((dat V c).before (3 : Fin 8) t d)) ∗ (∃ d, owns (c : Thread nD τ) (st0_4 t) fullShare ((dat V c).before (4 : Fin 8) t d))
    ∗ (∃ d, owns (c : Thread nD τ) (st0_5 t) fullShare ((dat V c).before (5 : Fin 8) t d)) ∗ (∃ d, owns (c : Thread nD τ) (st0_6 t) fullShare ((dat V c).before (6 : Fin 8) t d))
    ∗ (∃ d, owns (c : Thread nD τ) (st0_7 t) fullShare ((dat V c).before (7 : Fin 8) t d)))
    ⊢ wp frame (wpE (defs₀ (F := Ideal)) 𝒱₀ (c : Thread nD τ) none) Set.univ (bodyAt0 (F := Ideal) t) fun _ =>
      iprop((dat V c).Φ t.castSucc ∗ (dat V c).owesAt () t.castSucc
        ∗ owns (c : Thread nD τ) (st0_0 t) fullShare (blk V c 0 t) ∗ owns (c : Thread nD τ) (st0_1 t) fullShare (blk V c 1 t)
        ∗ owns (c : Thread nD τ) (st0_2 t) fullShare (blk V c 2 t) ∗ owns (c : Thread nD τ) (st0_3 t) fullShare (blk V c 3 t)
        ∗ owns (c : Thread nD τ) (st0_4 t) fullShare (blk V c 4 t) ∗ owns (c : Thread nD τ) (st0_5 t) fullShare (blk V c 5 t)
        ∗ owns (c : Thread nD τ) (st0_6 t) fullShare (outPos (blk V c 0 t) (blk V c 1 t) (blk V c 2 t) (blk V c 3 t) (blk V c 4 t) (blk V c 5 t))
        ∗ owns (c : Thread nD τ) (st0_7 t) fullShare (outVal (blk V c 0 t) (blk V c 1 t) (blk V c 2 t) (blk V c 3 t) (blk V c 4 t) (blk V c 5 t)))
  simp only [before_0, before_1, before_2, before_3, before_4, before_5]
  rw [owns_pt c (st0_0 t) (whole t 0), owns_pt c (st0_1 t) (whole t 1), owns_pt c (st0_2 t) (whole t 2), owns_pt c (st0_3 t) (whole t 3),
    owns_pt c (st0_4 t) (whole t 4), owns_pt c (st0_5 t) (whole t 5)]
  simp only [owns_pt c (st0_6 t) (whole t 6), owns_pt c (st0_7 t) (whole t 7)]
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩⟩
  have run := body_run c (grid0.coords t) (st0_0 t) (whole t 0) (st0_1 t) (whole t 1) (st0_2 t) (whole t 2) (st0_3 t) (whole t 3)
    (st0_4 t) (whole t 4) (st0_5 t) (whole t 5) (st0_6 t) (whole t 6) (st0_7 t) (whole t 7) f0 f1 f2 f3 f4 f5 f6 f7
  rw [e0, e1, e2, e3, e4, e5] at run
  iapply (run _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]; · iexact H6
  iexact H7

end Cert.Proof.Nms
-- ==== Proof.Nms.Arrays.lean ====
/-
  The suppression call's two output arrays after the four images: each image's part is what the body left for it.
-/
module

public import proofs.«01_k».proof.Proof.Nms.Region
public import Idealize.ShloMosaic.Lib.Pipeline.ValueKit

@[expose] public section

noncomputable section

namespace Cert.Proof.Nms

open Cert.SelectIdeal Cert.SelectIdeal.Gen
open Idealize.ShloMosaic
open Idealize.ShloMosaic.TcCoe Idealize.ShloMosaic.Tactic
open Idealize.ShloMosaic.Pipeline (Dat Cfg Window cellOf)

variable [Cert.SelectIdeal.Facts]

/-- Image `b`'s part of an array of four. -/
def slab {α : Type} {p q : ℕ} (A : (⟨3, ![4, p, q]⟩ : Shape).Idx → α) (b : Fin 4) : (⟨3, ![1, p, q]⟩ : Shape).Idx → α :=
  fun j => A (ValueIdx.ix3 b (j 1) (j 2))

variable (V : Dev nD → Valuation τ sig (Elt Ideal)) (c : Dev nD)

/-- A window's whole array before the call. -/
abbrev arr (b : Ref sig .tc) : b.ty.Contents (Elt Ideal) := V c (Proc.devRef .tc b)

/-- The image of a step. -/
abbrev img (t : Fin (cfg0 (F := Ideal)).N) : Fin 4 := t.cast N_0

theorem index_0 (t : Fin grid0.N) : win0_0.index t = ![t.val, 0, 0] := by rcases fin_N0 t with rfl | rfl | rfl | rfl <;> rfl
theorem index_1 (t : Fin grid0.N) : win0_1.index t = ![t.val, 0, 0] := by rcases fin_N0 t with rfl | rfl | rfl | rfl <;> rfl
theorem index_2 (t : Fin grid0.N) : win0_2.index t = ![t.val, 0, 0] := by rcases fin_N0 t with rfl | rfl | rfl | rfl <;> rfl
theorem index_3 (t : Fin grid0.N) : win0_3.index t = ![t.val, 0, 0] := by rcases fin_N0 t with rfl | rfl | rfl | rfl <;> rfl
theorem index_4 (t : Fin grid0.N) : win0_4.index t = ![t.val, 0, 0] := by rcases fin_N0 t with rfl | rfl | rfl | rfl <;> rfl
theorem index_5 (t : Fin grid0.N) : win0_5.index t = ![t.val, 0, 0] := by rcases fin_N0 t with rfl | rfl | rfl | rfl <;> rfl
theorem index_6 (t : Fin grid0.N) : win0_6.index t = ![t.val, 0, 0] := by rcases fin_N0 t with rfl | rfl | rfl | rfl <;> rfl
theorem index_7 (t : Fin grid0.N) : win0_7.index t = ![t.val, 0, 0] := by rcases fin_N0 t with rfl | rfl | rfl | rfl <;> rfl

/-! Image `t`'s block of each input is its part of the array. -/

theorem blk_0 (t : Fin (cfg0 (F := Ideal)).N) : blk V c 0 t = slab (arr V c main_v4) (img t) := by
  funext j; blk_ext [blk, slab, arr, index_0 t]; rfl
theorem blk_1 (t : Fin (cfg0 (F := Ideal)).N) : blk V c 1 t = slab (arr V c main_v5) (img t) := by
  funext j; blk_ext [blk, slab, arr, index_1 t]; rfl
theorem blk_2 (t : Fin (cfg0 (F := Ideal)).N) : blk V c 2 t = slab (arr V c main_v6) (img t) := by
  funext j; blk_ext [blk, slab, arr, index_2 t]; rfl
theorem blk_3 (t : Fin (cfg0 (F := Ideal)).N) : blk V c 3 t = slab (arr V c main_v7) (img t) := by
  funext j; blk_ext [blk, slab, arr, index_3 t]; rfl
theorem blk_4 (t : Fin (cfg0 (F := Ideal)).N) : blk V c 4 t = slab (arr V c main_v8) (img t) := by
  funext j; blk_ext [blk, slab, arr, index_4 t]; rfl
theorem blk_5 (t : Fin (cfg0 (F := Ideal)).N) : blk V c 5 t = slab (arr V c main_v9) (img t) := by
  funext j; blk_ext [blk, slab, arr, index_5 t]; rfl

/-- The picked positions of the four images. -/
def allPos (a0 : FVec Ideal S4x1x2048 .f32) (a1 a2 a3 : FVec Ideal S4x2048x1 .f32) (a4 a5 : FVec Ideal S4x1x2048 .f32) : FVec Ideal S4x512x2 .f32 :=
  fun i => outPos (slab a0 (i 0)) (slab a1 (i 0)) (slab a2 (i 0)) (slab a3 (i 0)) (slab a4 (i 0)) (slab a5 (i 0)) (ValueIdx.ix3 0 (i 1) (i 2))

/-- The picked values of the four images. -/
def allVal (a0 : FVec Ideal S4x1x2048 .f32) (a1 a2 a3 : FVec Ideal S4x2048x1 .f32) (a4 a5 : FVec Ideal S4x1x2048 .f32) : FVec Ideal S4x512x1 .f32 :=
  fun i => outVal (slab a0 (i 0)) (slab a1 (i 0)) (slab a2 (i 0)) (slab a3 (i 0)) (slab a4 (i 0)) (slab a5 (i 0)) (ValueIdx.ix3 0 (i 1) (i 2))

/-- An index of one image's block, from its last two coordinates. -/
theorem one_first {p q : ℕ} (y : (⟨3, ![1, p, q]⟩ : Shape).Idx) : y = ValueIdx.ix3 0 (y 1) (y 2) := by
  have h : y 0 = (0 : Fin 1) := Subsingleton.elim (α := Fin 1) _ _
  rw [ValueIdx.eq_ix3 y, h]; rfl

theorem covers_6 : win0_6.Covers := by decide +kernel

theorem place_6 (t : Fin (cfg0 (F := Ideal)).N) (y : S1x512x2.Idx) :
    ((win0_6.blk t).view.emb y : S4x512x2.Idx) = ValueIdx.ix3 (img t) (y 1) (y 2) := by
  funext a; refine Fin.ext ?_
  match a with
  | ⟨0, _⟩ => blk_simp [index_6 t]; all_goals rfl
  | ⟨1, _⟩ => blk_simp [index_6 t]; all_goals rfl
  | ⟨2, _⟩ => blk_simp [index_6 t]; all_goals rfl

/-- After the four images the array of positions holds every image's picked ones. -/
theorem final_pos : (dat V c).arrAt (6 : Fin 8) (cfg0 (F := Ideal)).N
    = allPos (arr V c main_v4) (arr V c main_v5) (arr V c main_v6) (arr V c main_v7) (arr V c main_v8) (arr V c main_v9) := by
  refine (dat V c).arrAt_eq_of_covers (6 : Fin 8) _ covers_6 fun t hf y => ?_
  blk_simp
  rw [place_6 t y]
  show outPos (blk V c 0 t) (blk V c 1 t) (blk V c 2 t) (blk V c 3 t) (blk V c 4 t) (blk V c 5 t) y = _
  rw [blk_0, blk_1, blk_2, blk_3, blk_4, blk_5]
  exact congrArg _ (one_first y)

theorem covers_7 : win0_7.Covers := by decide +kernel

theorem place_7 (t : Fin (cfg0 (F := Ideal)).N) (y : S1x512x1.Idx) :
    ((win0_7.blk t).view.emb y : S4x512x1.Idx) = ValueIdx.ix3 (img t) (y 1) (y 2) := by
  funext a; refine Fin.ext ?_
  match a with
  | ⟨0, _⟩ => blk_simp [index_7 t]; all_goals rfl
  | ⟨1, _⟩ => blk_simp [index_7 t]; all_goals rfl
  | ⟨2, _⟩ => blk_simp [index_7 t]; all_goals rfl

/-- After the four images the array of values holds every image's picked ones. -/
theorem final_val : (dat V c).arrAt (7 : Fin 8) (cfg0 (F := Ideal)).N
    = allVal (arr V c main_v4) (arr V c main_v5) (arr V c main_v6) (arr V c main_v7) (arr V c main_v8) (arr V c main_v9) := by
  refine (dat V c).arrAt_eq_of_covers (7 : Fin 8) _ covers_7 fun t hf y => ?_
  blk_simp
  rw [place_7 t y]
  show outVal (blk V c 0 t) (blk V c 1 t) (blk V c 2 t) (blk V c 3 t) (blk V c 4 t) (blk V c 5 t) y = _
  rw [blk_0, blk_1, blk_2, blk_3, blk_4, blk_5]
  exact congrArg _ (one_first y)

end Cert.Proof.Nms
-- ==== Proof.Nms.Launch.lean ====
/-
  The suppression program run whole: the host's lines before the call, the call over its four images, and the host's last
  line; what the two results and the two arguments hold at its end.
-/
module

public import proofs.«01_k».proof.Proof.Nms.Arrays
public import Idealize.ShloMosaic.Lib.StableHlo.Run

@[expose] public section

noncomputable section

namespace Cert.Proof.Nms

open Cert.SelectIdeal Cert.SelectIdeal.Gen
open Idealize.ShloMosaic
open Idealize.ShloMosaic.TcCoe Idealize.ShloMosaic.Tactic
open Idealize.SL Idealize.SL.Sem
open Idealize.ShloMosaic.Pipeline (Dat Cfg Window cellOf)

variable [Cert.SelectIdeal.Facts]

variable (m : (ℓ : Loc nD τ sig) → Buf (Elt Ideal) ℓ) (g : Dev nD → PrngReg)

/-- The host's lines before the call. -/
abbrev firstOps : List (List (HloOp τ sig (Elt Ideal))) := [hostOps0, hostOps0_1, hostOps0_2, hostOps0_3, hostOps0_4]

/-- What every array holds when the call starts. -/
def start (c : Dev nD) : Valuation τ sig (Elt Ideal) := StableHlo.after (firstOps).flatten (fun b => m (c, b))

theorem first_fresh : (firstOps).Forall fun ops => ops.Forall fun op => op.fresh = ∅ := by
  refine ⟨?_, ?_, ?_, ?_, ?_⟩ <;> repeat' first | exact rfl | refine ⟨rfl, ?_⟩

theorem last_sub : ∀ ops ∈ [(hostOps1 : List (HloOp τ sig (Elt Ideal)))], ∀ op ∈ ops, op.bufs ⊆ Pipeline.tailRefs sig Pipeline.Prefetch.none spec0 := by
  intro ops h op h'
  obtain rfl := List.mem_singleton.mp h
  obtain rfl := List.mem_singleton.mp h'
  exact Pipeline.sub_tailRefs _ _ _ hostOps1_sub fun k => k.elim0

/-- What the program leaves. -/
theorem run_select : θ_run (defs (F := Ideal)) (onTc (main (F := Ideal))) ⟨m, fun _ => 0, g⟩ fun r =>
    Pipeline.FramePost (cfgs (F := Ideal)) (fun _ c => dat (start m) c) 0
      (Pipeline.afterTail₀ (cfgs (F := Ideal)) (fun _ c => dat (start m) c) 0 (start m) [hostOps1]) r ∧ r.2.sem = fun _ => 0 := by
  refine Pipeline.θ_run_frame_around (cfgs (F := Ideal)) (fun _ c => dat (start m) c) 0 launch0 (defs₀ (F := Ideal)) 𝒱₀ m g main
    (fun c => (body_obligation (start m) c).loose) (fun c => (dat (start m) c).share_full fun _ => rfl) (fun _ _ => rfl)
    (start m) [hostOps1] last_sub ?_ ?_
    (Pipeline.hmain_around (cfgs (F := Ideal)) 0 (defs₀ (F := Ideal)) 𝒱₀ m main firstOps [hostOps1]
      ⟨hostOps0_sub, hostOps0_1_sub, hostOps0_2_sub, hostOps0_3_sub, hostOps0_4_sub⟩ first_fresh main_chain)
    (fun _ _ => rfl) (fun _ _ => rfl) _ (fun _ h => h)
  · intro ops h op h'
    obtain rfl := List.mem_singleton.mp h
    obtain rfl := List.mem_singleton.mp h'
    rfl
  · intro ops h op h'
    obtain rfl := List.mem_singleton.mp h
    obtain rfl := List.mem_singleton.mp h'
    intro w hw
    have hw' : Proc.devRef (τ := τ) .tc (Pipeline.arrRef spec0 w) = Proc.devRef .tc main_v11 := Finset.mem_singleton.mp hw
    exact (show ∀ w : Fin 8, Proc.devRef (τ := τ) .tc (Pipeline.arrRef spec0 w) ≠ Proc.devRef .tc main_v11 by decide) w hw'

end Cert.Proof.Nms
-- ==== Proof.Nms.Coords.lean ====
/-
  The two coordinates of every candidate, from its position: the remainder and the quotient by the width, as the host
  computes them; and the six arrays that the call reads.
-/
module

public import proofs.«01_k».proof.Proof.Nms.Launch

@[expose] public section

noncomputable section

namespace Cert.Proof.Nms

open Cert.SelectIdeal Cert.SelectIdeal.Gen
open Idealize.ShloMosaic
open Idealize.ShloMosaic.TcCoe Idealize.ShloMosaic.Tactic

variable [Cert.SelectIdeal.Facts]

/-- One number everywhere. -/
abbrev spread {w : ℕ} (d : IVec S_ w) : IVec S4x2048 w := broadcastInDim S4x2048 ![] bcast_S_S4x2048 d

/-- The remainder of every number by the width, of the width's sign. -/
def remArr (a : IVec S4x2048 32) : IVec S4x2048 32 :=
  let d : IVec S_ 32 := select (cmpi .eq (constantI S_ 32 2048#32) (constantI S_ 32 0#32)) (constantI S_ 32 1#32) (constantI S_ 32 2048#32)
  let r := Host.remsi a (spread d)
  select (andi (cmpi .ne (cmpi .slt r (spread (constantI S_ 32 0#32))) (spread (cmpi .slt d (constantI S_ 32 0#32))))
    (cmpi .ne r (spread (constantI S_ 32 0#32)))) (addi r (spread d)) r

/-- The quotient of every number by the width, rounded down. -/
def quoArr (a : IVec S4x2048 32) : IVec S4x2048 32 :=
  let q := Host.divsi a (spread (constantI S_ 32 2048#32))
  select (andi (cmpi .ne (signi a) (spread (signi (constantI S_ 32 2048#32))))
    (cmpi .ne (Host.remsi a (spread (constantI S_ 32 2048#32))) (spread (constantI S_ 32 0#32)))) (subi q (spread (constantI S_ 32 1#32))) q

/-- The candidates' columns. -/
def xs (a : IVec S4x2048 32) : FVec Ideal S4x2048 .f32 := sitofp (F := Ideal) .f32 (remArr a)

/-- The candidates' rows. -/
def ys (a : IVec S4x2048 32) : FVec Ideal S4x2048 .f32 := sitofp (F := Ideal) .f32 (quoArr a)

/-- A list of numbers per image as a row per image. -/
abbrev asRow (x : FVec Ideal S4x2048 .f32) : FVec Ideal S4x1x2048 .f32 := shapeCast S4x1x2048 x shapeCasts_S4x2048_S4x1x2048

/-- A list of numbers per image as a column per image. -/
abbrev asCol (x : FVec Ideal S4x2048 .f32) : FVec Ideal S4x2048x1 .f32 := shapeCast S4x2048x1 x shapeCasts_S4x2048_S4x2048x1

variable (W : Valuation τ sig (Elt Ideal))

theorem after_rem : StableHlo.after (hostOps0 ++ hostOps0_1) W (Proc.devRef .tc main_v0) = remArr (W (Proc.devRef .tc main_arg1))
    ∧ StableHlo.after (hostOps0 ++ hostOps0_1) W (Proc.devRef .tc main_arg1) = W (Proc.devRef .tc main_arg1)
    ∧ StableHlo.after (hostOps0 ++ hostOps0_1) W (Proc.devRef .tc main_arg0) = W (Proc.devRef .tc main_arg0) := by
  unfold hostOps0 hostOps0_1
  simp only [List.cons_append, List.nil_append]
  refine ⟨?_, ?_, ?_⟩
  · after_results_simp; rfl
  · after_results
  · after_results

theorem after_quo : StableHlo.after (hostOps0_2 ++ hostOps0_3) W (Proc.devRef .tc main_v2) = quoArr (W (Proc.devRef .tc main_arg1))
    ∧ StableHlo.after (hostOps0_2 ++ hostOps0_3) W (Proc.devRef .tc main_v1) = sitofp (F := Ideal) .f32 (W (Proc.devRef .tc main_v0) : IVec S4x2048 32)
    ∧ StableHlo.after (hostOps0_2 ++ hostOps0_3) W (Proc.devRef .tc main_arg1) = W (Proc.devRef .tc main_arg1)
    ∧ StableHlo.after (hostOps0_2 ++ hostOps0_3) W (Proc.devRef .tc main_arg0) = W (Proc.devRef .tc main_arg0) := by
  unfold hostOps0_2 hostOps0_3
  simp only [List.cons_append, List.nil_append]
  refine ⟨?_, ?_, ?_, ?_⟩
  · after_results_simp; rfl
  · after_results_simp
  · after_results
  · after_results

theorem after_shapes : StableHlo.after hostOps0_4 W (Proc.devRef .tc main_v4) = asRow (W (Proc.devRef .tc main_arg0))
    ∧ StableHlo.after hostOps0_4 W (Proc.devRef .tc main_v5) = asCol (W (Proc.devRef .tc main_arg0))
    ∧ StableHlo.after hostOps0_4 W (Proc.devRef .tc main_v6) = asCol (W (Proc.devRef .tc main_v1))
    ∧ StableHlo.after hostOps0_4 W (Proc.devRef .tc main_v7) = asCol (sitofp (F := Ideal) .f32 (W (Proc.devRef .tc main_v2) : IVec S4x2048 32))
    ∧ StableHlo.after hostOps0_4 W (Proc.devRef .tc main_v8) = asRow (W (Proc.devRef .tc main_v1))
    ∧ StableHlo.after hostOps0_4 W (Proc.devRef .tc main_v9) = asRow (sitofp (F := Ideal) .f32 (W (Proc.devRef .tc main_v2) : IVec S4x2048 32))
    ∧ StableHlo.after hostOps0_4 W (Proc.devRef .tc main_arg1) = W (Proc.devRef .tc main_arg1)
    ∧ StableHlo.after hostOps0_4 W (Proc.devRef .tc main_arg0) = W (Proc.devRef .tc main_arg0) := by
  unfold hostOps0_4
  refine ⟨?_, ?_, ?_, ?_, ?_, ?_, ?_, ?_⟩
  · after_results_simp; rfl
  · after_results_simp; rfl
  · after_results_simp; rfl
  · after_results_simp; rfl
  · after_results_simp; rfl
  · after_results_simp; rfl
  · after_results
  · after_results

variable (m : (ℓ : Loc nD τ sig) → Buf (Elt Ideal) ℓ) (c : Dev nD)

/-- What the arrays that the call reads hold, and the arguments. -/
theorem start_arrays : start m c (Proc.devRef .tc main_v4) = asRow (m ((c : Thread nD τ).loc main_arg0))
    ∧ start m c (Proc.devRef .tc main_v5) = asCol (m ((c : Thread nD τ).loc main_arg0))
    ∧ start m c (Proc.devRef .tc main_v6) = asCol (xs (m ((c : Thread nD τ).loc main_arg1)))
    ∧ start m c (Proc.devRef .tc main_v7) = asCol (ys (m ((c : Thread nD τ).loc main_arg1)))
    ∧ start m c (Proc.devRef .tc main_v8) = asRow (xs (m ((c : Thread nD τ).loc main_arg1)))
    ∧ start m c (Proc.devRef .tc main_v9) = asRow (ys (m ((c : Thread nD τ).loc main_arg1)))
    ∧ start m c (Proc.devRef .tc main_arg1) = m ((c : Thread nD τ).loc main_arg1)
    ∧ start m c (Proc.devRef .tc main_arg0) = m ((c : Thread nD τ).loc main_arg0) := by
  have e : start m c = StableHlo.after hostOps0_4 (StableHlo.after (hostOps0_2 ++ hostOps0_3) (StableHlo.after (hostOps0 ++ hostOps0_1) fun b => m (c, b))) := by
    rw [← StableHlo.after_append, ← StableHlo.after_append]; rfl
  obtain ⟨r1, r2, r3⟩ := after_rem fun b => m (c, b)
  obtain ⟨q1, q2, q3, q4⟩ := after_quo (StableHlo.after (hostOps0 ++ hostOps0_1) fun b => m (c, b))
  obtain ⟨s1, s2, s3, s4, s5, s6, s7, s8⟩ := after_shapes (StableHlo.after (hostOps0_2 ++ hostOps0_3) (StableHlo.after (hostOps0 ++ hostOps0_1) fun b => m (c, b)))
  rw [e]
  rw [q4, r3] at s1 s2 s8
  rw [q2, r1] at s3 s5
  rw [q1, r2] at s4 s6
  rw [q3, r2] at s7
  exact ⟨s1, s2, s3, s4, s5, s6, s7, s8⟩

end Cert.Proof.Nms
-- ==== Proof.Nms.Plain.lean ====
/-
  What the plain suppression leaves in its two results: the candidates' mask after the loop, the 512 greatest of the values
  that it keeps, and the coordinates at their slots.
-/
module

public import proofs.«01_k».proof.Proof.Nms.Keep
public import proofs.«01_k».proof.Proof.Nms.Coords

@[expose] public section

noncomputable section

namespace Cert.Proof.Nms

open Cert.SelectReferenceIdeal Cert.SelectReferenceIdeal.Gen Cert.SelectReferenceIdeal.Value
open Idealize.ShloMosaic
open Idealize.ShloMosaic.TcCoe Idealize.ShloMosaic.Tactic
open Idealize.SL Idealize.SL.Sem

variable [Cert.SelectReferenceIdeal.Facts] [Cert.SelectIdeal.Facts]

/-- The candidates' pairs of coordinates. -/
def pairs (x y : FVec Ideal S4x2048 .f32) : FVec Ideal S4x2048x2 .f32 :=
  concatenate S4x2048x2 2 [⟨S4x2048x1, broadcastInDim S4x2048x1 ![0, 1] bcast_S4x2048_S4x2048x1_0_1 x⟩,
    ⟨S4x2048x1, broadcastInDim S4x2048x1 ![0, 1] bcast_S4x2048_S4x2048x1_0_1 y⟩] concatenates_S4x2048x1_S4x2048x1_S4x2048x2_d2

/-- Every candidate's squared length. -/
def lengths (p : FVec Ideal S4x2048x2 .f32) : FVec Ideal S4x2048 .f32 :=
  Host.reduceAdd (mulf p p) (constant (F := Ideal) S_ .f32 0x00000000#32) reducesTo_S4x2048x2_S4x2048_d2 h_S_

/-- The squared distances between the candidates of an image. -/
def distances (p : FVec Ideal S4x2048x2 .f32) : FVec Ideal S4x2048x2048 .f32 :=
  subf (addf (broadcastInDim S4x2048x2048 ![0, 1, 2] bcast_S4x2048x1_S4x2048x2048_0_1_2 (broadcastInDim S4x2048x1 ![0, 1] bcast_S4x2048_S4x2048x1_0_1 (lengths p)))
      (broadcastInDim S4x2048x2048 ![0, 1, 2] bcast_S4x1x2048_S4x2048x2048_0_1_2 (broadcastInDim S4x1x2048 ![0, 2] bcast_S4x2048_S4x1x2048_0_2 (lengths p))))
    (mulf (broadcastInDim S4x2048x2048 ![] bcast_S_S4x2048x2048 (constant (F := Ideal) S_ .f32 0x40000000#32))
      (Host.dotGeneral dot_S4x2048x2_S4x2048x2_S4x2048x2048_2_2_1_1_0_0 none p p))

/-- The candidates above the threshold. -/
def aboves (x : FVec Ideal S4x2048 .f32) : IVec S4x2048 1 :=
  cmpf .ogt x (broadcastInDim S4x2048 ![] bcast_S_S4x2048 (constant (F := Ideal) S_ .f32 0x3DCCCCCD#32))

/-- The values that a mask keeps, zero elsewhere. -/
def scores (K : IVec S4x2048 1) (x : FVec Ideal S4x2048 .f32) : FVec Ideal S4x2048 .f32 :=
  select K x (broadcastInDim S4x2048 ![] bcast_S_S4x2048 (constant (F := Ideal) S_ .f32 0x00000000#32))

/-- The 512 greatest of each image and their slots. -/
def firsts (x : FVec Ideal S4x2048 .f32) : FVec Ideal S4x512 .f32 × IVec S4x512 32 :=
  Host.topK S4x512 1 (FloatOps.cmpfTotal .gt) x sliceFits_S4x2048_S4x512

/-- A slot counted from the end where it is negative. -/
def slotOf (i : IVec S4x512x1 32) : IVec S4x512x1 32 :=
  select (cmpi .slt i (broadcastInDim S4x512x1 ![] bcast_S_S4x512x1 (constantI S_ 32 0#32)))
    (addi i (broadcastInDim S4x512x1 ![] bcast_S_S4x512x1 (constantI S_ 32 2048#32))) i

/-- The slots that name a candidate. -/
def inside (i : IVec S4x512x1 32) : IVec S4x512 1 :=
  Host.reduce IntOp.andi (andi (cmpi .sge i (broadcastInDim S4x512x1 ![] bcast_S_S4x512x1 (constantI S_ 32 0#32)))
    (cmpi .sle i (broadcastInDim S4x512x1 ![0, 1, 2] bcast_S1x1x1_S4x512x1_0_1_2 (broadcastInDim S1x1x1 ![2] bcast_S1_S1x1x1_2 (constantI S1 32 2047#32)))))
    (constantI S_ 1 1#1) reducesTo_S4x512x1_S4x512_d2 h_S_

/-- The pairs at the slots. -/
def takePairs (p : FVec Ideal S4x2048x2 .f32) (i : IVec S4x512x1 32) : FVec Ideal S4x512x2 .f32 :=
  select (broadcastInDim S4x512x2 ![0, 1] bcast_S4x512_S4x512x2_0_1 (inside (slotOf i)))
    (Host.gather gather_S4x2048x2_S4x512x1_S4x512x2_2_1_0_0_1_2_112 p (slotOf i))
    (broadcastInDim S4x512x2 ![] bcast_S_S4x512x2 (constant (F := Ideal) S_ .f32 0x7FC00000#32))

/-- The pairs where the score is above zero, zero elsewhere. -/
def masked (v : FVec Ideal S4x512 .f32) (p : FVec Ideal S4x512x2 .f32) : FVec Ideal S4x512x2 .f32 :=
  select (broadcastInDim S4x512x2 ![0, 1, 2] bcast_S4x512x1_S4x512x2_0_1_2
      (cmpf .ogt (broadcastInDim S4x512x1 ![0, 1] bcast_S4x512_S4x512x1_0_1 v)
        (broadcastInDim S4x512x1 ![] bcast_S_S4x512x1 (constant (F := Ideal) S_ .f32 0x00000000#32))))
    p (broadcastInDim S4x512x2 ![] bcast_S_S4x512x2 (constant (F := Ideal) S_ .f32 0x00000000#32))

/-- The slots of the 512 greatest, as a column. -/
abbrev slots (w : FVec Ideal S4x2048 .f32) : IVec S4x512x1 32 := broadcastInDim S4x512x1 ![0, 1] bcast_S4x512_S4x512x1_0_1 (firsts w).2

variable (W : Valuation τ sig (Elt Ideal))

open StableHlo

theorem plain_rem : after (hostOps0 ++ hostOps0_1) W (Proc.devRef .tc main_arg1) = W (Proc.devRef .tc main_arg1)
    ∧ after (hostOps0 ++ hostOps0_1) W (Proc.devRef .tc main_arg0) = W (Proc.devRef .tc main_arg0)
    ∧ after (hostOps0 ++ hostOps0_1) W (Proc.devRef .tc main_v0) = quoArr (W (Proc.devRef .tc main_arg1)) := by
  unfold hostOps0 hostOps0_1
  simp only [List.cons_append, List.nil_append]
  refine ⟨?_, ?_, ?_⟩
  · after_results
  · after_results
  · after_results_simp; rfl

theorem plain_quo : after (hostOps0_2 ++ hostOps0_3) W (Proc.devRef .tc main_arg1) = W (Proc.devRef .tc main_arg1)
    ∧ after (hostOps0_2 ++ hostOps0_3) W (Proc.devRef .tc main_arg0) = W (Proc.devRef .tc main_arg0)
    ∧ after (hostOps0_2 ++ hostOps0_3) W (Proc.devRef .tc main_v1) = sitofp (F := Ideal) .f32 (W (Proc.devRef .tc main_v0) : IVec S4x2048 32)
    ∧ after (hostOps0_2 ++ hostOps0_3) W (Proc.devRef .tc main_v2) = remArr (W (Proc.devRef .tc main_arg1)) := by
  unfold hostOps0_2 hostOps0_3
  simp only [List.cons_append, List.nil_append]
  refine ⟨?_, ?_, ?_, ?_⟩
  · after_results
  · after_results
  · after_results_simp
  · after_results_simp; rfl

/-- The loop's entry. -/
theorem plain_entry (p : FVec Ideal S4x2048x2 .f32)
    (hp : p = pairs (sitofp (F := Ideal) .f32 (W (Proc.devRef .tc main_v2) : IVec S4x2048 32)) (W (Proc.devRef .tc main_v1))) :
    after hostOps0_4 W (Proc.devRef .tc main_arg1) = W (Proc.devRef .tc main_arg1)
    ∧ after hostOps0_4 W (Proc.devRef .tc main_arg0) = W (Proc.devRef .tc main_arg0)
    ∧ after hostOps0_4 W (Proc.devRef .tc main_v6) = p
    ∧ after hostOps0_4 W (Proc.devRef .tc main_v21_0) = distances p
    ∧ after hostOps0_4 W (Proc.devRef .tc main_v21_1) = iotaInDim S2048 32 0
    ∧ after hostOps0_4 W (Proc.devRef .tc main_v21_3) = (fun _ => 0#32 : IVec S_ 32)
    ∧ after hostOps0_4 W (Proc.devRef .tc main_v21_4) = aboves (W (Proc.devRef .tc main_arg0)) := by
  subst hp
  unfold hostOps0_4
  refine ⟨?_, ?_, ?_, ?_, ?_, ?_, ?_⟩
  · after_results
  · after_results
  · after_results_simp; rfl
  · after_results_simp; rfl
  · after_results_simp; rfl
  · after_results_simp; rfl
  · after_results_simp; rfl

/-- After the loop: the scores, the 512 greatest of them and their slots. -/
theorem plain_score (w : FVec Ideal S4x2048 .f32) (hw : w = scores (W (Proc.devRef .tc main_v21_4)) (W (Proc.devRef .tc main_arg0))) :
    after (hostOps0_5 ++ (hostOps0_6 ++ hostOps0_7)) W (Proc.devRef .tc main_values) = (firsts w).1
    ∧ after (hostOps0_5 ++ (hostOps0_6 ++ hostOps0_7)) W (Proc.devRef .tc main_v23) = slots w
    ∧ after (hostOps0_5 ++ (hostOps0_6 ++ hostOps0_7)) W (Proc.devRef .tc main_v6) = W (Proc.devRef .tc main_v6)
    ∧ after (hostOps0_5 ++ (hostOps0_6 ++ hostOps0_7)) W (Proc.devRef .tc main_arg0) = W (Proc.devRef .tc main_arg0)
    ∧ after (hostOps0_5 ++ (hostOps0_6 ++ hostOps0_7)) W (Proc.devRef .tc main_arg1) = W (Proc.devRef .tc main_arg1) := by
  subst hw
  unfold hostOps0_5 hostOps0_6 hostOps0_7
  simp only [List.cons_append, List.nil_append]
  refine ⟨?_, ?_, ?_, ?_, ?_⟩
  · after_results_simp; rfl
  · after_results_simp; rfl
  · after_results
  · after_results
  · after_results

theorem plain_take : after hostOps0_8 W (Proc.devRef .tc main_v24) = takePairs (W (Proc.devRef .tc main_v6)) (W (Proc.devRef .tc main_v23))
    ∧ after hostOps0_8 W (Proc.devRef .tc main_values) = W (Proc.devRef .tc main_values)
    ∧ after hostOps0_8 W (Proc.devRef .tc main_arg0) = W (Proc.devRef .tc main_arg0)
    ∧ after hostOps0_8 W (Proc.devRef .tc main_arg1) = W (Proc.devRef .tc main_arg1) := by
  unfold hostOps0_8
  refine ⟨?_, ?_, ?_, ?_⟩
  · after_results_simp; rfl
  · after_results
  · after_results
  · after_results

theorem plain_mask : after (hostOps0_9 ++ hostOps0_10) W (Proc.devRef .tc main_v28) = masked (W (Proc.devRef .tc main_values)) (W (Proc.devRef .tc main_v24))
    ∧ after (hostOps0_9 ++ hostOps0_10) W (Proc.devRef .tc main_values) = W (Proc.devRef .tc main_values)
    ∧ after (hostOps0_9 ++ hostOps0_10) W (Proc.devRef .tc main_arg0) = W (Proc.devRef .tc main_arg0)
    ∧ after (hostOps0_9 ++ hostOps0_10) W (Proc.devRef .tc main_arg1) = W (Proc.devRef .tc main_arg1) := by
  unfold hostOps0_9 hostOps0_10
  simp only [List.cons_append, List.nil_append]
  refine ⟨?_, ?_, ?_, ?_⟩
  · after_results_simp; rfl
  · after_results
  · after_results
  · after_results

end Cert.Proof.Nms
-- ==== Proof.Nms.PlainRun.lean ====
/-
  The plain suppression run whole: its two results as functions of its two arguments.
-/
module

public import proofs.«01_k».proof.Proof.Nms.Plain

@[expose] public section

noncomputable section

namespace Cert.Proof.Nms

open Cert.SelectReferenceIdeal Cert.SelectReferenceIdeal.Gen Cert.SelectReferenceIdeal.Value
open Idealize.ShloMosaic
open Idealize.ShloMosaic.TcCoe Idealize.ShloMosaic.Tactic
open Idealize.ShloMosaic.StableHlo
open Idealize.SL Idealize.SL.Sem

variable [Cert.SelectReferenceIdeal.Facts] [Cert.SelectIdeal.Facts]

variable (m : (ℓ : Loc nD τ sig) → Buf (Elt Ideal) ℓ) (ρ : Dev nD → PrngReg)

/-- What the loop's condition writes. -/
theorem cond_leaves (r : Ref sig .tc) (h : r ∉ condOps_W) (X : Valuation τ sig (Elt Ideal)) :
    after condOps X (Proc.devRef .tc r) = X (Proc.devRef .tc r) :=
  after_unwritten condOps_W rfl h X

/-- What no trip writes is as it was at the loop's entry. -/
theorem loop_leaves (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (k : ℕ) :
    atK m k c (Proc.devRef .tc r) = entryContents preI m c (Proc.devRef .tc r) := by
  induction k with
  | zero => rfl
  | succ k ih =>
    show after while0Ops0_4 (after while0Ops0_3 (after while0Ops0_2 (after while0Ops0_1 (after while0Ops0 (after condOps (atK m k c)))))) (Proc.devRef .tc r) = _
    rw [after_unwritten while0Ops0_4_W rfl h4, after_unwritten while0Ops0_3_W rfl h3, after_unwritten while0Ops0_2_W rfl h2,
      after_unwritten while0Ops0_1_W rfl h1, after_unwritten while0Ops0_W rfl h0, cond_leaves r hc, ih]

/-- What stands at the loop's entry. -/
theorem entry_contents (c : Dev nD) (x : FVec Ideal S4x2048 .f32) (a : IVec S4x2048 32)
    (hx : m ((c : Thread nD τ).loc main_arg0) = x) (ha : m ((c : Thread nD τ).loc main_arg1) = a) :
    entryContents preI m c (Proc.devRef .tc main_arg1) = a
    ∧ entryContents preI m c (Proc.devRef .tc main_arg0) = x
    ∧ entryContents preI m c (Proc.devRef .tc main_v6) = pairs (xs a) (ys a)
    ∧ entryContents preI m c (Proc.devRef .tc main_v21_0) = distances (pairs (xs a) (ys a))
    ∧ entryContents preI m c (Proc.devRef .tc main_v21_1) = iotaInDim S2048 32 0
    ∧ entryContents preI m c (Proc.devRef .tc main_v21_3) = (fun _ => 0#32 : IVec S_ 32)
    ∧ entryContents preI m c (Proc.devRef .tc main_v21_4) = aboves x := by
  have e : entryContents preI m c = after hostOps0_4 (after (hostOps0_2 ++ hostOps0_3) (after (hostOps0 ++ hostOps0_1) fun b => m (c, b))) := by
    rw [after_append, after_append]; rfl
  obtain ⟨r1, r2, r3⟩ := plain_rem fun b => m (c, b)
  obtain ⟨q1, q2, q3, q4⟩ := plain_quo (after (hostOps0 ++ hostOps0_1) fun b => m (c, b))
  have r1' := r1.trans ha
  have r2' := r2.trans hx
  have r3' : _ = quoArr a := r3.trans (congrArg quoArr ha)
  rw [r1'] at q1 q4
  rw [r2'] at q2
  rw [r3'] at q3
  have s := plain_entry (after (hostOps0_2 ++ hostOps0_3) (after (hostOps0 ++ hostOps0_1) fun b => m (c, b))) (pairs (xs a) (ys a)) (by rw [q3, q4]; rfl)
  rw [q1, q2] at s
  rw [e]
  exact s

/-- The mask after the loop. -/
def kept (x : FVec Ideal S4x2048 .f32) (a : IVec S4x2048 32) : IVec S4x2048 1 :=
  fun i => flag (pass (fun j => Ideal.ofBits .f32 1036831949#32 < x (ValueIdx.ix2 (i 0) j)) (nearOf (distances (pairs (xs a) (ys a))) (i 0)) 2048 (i 1))

theorem aboves_apply (x : FVec Ideal S4x2048 .f32) (b : Fin 4) (j : Fin 2048) :
    aboves x (ValueIdx.ix2 b j) = flag (Ideal.ofBits .f32 1036831949#32 < x (ValueIdx.ix2 b j)) := by
  rw [← flag_decide]
  unfold aboves
  pointwise []

theorem loop_mask (c : Dev nD) (x : FVec Ideal S4x2048 .f32) (a : IVec S4x2048 32)
    (hx : m ((c : Thread nD τ).loc main_arg0) = x) (ha : m ((c : Thread nD τ).loc main_arg1) = a) :
    atK m 2048 c (Proc.devRef .tc main_v21_4) = kept x a := by
  obtain ⟨-, -, -, e0, e1, e3, e4⟩ := entry_contents m c x a hx ha
  refine (atK_agree m c 2048 main_v21_4 (by decide)).trans ?_
  obtain ⟨-, -, -, h⟩ := after_trips (entryContents preI m c) (fun b j => Ideal.ofBits .f32 1036831949#32 < x (ValueIdx.ix2 b j)) e1 e3
    (fun b j => (congrFun e4 (ValueIdx.ix2 b j)).trans (aboves_apply x b j)) 2048 (le_refl _)
  rw [e0] at h
  funext i
  rw [ValueIdx.eq_ix2 i]
  exact h _ _

/-- The scores of the plain suppression. -/
def plainScores (x : FVec Ideal S4x2048 .f32) (a : IVec S4x2048 32) : FVec Ideal S4x2048 .f32 := scores (kept x a) x

/-- Its picked positions. -/
def plainPos (x : FVec Ideal S4x2048 .f32) (a : IVec S4x2048 32) : FVec Ideal S4x512x2 .f32 :=
  masked (firsts (plainScores x a)).1 (takePairs (pairs (xs a) (ys a)) (slots (plainScores x a)))

/-- Its picked values. -/
def plainVal (x : FVec Ideal S4x2048 .f32) (a : IVec S4x2048 32) : FVec Ideal S4x512 .f32 := (firsts (plainScores x a)).1

theorem final_contents (c : Dev nD) (x : FVec Ideal S4x2048 .f32) (a : IVec S4x2048 32)
    (hx : m ((c : Thread nD τ).loc main_arg0) = x) (ha : m ((c : Thread nD τ).loc main_arg1) = a) :
    finalContents condOps preI bodyI postI 2048 m c (Proc.devRef .tc main_v28) = plainPos x a
    ∧ finalContents condOps preI bodyI postI 2048 m c (Proc.devRef .tc main_values) = plainVal x a
    ∧ finalContents condOps preI bodyI postI 2048 m c (Proc.devRef .tc main_arg0) = x
    ∧ finalContents condOps preI bodyI postI 2048 m c (Proc.devRef .tc main_arg1) = a := by
  obtain ⟨e1, e0, e6, -⟩ := entry_contents m c x a hx ha
  have k := loop_mask m c x a hx ha
  have k0 := (loop_leaves m c main_arg0 (by decide) (by decide) (by decide) (by decide) (by decide) (by decide) 2048).trans e0
  have k1 := (loop_leaves m c main_arg1 (by decide) (by decide) (by decide) (by decide) (by decide) (by decide) 2048).trans e1
  have k6 := (loop_leaves m c main_v6 (by decide) (by decide) (by decide) (by decide) (by decide) (by decide) 2048).trans e6
  have c4 := (cond_leaves main_v21_4 (by decide) (atK m 2048 c)).trans k
  have c0 := (cond_leaves main_arg0 (by decide) (atK m 2048 c)).trans k0
  have c1 := (cond_leaves main_arg1 (by decide) (atK m 2048 c)).trans k1
  have c6 := (cond_leaves main_v6 (by decide) (atK m 2048 c)).trans k6
  generalize hX : after condOps (atK m 2048 c) = X at c4 c0 c1 c6
  have e : finalContents condOps preI bodyI postI 2048 m c
      = after (hostOps0_9 ++ hostOps0_10) (after hostOps0_8 (after (hostOps0_5 ++ (hostOps0_6 ++ hostOps0_7)) X)) := by
    rw [← hX, after_append, after_append, after_append]; rfl
  obtain ⟨s1, s2, s3, s4, s5⟩ := plain_score X (plainScores x a) (by rw [c4, c0]; rfl)
  obtain ⟨t1, t2, t3, t4⟩ := plain_take (after (hostOps0_5 ++ (hostOps0_6 ++ hostOps0_7)) X)
  obtain ⟨u1, u2, u3, u4⟩ := plain_mask (after hostOps0_8 (after (hostOps0_5 ++ (hostOps0_6 ++ hostOps0_7)) X))
  rw [s3, s2, c6] at t1
  rw [s1] at t2
  rw [s4, c0] at t3
  rw [s5, c1] at t4
  rw [t2, t1] at u1
  rw [e]
  exact ⟨u1, u2.trans t2, u3.trans t3, u4.trans t4⟩

/-- The plain suppression, run. -/
theorem run_plain : θ_run (defs (F := Ideal)) (onTc (main (F := Ideal))) ⟨m, fun _ => 0, ρ⟩ fun r => ∀ c : Dev nD,
      r.2.mem ((c : Thread nD τ).loc main_v28) = plainPos (m ((c : Thread nD τ).loc main_arg0)) (m ((c : Thread nD τ).loc main_arg1))
      ∧ r.2.mem ((c : Thread nD τ).loc main_values) = plainVal (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono ?_ (run_fold (F := Ideal) m ρ)
  intro r h c
  obtain ⟨f1, f2, f3, f4⟩ := final_contents m c _ _ rfl rfl
  exact ⟨(h c main_v28 rfl).trans f1, (h c main_values rfl).trans f2, (h c main_arg0 rfl).trans f3, (h c main_arg1 rfl).trans f4⟩

end Cert.Proof.Nms
-- ==== Proof.Nms.Whole.lean ====
/-
  The two results of the suppression program as functions of its two arguments.
-/
module

public import proofs.«01_k».proof.Proof.Nms.Coords

@[expose] public section

noncomputable section

namespace Cert.Proof.Nms

open Cert.SelectIdeal Cert.SelectIdeal.Gen
open Idealize.ShloMosaic
open Idealize.ShloMosaic.TcCoe Idealize.ShloMosaic.Tactic
open Idealize.SL Idealize.SL.Sem

variable [Cert.SelectIdeal.Facts]

/-- The picked positions, from the candidates' values and positions. -/
def posOf (x : FVec Ideal S4x2048 .f32) (a : IVec S4x2048 32) : FVec Ideal S4x512x2 .f32 :=
  allPos (asRow x) (asCol x) (asCol (xs a)) (asCol (ys a)) (asRow (xs a)) (asRow (ys a))

/-- The picked values, from the candidates' values and positions. -/
def valOf (x : FVec Ideal S4x2048 .f32) (a : IVec S4x2048 32) : FVec Ideal S4x512 .f32 :=
  shapeCast S4x512 (allVal (asRow x) (asCol x) (asCol (xs a)) (asCol (ys a)) (asRow (xs a)) (asRow (ys a))) shapeCasts_S4x512x1_S4x512

variable (m : (ℓ : Loc nD τ sig) → Buf (Elt Ideal) ℓ) (g : Dev nD → PrngReg)

/-- The host's last line. -/
theorem last_line (W : Valuation τ sig (Elt Ideal)) :
    StableHlo.after hostOps1 W (Proc.devRef .tc main_v11) = shapeCast S4x512 (W (Proc.devRef .tc main_v10_1) : FVec Ideal S4x512x1 .f32) shapeCasts_S4x512x1_S4x512
      ∧ StableHlo.after hostOps1 W (Proc.devRef .tc main_arg0) = W (Proc.devRef .tc main_arg0)
      ∧ StableHlo.after hostOps1 W (Proc.devRef .tc main_arg1) = W (Proc.devRef .tc main_arg1) := by
  unfold hostOps1
  refine ⟨?_, ?_, ?_⟩
  · after_results_simp; rfl
  · after_results
  · after_results

theorem arrays_apart : Function.Injective (Pipeline.arrRef spec0) := by decide

theorem arg0_apart : ∀ w, Pipeline.arrRef spec0 w ≠ main_arg0 := by decide
theorem arg1_apart : ∀ w, Pipeline.arrRef spec0 w ≠ main_arg1 := by decide
theorem rest_v11 : main_v11 ∈ Pipeline.restRefs sig spec0 := by decide
theorem rest_arg0 : main_arg0 ∈ Pipeline.restRefs sig spec0 := by decide
theorem rest_arg1 : main_arg1 ∈ Pipeline.restRefs sig spec0 := by decide

/-- The program, run: its two results and its two arguments at the end. -/
theorem run_read : θ_run (defs (F := Ideal)) (onTc (main (F := Ideal))) ⟨m, fun _ => 0, g⟩ fun r => (∀ c : Dev nD,
      r.2.mem ((c : Thread nD τ).loc main_v10_0) = posOf (m ((c : Thread nD τ).loc main_arg0)) (m ((c : Thread nD τ).loc main_arg1))
      ∧ r.2.mem ((c : Thread nD τ).loc main_v11) = valOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 := by
  refine (θ_run defs _ _).mono ?_ (run_select m g)
  intro r ⟨h, hs⟩
  refine ⟨fun c => ?_, hs⟩
  obtain ⟨hw, hr⟩ := h c
  obtain ⟨s1, s2, s3, s4, s5, s6, s7, s8⟩ := start_arrays m c
  have l := last_line (Pipeline.withArrays spec0 c (start m c) fun w => (dat (start m) c).arrAt w (cfg0 (F := Ideal)).N)
  refine ⟨?_, ?_, ?_, ?_⟩
  · refine (hw (6 : Fin 8)).trans ?_
    refine (final_pos (start m) c).trans ?_
    unfold posOf arr
    rw [s1, s2, s3, s4, s5, s6]
  · refine (hr _ rest_v11).trans (l.1.trans ?_)
    have e := Pipeline.withArrays_arr spec0 arrays_apart c (start m c) (fun w => (dat (start m) c).arrAt w (cfg0 (F := Ideal)).N) (7 : Fin 8)
    have e2 := final_val (start m) c
    unfold arr at e2
    rw [s1, s2, s3, s4, s5, s6] at e2
    unfold valOf
    exact congrArg (fun z => shapeCast S4x512 z shapeCasts_S4x512x1_S4x512) (e.trans e2)
  · exact (hr _ rest_arg0).trans (l.2.1.trans ((Pipeline.withArrays_of_ne spec0 c _ _ main_arg0 arg0_apart).trans s8))
  · exact (hr _ rest_arg1).trans (l.2.2.trans ((Pipeline.withArrays_of_ne spec0 c _ _ main_arg1 arg1_apart).trans s7))

end Cert.Proof.Nms
-- ==== Proof.Nms.Near.lean ====
/-
  The closeness that both programs measure between two candidates of an image is the same number.
-/
module

public import proofs.«01_k».proof.Proof.Nms.PlainRun
public import proofs.«01_k».proof.Proof.Nms.Whole

@[expose] public section

noncomputable section

namespace Cert.Proof.Nms

open Idealize.ShloMosaic

variable [Cert.SelectReferenceIdeal.Facts] [Cert.SelectIdeal.Facts]

open Cert.SelectReferenceIdeal in
/-- A candidate's pair, read. -/
theorem pairs_apply (x y : FVec Ideal S4x2048 .f32) (b : Fin 4) (j : Fin 2048) :
    pairs x y (ValueIdx.ix3 b j 0) = x (ValueIdx.ix2 b j) ∧ pairs x y (ValueIdx.ix3 b j 1) = y (ValueIdx.ix2 b j) := by
  constructor
  · pointwise [pairs]
    rfl
  · pointwise [pairs]
    rfl

open Cert.SelectReferenceIdeal in
theorem lengths_apply (p : FVec Ideal S4x2048x2 .f32) (b : Fin 4) (j : Fin 2048) :
    lengths p (ValueIdx.ix2 b j) = p (ValueIdx.ix3 b j 0) * p (ValueIdx.ix3 b j 0) + p (ValueIdx.ix3 b j 1) * p (ValueIdx.ix3 b j 1) := by
  pointwise [lengths]
  exact Fin.sum_univ_two _

open Cert.SelectReferenceIdeal in
theorem distances_apply (p : FVec Ideal S4x2048x2 .f32) (b : Fin 4) (i j : Fin 2048) :
    distances p (ValueIdx.ix3 b i j) = (lengths p (ValueIdx.ix2 b i) + lengths p (ValueIdx.ix2 b j))
      - Ideal.ofBits .f32 1073741824#32 * (p (ValueIdx.ix3 b i 0) * p (ValueIdx.ix3 b j 0) + p (ValueIdx.ix3 b i 1) * p (ValueIdx.ix3 b j 1)) := by
  pointwise [distances]
  exact congrArg (fun z => (lengths p (ValueIdx.ix2 b i) + lengths p (ValueIdx.ix2 b j)) - Ideal.ofBits .f32 1073741824#32 * z) (Fin.sum_univ_two _)

open Cert.SelectIdeal in
theorem slab_row (x : FVec Ideal S4x2048 .f32) (b : Fin 4) (j : Fin 2048) : slab (asRow x) b (ValueIdx.ix3 0 0 j) = x (ValueIdx.ix2 b j) := by
  unfold slab asRow
  pointwise []
  rfl

open Cert.SelectIdeal in
theorem slab_col (x : FVec Ideal S4x2048 .f32) (b : Fin 4) (j : Fin 2048) : slab (asCol x) b (ValueIdx.ix3 0 j 0) = x (ValueIdx.ix2 b j) := by
  unfold slab asCol
  pointwise []
  rfl

open Cert.SelectIdeal Cert.SelectIdeal.Gen in
/-- The suppression kernel's distance, read. -/
theorem pay12_apply (X Y : FVec Ideal S4x2048 .f32) (b : Fin 4) (i j : Fin 2048) :
    k0_pay12 (F := Ideal) (slab (asCol X) b) (slab (asCol Y) b) (slab (asRow X) b) (slab (asRow Y) b) (ValueIdx.ix2 i j)
      = (X (ValueIdx.ix2 b i) * X (ValueIdx.ix2 b i) + Y (ValueIdx.ix2 b i) * Y (ValueIdx.ix2 b i)
          + (X (ValueIdx.ix2 b j) * X (ValueIdx.ix2 b j) + Y (ValueIdx.ix2 b j) * Y (ValueIdx.ix2 b j)))
        - Ideal.ofBits .f32 1073741824#32 * (X (ValueIdx.ix2 b i) * X (ValueIdx.ix2 b j) + Y (ValueIdx.ix2 b i) * Y (ValueIdx.ix2 b j)) := by
  rw [← slab_col X b i, ← slab_col Y b i, ← slab_row X b j, ← slab_row Y b j]
  generalize slab (asCol X) b = f3
  generalize slab (asCol Y) b = f4
  generalize slab (asRow X) b = f5
  generalize slab (asRow Y) b = f6
  pointwise [k0_pay12, k0_pay10, k0_pay11]
  rfl

open Cert.SelectIdeal Cert.SelectIdeal.Gen in
/-- The two programs find the same candidates close. -/
theorem closer_iff (X Y : FVec Ideal S4x2048 .f32) (b : Fin 4) :
    closer (k0_pay12 (F := Ideal) (slab (asCol X) b) (slab (asCol Y) b) (slab (asRow X) b) (slab (asRow Y) b)) = nearOf (distances (pairs X Y)) b := by
  funext i j
  refine congrArg (· < Ideal.ofBits .f32 1091567616#32) ?_
  refine (pay12_apply X Y b i j).trans (Eq.symm ?_)
  rw [distances_apply, lengths_apply, lengths_apply, (pairs_apply X Y b i).1, (pairs_apply X Y b i).2, (pairs_apply X Y b j).1, (pairs_apply X Y b j).2]

open Cert.SelectIdeal Cert.SelectIdeal.Gen in
/-- The two programs find the same candidates bright. -/
theorem bright_iff (x : FVec Ideal S4x2048 .f32) (b : Fin 4) :
    bright (k0_pay8 (F := Ideal) (slab (asRow x) b)) = fun j => Ideal.ofBits .f32 1036831949#32 < x (ValueIdx.ix2 b j) := by
  funext j
  refine congrArg (Ideal.ofBits .f32 1036831949#32 < ·) (Eq.trans ?_ (slab_row x b j))
  generalize slab (asRow x) b = f1
  pointwise [k0_pay8]
  rfl

open Cert.SelectIdeal Cert.SelectIdeal.Gen in
/-- The candidates of image `b` that the greedy pass keeps. -/
def chosen (x : FVec Ideal S4x2048 .f32) (a : IVec S4x2048 32) (b : Fin 4) : Fin 2048 → Prop :=
  pass (fun j => Ideal.ofBits .f32 1036831949#32 < x (ValueIdx.ix2 b j)) (nearOf (distances (pairs (xs a) (ys a))) b) 2048

open Cert.SelectIdeal Cert.SelectIdeal.Gen in
/-- The kernel's choice is the plain pass's. -/
theorem choice_eq (x : FVec Ideal S4x2048 .f32) (a : IVec S4x2048 32) (b : Fin 4) :
    choice (slab (asRow x) b) (slab (asCol (xs a)) b) (slab (asCol (ys a)) b) (slab (asRow (xs a)) b) (slab (asRow (ys a)) b) = chosen x a b := by
  unfold choice chosen
  rw [closer_iff, bright_iff]

end Cert.Proof.Nms
-- ==== Proof.Nms.Picked.lean ====
/-
  The suppression kernel's picking: row `s` of its result is the candidate of rank `s + 1` among the kept ones.
-/
module

public import proofs.«01_k».proof.Proof.Nms.Pick
public import proofs.«01_k».proof.Proof.Nms.Near

@[expose] public section

noncomputable section

namespace Cert.Proof.Nms

open Cert.SelectIdeal Cert.SelectIdeal.Gen
open Idealize.ShloMosaic

variable [Cert.SelectIdeal.Facts]

theorem sle_small (i j : Fin 2048) : IntOp.cmpi .sle (BitVec.ofNat 32 i.val) (BitVec.ofNat 32 j.val) = BitVec.ofBool (decide (i ≤ j)) := by
  show BitVec.ofBool (BitVec.sle (BitVec.ofNat 32 i.val) (BitVec.ofNat 32 j.val)) = _
  rw [BitVec.sle_eq_decide, toInt_small, toInt_small]
  exact congrArg BitVec.ofBool (decide_eq_decide.2 (by rw [Fin.le_def]; omega))

theorem sitofp_small (s : Fin 512) : FloatOps.sitofp (F := Ideal) .f32 (BitVec.ofNat 32 s.val) = ((s.val : ℝ) : EReal) := by
  show (((BitVec.ofNat 32 s.val).toInt : ℝ) : EReal) = _
  rw [toInt_small ⟨s.val, by omega⟩]
  simp

/-- A choice by a test is the choice by what it tests. -/
theorem select_ofBool {α : Type} (P : Prop) [Decidable P] (x y : α) : Scalar.select (BitVec.ofBool (decide P)) x y = if P then x else y := by
  by_cases h : P <;> simp [Scalar.select, h]

theorem select_both {α : Type} (P Q : Prop) [Decidable P] [Decidable Q] (x y : α) :
    Scalar.select (IntOp.andi (BitVec.ofBool (decide P)) (BitVec.ofBool (decide Q))) x y = if P ∧ Q then x else y := by
  by_cases h : P <;> by_cases h' : Q <;> simp [Scalar.select, IntOp.andi, h, h']

/-- The row that counts the kept places, read. -/
theorem counted (K : Fin 2048 → Prop) (j : Fin 2048) :
    ∑ i : Fin 2048, Scalar.select (IntOp.cmpi .sle (BitVec.ofNat 32 i.val) (BitVec.ofNat 32 j.val)) (ind (K i)) 0 = ((rank K j : ℝ) : EReal) := by
  rw [← sum_ind_rank]
  refine Finset.sum_congr rfl fun i _ => ?_
  rw [sle_small, select_ofBool]
  by_cases h : i ≤ j
  · rw [if_pos h]
    exact ind_congr ⟨fun hk => ⟨hk, h⟩, fun hk => hk.1⟩
  · rw [if_neg h, ind_false fun hk => h hk.2]

open Classical in
/-- One row of the picked candidates: the sum over the candidates of rank `s + 1` that are kept. -/
theorem pay16_apply (v x y : FVec Ideal S2048x1 .f32) (K : Fin 2048 → Prop) (s : Fin 512) (c : Fin 3) :
    k0_pay16 (F := Ideal) v x y places (row K) (ValueIdx.ix2 s c)
      = ∑ j, if rank K j = s.val + 1 ∧ K j then ((![v, x, y] : Fin 3 → FVec Ideal S2048x1 .f32) c) (ValueIdx.ix2 j 0) else 0 := by
  pointwise [k0_pay16]
  refine Finset.sum_congr rfl fun j _ => ?_
  refine (select_both _ _ _ _).trans ?_
  have hs := sitofp_small s
  have hr := rank_sub_one (rank K j) s.val
  rw [← counted K j, ← hs] at hr
  have hk : 0 < row K (ix2 0 j) ↔ K j := ind_pos
  refine (if_congr (and_congr hr hk) ?_ rfl)
  match c with
  | 0 => rfl
  | 1 => rfl
  | 2 => rfl

end Cert.Proof.Nms
-- ==== Proof.Nms.Listed.lean ====
/-
  The plain suppression's listing, read: place `s` of its 512 is the candidate that sorted place `s` names, where that
  candidate is kept.
-/
module

public import proofs.«01_k».proof.Proof.Take
public import proofs.«01_k».proof.Proof.Nms.Pick
public import proofs.«01_k».proof.Proof.Nms.Near

@[expose] public section

noncomputable section

namespace Cert.Proof.Nms

open Cert.SelectReferenceIdeal Cert.SelectReferenceIdeal.Gen
open Idealize.ShloMosaic

variable [Cert.SelectReferenceIdeal.Facts] [Cert.SelectIdeal.Facts]

/-- The row of image `b`. -/
abbrev line (x : FVec Ideal S4x2048 .f32) (b : Fin 4) : Fin 2048 → EReal := fun j => x (ValueIdx.ix2 b j)

/-- The candidate that place `s` of the listing names. -/
def named (w : Fin 2048 → EReal) (s : Fin 512) : Fin 2048 := sortedFrom (ahead w) (s.castLE (by decide))

theorem firsts_apply (w : FVec Ideal S4x2048 .f32) (b : Fin 4) (s : Fin 512) :
    (firsts w).1 (ValueIdx.ix2 b s) = line w b (named (line w b) s)
      ∧ (firsts w).2 (ValueIdx.ix2 b s) = BitVec.ofNat 32 (named (line w b) s).val :=
  topK_first w sliceFits_S4x2048_S4x512 (by decide) b s

theorem plainScores_apply (x : FVec Ideal S4x2048 .f32) (a : IVec S4x2048 32) (b : Fin 4) :
    line (plainScores x a) b = zeroed (chosen x a b) (line x b) := by
  classical
  funext j
  show Scalar.select (flag (chosen x a b j)) (x (ValueIdx.ix2 b j)) (Ideal.ofBits .f32 0x00000000#32) = _
  rw [← flag_decide, Ideal.ofBits_zero_f32]
  unfold zeroed
  by_cases h : chosen x a b j <;> simp [Scalar.select, h]

/-- Where the look-up of pairs reads for a start index `k` in range: the same image, candidate `k`. -/
theorem pairs_place (p : FVec Ideal S4x2048x2 .f32) (i : IVec S4x512x1 32) (b : Fin 4) (s : Fin 512) (c : Fin 2) (k : Fin 2048)
    (h : i (ValueIdx.ix3 b s 0) = BitVec.ofNat 32 k.val) :
    Host.gather gather_S4x2048x2_S4x512x1_S4x512x2_2_1_0_0_1_2_112 p i (ValueIdx.ix3 b s c) = p (ValueIdx.ix3 b k c) := by
  unfold Host.gather
  refine congrArg p (funext fun a => ?_)
  match a with
  | ⟨0, _⟩ =>
    refine Fin.ext ?_
    show gather_S4x2048x2_S4x512x1_S4x512x2_2_1_0_0_1_2_112.start _ i 0 + gather_S4x2048x2_S4x512x1_S4x512x2_2_1_0_0_1_2_112.batchCoord _ 0
      + gather_S4x2048x2_S4x512x1_S4x512x2_2_1_0_0_1_2_112.offCoord _ 0 = b.val
    rw [GatherDims.start_batching _ _ _ _ (List.mem_singleton.2 rfl),
      GatherDims.offCoord_eq_zero _ _ _ (fun h => ((GatherDims.mem_sKept _ _).1 h).2 (List.mem_singleton.2 rfl))]
    unfold GatherDims.batchCoord
    rw [dif_pos (show (0 : Fin S4x2048x2.rank) ∈ gather_S4x2048x2_S4x512x1_S4x512x2_2_1_0_0_1_2_112.operandBatchingDims from List.mem_singleton.2 rfl),
      Nat.zero_add, Nat.add_zero]
    rfl
  | ⟨1, _⟩ =>
    refine Fin.ext ?_
    show gather_S4x2048x2_S4x512x1_S4x512x2_2_1_0_0_1_2_112.start _ i 1 + gather_S4x2048x2_S4x512x1_S4x512x2_2_1_0_0_1_2_112.batchCoord _ 1
      + gather_S4x2048x2_S4x512x1_S4x512x2_2_1_0_0_1_2_112.offCoord _ 1 = k.val
    have hc : (1 : Fin S4x2048x2.rank) ∈ gather_S4x2048x2_S4x512x1_S4x512x2_2_1_0_0_1_2_112.collapsedSliceDims := List.mem_singleton.2 rfl
    have hb : (1 : Fin S4x2048x2.rank) ∉ gather_S4x2048x2_S4x512x1_S4x512x2_2_1_0_0_1_2_112.operandBatchingDims := fun h =>
      absurd (List.mem_singleton.1 h) (by decide)
    rw [GatherDims.batchCoord_eq_zero _ _ _ hb, GatherDims.offCoord_eq_zero _ _ _ (fun h => ((GatherDims.mem_sKept _ _).1 h).1 hc)]
    unfold GatherDims.start
    rw [dif_pos (show (1 : Fin S4x2048x2.rank) ∈ gather_S4x2048x2_S4x512x1_S4x512x2_2_1_0_0_1_2_112.startIndexMap from List.mem_singleton.2 rfl)]
    have e : ∀ q, gather_S4x2048x2_S4x512x1_S4x512x2_2_1_0_0_1_2_112.siIdx (ValueIdx.ix3 b s c) q = ValueIdx.ix3 b s 0 := by
      intro q
      funext e
      match e with
      | ⟨0, _⟩ => rfl
      | ⟨1, _⟩ => rfl
      | ⟨2, _⟩ => exact Subsingleton.elim (α := Fin 1) _ _
    rw [e, h]
    have hk := k.isLt
    show min (BitVec.ofNat 32 k.val).toInt.toNat (2048 - 1) = k.val
    rw [toInt_small k]
    omega
  | ⟨2, _⟩ =>
    refine Fin.ext ?_
    show gather_S4x2048x2_S4x512x1_S4x512x2_2_1_0_0_1_2_112.start _ i 2 + gather_S4x2048x2_S4x512x1_S4x512x2_2_1_0_0_1_2_112.batchCoord _ 2
      + gather_S4x2048x2_S4x512x1_S4x512x2_2_1_0_0_1_2_112.offCoord _ 2 = c.val
    have hb : (2 : Fin S4x2048x2.rank) ∉ gather_S4x2048x2_S4x512x1_S4x512x2_2_1_0_0_1_2_112.operandBatchingDims := fun h =>
      absurd (List.mem_singleton.1 h) (by decide)
    have hs : (2 : Fin S4x2048x2.rank) ∉ gather_S4x2048x2_S4x512x1_S4x512x2_2_1_0_0_1_2_112.startIndexMap := fun h =>
      absurd (List.mem_singleton.1 h) (by decide)
    rw [GatherDims.batchCoord_eq_zero _ _ _ hb]
    unfold GatherDims.start
    rw [dif_neg hs]
    have hk : (2 : Fin S4x2048x2.rank) ∈ gather_S4x2048x2_S4x512x1_S4x512x2_2_1_0_0_1_2_112.sKept := by decide
    unfold GatherDims.offCoord
    rw [dif_pos hk]
    show 0 + 0 + _ = c.val
    rw [Nat.zero_add]
    rfl

/-- The pairs at slots in range. -/
theorem takePairs_apply (p : FVec Ideal S4x2048x2 .f32) (i : IVec S4x512x1 32) (k : Fin 4 → Fin 512 → Fin 2048)
    (h : ∀ b s, i (ValueIdx.ix3 b s 0) = BitVec.ofNat 32 (k b s).val) (b : Fin 4) (s : Fin 512) (c : Fin 2) :
    takePairs p i (ValueIdx.ix3 b s c) = p (ValueIdx.ix3 b (k b s) c) := by
  have hl : ∀ b s, slotOf i (ValueIdx.ix3 b s 0) = BitVec.ofNat 32 (k b s).val := by
    intro b s
    have hk := (k b s).isLt
    show (if IntOp.cmpi .slt (i (ValueIdx.ix3 b s 0)) (BitVec.ofNat 32 0) = 1#1 then _ else i (ValueIdx.ix3 b s 0)) = _
    rw [h, if_neg]
    rw [WordCmp.cmpi_slt_ofNat_eq_one_iff (by omega) (by omega)]
    omega
  have hw : inside (slotOf i) (ValueIdx.ix2 b s) = 1#1 := by
    unfold inside
    refine Host.reduce_andi_one _ _ _ _ _ rfl fun q => ?_
    obtain ⟨b', s', rfl⟩ : ∃ b' s', q = ValueIdx.ix3 b' s' 0 := ⟨q 0, q 1, by
      refine (ValueIdx.eq_ix3 q).trans ?_
      exact congrArg (ValueIdx.ix3 (q 0) (q 1)) (Subsingleton.elim (α := Fin 1) _ _)⟩
    have hk := (k b' s').isLt
    refine IntOp.andi_eq_one.2 ⟨?_, ?_⟩
    · show IntOp.cmpi .sge (slotOf i (ValueIdx.ix3 b' s' 0)) (BitVec.ofNat 32 0) = 1#1
      rw [hl, WordCmp.cmpi_sge_ofNat_eq_one_iff (by omega) (by omega)]
      omega
    · show IntOp.cmpi .sle (slotOf i (ValueIdx.ix3 b' s' 0)) (BitVec.ofNat 32 2047) = 1#1
      rw [hl, WordCmp.cmpi_sle_ofNat_eq_one_iff (by omega) (by omega)]
      omega
  unfold takePairs select Scalar.select
  have hb : (broadcastInDim S4x512x2 ![0, 1] bcast_S4x512_S4x512x2_0_1 (inside (slotOf i))) (ValueIdx.ix3 b s c) = (1 : BitVec 1) := by
    refine Eq.trans ?_ hw
    generalize inside (slotOf i) = z
    pointwise []
    rfl
  rw [if_pos hb]
  exact pairs_place p _ b s c (k b s) (hl b s)

/-- The slots' column, read. -/
theorem slots_apply (w : FVec Ideal S4x2048 .f32) (b : Fin 4) (s : Fin 512) :
    slots w (ValueIdx.ix3 b s 0) = BitVec.ofNat 32 (named (line w b) s).val := by
  refine Eq.trans ?_ (firsts_apply w b s).2
  show broadcastInDim S4x512x1 ![0, 1] bcast_S4x512_S4x512x1_0_1 (firsts w).2 (ValueIdx.ix3 b s 0) = _
  generalize (firsts w).2 = z
  pointwise []
  rfl

open Classical in
theorem masked_apply (v : FVec Ideal S4x512 .f32) (p : FVec Ideal S4x512x2 .f32) (b : Fin 4) (s : Fin 512) (c : Fin 2) :
    masked v p (ValueIdx.ix3 b s c) = if 0 < v (ValueIdx.ix2 b s) then p (ValueIdx.ix3 b s c) else 0 := by
  pointwise [masked]
  exact if_congr Iff.rfl rfl rfl

end Cert.Proof.Nms
-- ==== Proof.Nms.Same.lean ====
/-
  Where the values of every image never rise, the suppression kernel and the plain suppression list the same positions
  and the same scores.
-/
module

public import proofs.«01_k».proof.Proof.Nms.Picked
public import proofs.«01_k».proof.Proof.Nms.Listed

@[expose] public section

noncomputable section

namespace Cert.Proof.Nms

open Cert.SelectIdeal Cert.SelectIdeal.Gen
open Idealize.ShloMosaic

variable [Cert.SelectReferenceIdeal.Facts] [Cert.SelectIdeal.Facts]

theorem threshold_pos : (0 : EReal) < Ideal.ofBits .f32 1036831949#32 := by
  simp [Ideal.ofBits, Ideal.ieee, -EReal.coe_mul]

/-- A kept candidate's value is above zero. -/
theorem chosen_pos (x : FVec Ideal S4x2048 .f32) (a : IVec S4x2048 32) (b : Fin 4) (j : Fin 2048) (h : chosen x a b j) : 0 < line x b j :=
  threshold_pos.trans ((pass_iff _ _ _ _).1 h).1

variable (x : FVec Ideal S4x2048 .f32) (a : IVec S4x2048 32)

/-- The candidate that place `s` of image `b` lists. -/
def listed (b : Fin 4) (s : Fin 512) : Fin 2048 := named (zeroed (chosen x a b) (line x b)) s

open Classical in
/-- One row of the kernel's result: what the listed candidate holds, where it is kept. -/
theorem picked_apply (b : Fin 4) (hx : Antitone (line x b)) (v y z : FVec Ideal S2048x1 .f32) (s : Fin 512) (c : Fin 3) :
    k0_pay16 (F := Ideal) v y z places (row (chosen x a b)) (ValueIdx.ix2 s c)
      = if chosen x a b (listed x a b s) then ((![v, y, z] : Fin 3 → FVec Ideal S2048x1 .f32) c) (ValueIdx.ix2 (listed x a b s) 0) else 0 := by
  rw [pay16_apply]
  generalize (![v, y, z] : Fin 3 → FVec Ideal S2048x1 .f32) c = u
  have h := sum_rank (K := chosen x a b) (v := line x b) hx (chosen_pos x a b) (fun j => u (ValueIdx.ix2 j 0)) (s.castLE (show 512 ≤ 2048 by omega))
  rw [Fin.val_castLE] at h
  exact h

/-- A column of one image, read. -/
theorem column_apply (y : FVec Ideal S4x2048 .f32) (b : Fin 4) (j : Fin 2048) :
    k0_pay9 (F := Ideal) (slab (asCol y) b) (ValueIdx.ix2 j 0) = y (ValueIdx.ix2 b j)
      ∧ k0_pay10 (F := Ideal) (slab (asCol y) b) (ValueIdx.ix2 j 0) = y (ValueIdx.ix2 b j)
      ∧ k0_pay11 (F := Ideal) (slab (asCol y) b) (ValueIdx.ix2 j 0) = y (ValueIdx.ix2 b j) := by
  rw [← slab_col y b j]
  generalize slab (asCol y) b = f
  refine ⟨?_, ?_, ?_⟩
  · pointwise [k0_pay9]
    rfl
  · pointwise [k0_pay10]
    rfl
  · pointwise [k0_pay11]
    rfl

/-- The kernel's rows of one image. -/
abbrev rowsOf (b : Fin 4) : FVec Ideal S512x3 .f32 :=
  k0_pay16 (F := Ideal) (k0_pay9 (slab (asCol x) b)) (k0_pay10 (slab (asCol (xs a)) b)) (k0_pay11 (slab (asCol (ys a)) b)) places (row (chosen x a b))

/-- The two results are the rows' first column and the two others. -/
theorem columns_apply (z : FVec Ideal S512x3 .f32) (s : Fin 512) (c : Fin 2) :
    k0_pay1 (extractStridedSlice S512x1 ![0, 0] z slices_S512x3_o0_0_S512x1) (ValueIdx.ix3 0 s 0) = z (ValueIdx.ix2 s 0)
      ∧ k0_pay2 z (ValueIdx.ix3 0 s c) = z (ValueIdx.ix2 s c.succ) := by
  constructor
  · pointwise [k0_pay1]
    rfl
  · pointwise [k0_pay2]
    refine congrArg (fun k => z (ValueIdx.ix2 s k)) (Fin.ext ?_)
    exact Nat.add_comm _ _

theorem valOf_rows (b : Fin 4) (s : Fin 512) : valOf x a (ValueIdx.ix2 b s) = rowsOf x a b (ValueIdx.ix2 s 0) := by
  unfold valOf
  have e : shapeCast S4x512 (allVal (asRow x) (asCol x) (asCol (xs a)) (asCol (ys a)) (asRow (xs a)) (asRow (ys a))) shapeCasts_S4x512x1_S4x512 (ValueIdx.ix2 b s)
      = allVal (asRow x) (asCol x) (asCol (xs a)) (asCol (ys a)) (asRow (xs a)) (asRow (ys a)) (ValueIdx.ix3 b s 0) := by
    generalize allVal (asRow x) (asCol x) (asCol (xs a)) (asCol (ys a)) (asRow (xs a)) (asRow (ys a)) = z
    pointwise []
    rfl
  refine e.trans ?_
  show outVal (slab (asRow x) b) (slab (asCol x) b) (slab (asCol (xs a)) b) (slab (asCol (ys a)) b) (slab (asRow (xs a)) b) (slab (asRow (ys a)) b) (ValueIdx.ix3 0 s 0) = _
  unfold outVal
  rw [choice_eq]
  exact (columns_apply (rowsOf x a b) s 0).1

theorem posOf_rows (b : Fin 4) (s : Fin 512) (c : Fin 2) : posOf x a (ValueIdx.ix3 b s c) = rowsOf x a b (ValueIdx.ix2 s c.succ) := by
  show outPos (slab (asRow x) b) (slab (asCol x) b) (slab (asCol (xs a)) b) (slab (asCol (ys a)) b) (slab (asRow (xs a)) b) (slab (asRow (ys a)) b) (ValueIdx.ix3 0 s c) = _
  unfold outPos
  rw [choice_eq]
  exact (columns_apply (rowsOf x a b) s c).2

open Classical in
/-- The scores agree. -/
theorem val_same (hx : ∀ b, Antitone (line x b)) : valOf x a = plainVal x a := by
  funext i
  obtain ⟨b, s, rfl⟩ : ∃ (b : Fin 4) (s : Fin 512), i = ValueIdx.ix2 b s := ⟨i 0, i 1, ValueIdx.eq_ix2 i⟩
  refine (valOf_rows x a b s).trans ?_
  refine (picked_apply x a b (hx b) _ _ _ s 0).trans ?_
  unfold plainVal
  refine Eq.trans ?_ (firsts_apply (plainScores x a) b s).1.symm
  rw [plainScores_apply]
  show _ = zeroed (chosen x a b) (line x b) (listed x a b s)
  unfold zeroed
  exact if_congr Iff.rfl (column_apply x b _).1 rfl

open Classical in
/-- The positions agree. -/
theorem pos_same (hx : ∀ b, Antitone (line x b)) : posOf x a = plainPos x a := by
  funext i
  obtain ⟨b, s, c, rfl⟩ : ∃ (b : Fin 4) (s : Fin 512) (c : Fin 2), i = ValueIdx.ix3 b s c := ⟨i 0, i 1, i 2, ValueIdx.eq_ix3 i⟩
  refine (posOf_rows x a b s c).trans ?_
  refine (picked_apply x a b (hx b) _ _ _ s c.succ).trans ?_
  unfold plainPos
  refine Eq.trans ?_ (masked_apply _ _ b s c).symm
  rw [(firsts_apply (plainScores x a) b s).1,
    takePairs_apply _ _ (fun b s => named (line (plainScores x a) b) s) (slots_apply (plainScores x a)) b s c, plainScores_apply]
  refine if_congr (zeroed_pos (chosen_pos x a b) (listed x a b s)).symm ?_ rfl
  show _ = pairs (xs a) (ys a) (ValueIdx.ix3 b (listed x a b s) c)
  match c with
  | 0 => exact (column_apply (xs a) b _).2.1.trans (pairs_apply (xs a) (ys a) b _).1.symm
  | 1 => exact (column_apply (ys a) b _).2.2.trans (pairs_apply (xs a) (ys a) b _).2.symm

end Cert.Proof.Nms
-- ==== Proof.Nms.Final.lean ====
/-
  The claims of the suppression kernel: its frame, the plain suppression's, and that both list the same positions and the
  same scores, where the values of every image never rise.
-/
module

public import proofs.«01_k».proof.Defs
public import proofs.«01_k».proof.Proof.Gen.Pre_descending
public import proofs.«01_k».proof.Proof.Nms.Same

@[expose] public section

noncomputable section

namespace Cert.Proof.Nms

open Idealize.ShloMosaic
open Idealize.ShloMosaic.TcCoe
open Idealize.SL.Sem

open Cert.Pre_descending in
/-- What the precondition says: every value is at least the next of its image. -/
theorem steps_of_pre {x : FVec Ideal S4x2048 .f32} {a : IVec S4x2048 32} (h : Cert.Pre_descending.fn (F := Ideal) x a = fun _ => 1#1)
    (b : Fin 4) (j : Fin 2047) : line x b j.succ ≤ line x b j.castSucc := by
  have h0 := congrFun h (fun i => i.elim0)
  unfold Cert.Pre_descending.fn at h0
  have h1 := Host.reduce_andi_all _ _ _ _ _ h0 (ValueIdx.ix2 b j)
  have h2 := (Ideal.cmp_oge_eq_one _ _).1 h1
  have e0 : extractStridedSlice S4x2047 ![0, 0] x Facts.slices_S4x2048_S4x2047_0_0 (ValueIdx.ix2 b j) = line x b j.castSucc := by
    refine congrArg x (funext fun k => ?_)
    match k with
    | ⟨0, _⟩ => exact Fin.ext (Nat.zero_add _)
    | ⟨1, _⟩ => exact Fin.ext (Nat.zero_add _)
  have e1 : extractStridedSlice S4x2047 ![0, 1] x Facts.slices_S4x2048_S4x2047_0_1 (ValueIdx.ix2 b j) = line x b j.succ := by
    refine congrArg x (funext fun k => ?_)
    match k with
    | ⟨0, _⟩ => exact Fin.ext (Nat.zero_add _)
    | ⟨1, _⟩ => exact Fin.ext (Nat.add_comm _ _)
  rw [← e0, ← e1]
  exact h2

open Cert.Pre_descending in
/-- The values of an image never rise. -/
theorem antitone_of_pre {x : FVec Ideal S4x2048 .f32} {a : IVec S4x2048 32} (h : Cert.Pre_descending.fn (F := Ideal) x a = fun _ => 1#1)
    (b : Fin 4) : Antitone (line x b) :=
  Fin.antitone_iff_succ_le.2 (steps_of_pre h b)

/-- The suppression kernel's frame. -/
theorem frame_select : Cert.quiescent_SelectIdeal := fun m g _ =>
  (θ_run Cert.SelectIdeal.defs _ _).mono (fun _ hr => ⟨fun c => (hr.1 c).2.2, hr.2⟩) (run_read m g)

/-- The plain suppression's frame: it is a list of host operations and has no semaphore. -/
theorem frame_select_reference : Cert.quiescent_SelectReferenceIdeal := fun m g _ =>
  (θ_run Cert.SelectReferenceIdeal.defs _ _).mono
    (fun r hr => ⟨fun c => (hr c).2.2, sem_eq_zero_of_no_sems (by decide) r.2⟩) (run_plain m g)

/-- The two frames under the precondition. -/
theorem frame_select_descending : Cert.quiescent_SelectIdeal_pre_descending := fun m g _ => frame_select m g trivial

theorem frame_select_reference_descending : Cert.quiescent_SelectReferenceIdeal_pre_descending := fun m g _ => frame_select_reference m g trivial

/-- The suppression kernel and the plain suppression list the same positions and scores. -/
theorem algebraic_select : Cert.algebraic_SelectIdeal_SelectReferenceIdeal_pre_descending := by
  intro m g m' g' hpre hargs
  refine ⟨fun c => posOf (m ((c.tc : Thread Cert.SelectIdeal.nD Cert.SelectIdeal.τ).loc Cert.SelectIdeal.main_arg0)) (m ((c.tc : Thread Cert.SelectIdeal.nD Cert.SelectIdeal.τ).loc Cert.SelectIdeal.main_arg1)),
    fun c => valOf (m ((c.tc : Thread Cert.SelectIdeal.nD Cert.SelectIdeal.τ).loc Cert.SelectIdeal.main_arg0)) (m ((c.tc : Thread Cert.SelectIdeal.nD Cert.SelectIdeal.τ).loc Cert.SelectIdeal.main_arg1)), ?_, ?_⟩
  · exact (θ_run Cert.SelectIdeal.defs _ _).mono (fun _ hr c => hr.1 c) (run_read m g)
  · refine (θ_run Cert.SelectReferenceIdeal.defs _ _).mono (fun r hr c => ?_) (run_plain m' g')
    obtain ⟨r1, r2, r3, r4⟩ := hr c
    rw [(hargs c).1, (hargs c).2] at r1 r2
    have hx := antitone_of_pre (hpre c)
    exact ⟨r1.trans (pos_same _ _ hx).symm, r2.trans (val_same _ _ hx).symm, r3, r4⟩

end Cert.Proof.Nms
-- ==== Proof.lean ====
/-
  The claim, assembled.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.SelectIdeal
public import proofs.«01_k».proof.Proof.Gen.SelectIdeal.Skeleton
public import proofs.«01_k».proof.Proof.Gen.SelectReferenceIdeal
public import proofs.«01_k».proof.Proof.Gen.SelectReferenceIdeal.Run
public import proofs.«01_k».proof.Proof.Gen.Pre_descending
public import proofs.«01_k».proof.Proof.Gen.Pre_fits
public import proofs.«01_k».proof.Proof.Gen.Pre_fits_unmasked
public import proofs.«01_k».proof.Proof.Algebraic
public import proofs.«01_k».proof.Proof.Nms.Final
public import Idealize.ShloMosaic.Adequacy
public import Idealize.ShloMosaic.Init

@[expose] public section

noncomputable section

namespace Cert.Proof

open Idealize.ShloMosaic Idealize.SL.Sem Cert.Kernel

/-- The frames of the extraction, of its ideal program and of its reference, and of the suppression kernel and the plain
    suppression over the extended reals; and that each kernel and its reference compute the same over the extended reals. -/
theorem claim : Cert.Claim :=
  ⟨inferInstance, inferInstance, inferInstance, inferInstance, inferInstance, inferInstance, inferInstance, inferInstance,
    frame_kernel, frame_ideal, frame_ideal_unmasked, frame_reference, frame_reference_unmasked,
    Nms.frame_select, Nms.frame_select_descending, Nms.frame_select_reference, Nms.frame_select_reference_descending, trivial, algebraic, Nms.algebraic_select⟩

end Cert.Proof

end
